-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S8192x4096 : Shape := ⟨2, ![8192, 4096]⟩
abbrev S16x15 : Shape := ⟨2, ![16, 15]⟩
abbrev S512x4096 : Shape := ⟨2, ![512, 4096]⟩
abbrev S16x512x512 : Shape := ⟨3, ![16, 512, 512]⟩
abbrev S2x512x4096 : Shape := ⟨3, ![2, 512, 4096]⟩
abbrev S16 : Shape := ⟨1, ![16]⟩
abbrev S2 : Shape := ⟨1, ![2]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x512x4096 : Shape := ⟨3, ![1, 512, 4096]⟩
abbrev S1x1 : Shape := ⟨2, ![1, 1]⟩

abbrev nBuf : Space → Nat
  | .hbm => 4
  | .vmem => 4
  | .smem => 1
  | _ => 0

abbrev bufTy : (tb : Table) → Fin (tcTables nBuf tb) → BufTy
  | .hbm, ⟨0, _⟩ => ⟨S8192x512, .bf16⟩
  | .hbm, ⟨1, _⟩ => ⟨S8192x4096, .f32⟩
  | .hbm, ⟨2, _⟩ => ⟨S16x15, .i32⟩
  | .hbm, ⟨3, _⟩ => ⟨S512x4096, .f32⟩
  | .local _ .vmem, ⟨0, _⟩ => ⟨S8192x512, .bf16⟩
  | .local _ .vmem, ⟨1, _⟩ => ⟨S512x4096, .f32⟩
  | .local _ .vmem, ⟨2, _⟩ => ⟨S16x512x512, .bf16⟩
  | .local _ .vmem, ⟨3, _⟩ => ⟨S2x512x4096, .f32⟩
  | .local _ .smem, ⟨0, _⟩ => ⟨S16x15, .i32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_61 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v64 : BitVec 32 := Scalar.addi v2 c1_i32_61
  let c16_i32_62 : BitVec 32 := 16#32
  let v65 : BitVec 32 := Scalar.remsi v64 c16_i32_62
  let c512_i32 : BitVec 32 := 512#32
  let v66 : BitVec 32 := Scalar.muli v65 c512_i32
  let c0_i32_70 : BitVec 32 := 0#32
  ![v66.toNat, 0]
def k0_dev16 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_61 : BitVec 32 := 1#32
  let v64 : BitVec 32 := Scalar.addi v2 c1_i32_61
  let c16_i32_62 : BitVec 32 := 16#32
  let v65 : BitVec 32 := Scalar.remsi v64 c16_i32_62
  let c1_i32_66 : BitVec 32 := 1#32
  let v67 : BitVec 32 := Scalar.muli v65 c1_i32_66
  let v68 : BitVec 32 := Scalar.addi c0_i32_67 v67
  v68.toNat
def k0_dev17 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_71 : BitVec 32 := 2#32
  let v76 : BitVec 32 := Scalar.addi v2 c2_i32_71
  let c16_i32_72 : BitVec 32 := 16#32
  let v77 : BitVec 32 := Scalar.remsi v76 c16_i32_72
  let c1_i32_77 : BitVec 32 := 1#32
  let v79 : BitVec 32 := Scalar.muli v77 c1_i32_77
  let v80 : BitVec 32 := Scalar.addi c0_i32_78 v79
  v80.toNat
def k0_dev18 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_82 : BitVec 32 := 3#32
  let v88 : BitVec 32 := Scalar.addi v2 c3_i32_82
  let c16_i32_83 : BitVec 32 := 16#32
  let v89 : BitVec 32 := Scalar.remsi v88 c16_i32_83
  let c1_i32_88 : BitVec 32 := 1#32
  let v91 : BitVec 32 := Scalar.muli v89 c1_i32_88
  let v92 : BitVec 32 := Scalar.addi c0_i32_89 v91
  v92.toNat
def k0_dev19 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_93 : BitVec 32 := 4#32
  let v100 : BitVec 32 := Scalar.addi v2 c4_i32_93
  let c16_i32_94 : BitVec 32 := 16#32
  let v101 : BitVec 32 := Scalar.remsi v100 c16_i32_94
  let c1_i32_99 : BitVec 32 := 1#32
  let v103 : BitVec 32 := Scalar.muli v101 c1_i32_99
  let v104 : BitVec 32 := Scalar.addi c0_i32_100 v103
  v104.toNat
def k0_dev20 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_104 : BitVec 32 := 5#32
  let v112 : BitVec 32 := Scalar.addi v2 c5_i32_104
  let c16_i32_105 : BitVec 32 := 16#32
  let v113 : BitVec 32 := Scalar.remsi v112 c16_i32_105
  let c1_i32_110 : BitVec 32 := 1#32
  let v115 : BitVec 32 := Scalar.muli v113 c1_i32_110
  let v116 : BitVec 32 := Scalar.addi c0_i32_111 v115
  v116.toNat
def k0_dev21 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_115 : BitVec 32 := 6#32
  let v124 : BitVec 32 := Scalar.addi v2 c6_i32_115
  let c16_i32_116 : BitVec 32 := 16#32
  let v125 : BitVec 32 := Scalar.remsi v124 c16_i32_116
  let c1_i32_121 : BitVec 32 := 1#32
  let v127 : BitVec 32 := Scalar.muli v125 c1_i32_121
  let v128 : BitVec 32 := Scalar.addi c0_i32_122 v127
  v128.toNat
def k0_dev22 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_126 : BitVec 32 := 7#32
  let v136 : BitVec 32 := Scalar.addi v2 c7_i32_126
  let c16_i32_127 : BitVec 32 := 16#32
  let v137 : BitVec 32 := Scalar.remsi v136 c16_i32_127
  let c1_i32_132 : BitVec 32 := 1#32
  let v139 : BitVec 32 := Scalar.muli v137 c1_i32_132
  let v140 : BitVec 32 := Scalar.addi c0_i32_133 v139
  v140.toNat
def k0_dev23 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_137 : BitVec 32 := 8#32
  let v148 : BitVec 32 := Scalar.addi v2 c8_i32_137
  let c16_i32_138 : BitVec 32 := 16#32
  let v149 : BitVec 32 := Scalar.remsi v148 c16_i32_138
  let c1_i32_143 : BitVec 32 := 1#32
  let v151 : BitVec 32 := Scalar.muli v149 c1_i32_143
  let v152 : BitVec 32 := Scalar.addi c0_i32_144 v151
  v152.toNat
def k0_dev24 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_148 : BitVec 32 := 9#32
  let v160 : BitVec 32 := Scalar.addi v2 c9_i32_148
  let c16_i32_149 : BitVec 32 := 16#32
  let v161 : BitVec 32 := Scalar.remsi v160 c16_i32_149
  let c1_i32_154 : BitVec 32 := 1#32
  let v163 : BitVec 32 := Scalar.muli v161 c1_i32_154
  let v164 : BitVec 32 := Scalar.addi c0_i32_155 v163
  v164.toNat
def k0_dev25 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_159 : BitVec 32 := 10#32
  let v172 : BitVec 32 := Scalar.addi v2 c10_i32_159
  let c16_i32_160 : BitVec 32 := 16#32
  let v173 : BitVec 32 := Scalar.remsi v172 c16_i32_160
  let c1_i32_165 : BitVec 32 := 1#32
  let v175 : BitVec 32 := Scalar.muli v173 c1_i32_165
  let v176 : BitVec 32 := Scalar.addi c0_i32_166 v175
  v176.toNat
def k0_dev26 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_170 : BitVec 32 := 11#32
  let v184 : BitVec 32 := Scalar.addi v2 c11_i32_170
  let c16_i32_171 : BitVec 32 := 16#32
  let v185 : BitVec 32 := Scalar.remsi v184 c16_i32_171
  let c1_i32_176 : BitVec 32 := 1#32
  let v187 : BitVec 32 := Scalar.muli v185 c1_i32_176
  let v188 : BitVec 32 := Scalar.addi c0_i32_177 v187
  v188.toNat
def k0_dev27 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_181 : BitVec 32 := 12#32
  let v196 : BitVec 32 := Scalar.addi v2 c12_i32_181
  let c16_i32_182 : BitVec 32 := 16#32
  let v197 : BitVec 32 := Scalar.remsi v196 c16_i32_182
  let c1_i32_187 : BitVec 32 := 1#32
  let v199 : BitVec 32 := Scalar.muli v197 c1_i32_187
  let v200 : BitVec 32 := Scalar.addi c0_i32_188 v199
  v200.toNat
def k0_dev28 (d0 : Dev nD) : Nat :=
  let c0_i32_199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_192 : BitVec 32 := 13#32
  let v208 : BitVec 32 := Scalar.addi v2 c13_i32_192
  let c16_i32_193 : BitVec 32 := 16#32
  let v209 : BitVec 32 := Scalar.remsi v208 c16_i32_193
  let c1_i32_198 : BitVec 32 := 1#32
  let v211 : BitVec 32 := Scalar.muli v209 c1_i32_198
  let v212 : BitVec 32 := Scalar.addi c0_i32_199 v211
  v212.toNat
def k0_dev29 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_203 : BitVec 32 := 14#32
  let v220 : BitVec 32 := Scalar.addi v2 c14_i32_203
  let c16_i32_204 : BitVec 32 := 16#32
  let v221 : BitVec 32 := Scalar.remsi v220 c16_i32_204
  let c1_i32_209 : BitVec 32 := 1#32
  let v223 : BitVec 32 := Scalar.muli v221 c1_i32_209
  let v224 : BitVec 32 := Scalar.addi c0_i32_210 v223
  v224.toNat
def k0_dev30 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_214 : BitVec 32 := 15#32
  let v232 : BitVec 32 := Scalar.addi v2 c15_i32_214
  let c16_i32_215 : BitVec 32 := 16#32
  let v233 : BitVec 32 := Scalar.remsi v232 c16_i32_215
  let c1_i32_220 : BitVec 32 := 1#32
  let v235 : BitVec 32 := Scalar.muli v233 c1_i32_220
  let v236 : BitVec 32 := Scalar.addi c0_i32_221 v235
  v236.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_225 : BitVec 32 := 512#32
  let v244 : BitVec 32 := Scalar.muli v2 c512_i32_225
  let v245 : Index := Scalar.indexCast v244
  let c0 : Index := 0#32
  ![v245.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_229 : BitVec 32 := 512#32
  let v251 : BitVec 32 := Scalar.muli v2 c512_i32_229
  let c0_i32_230 : BitVec 32 := 0#32
  let v252 : BitVec 32 := Scalar.addi v251 c0_i32_230
  let c0_i32_235 : BitVec 32 := 0#32
  ![v252.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v258 : Index := Scalar.indexCast v2
  let c0_236 : Index := 0#32
  ![v258.toNat, 0]
def k0_off5 (d0 : Dev nD) (v259 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v260 : BitVec 32 := Scalar.subi v2 v259
  let c16_i32_237 : BitVec 32 := 16#32
  let v261 : BitVec 32 := Scalar.addi v260 c16_i32_237
  let c16_i32_238 : BitVec 32 := 16#32
  let v262 : BitVec 32 := Scalar.remsi v261 c16_i32_238
  let c512_i32_239 : BitVec 32 := 512#32
  let v263 : BitVec 32 := Scalar.muli v262 c512_i32_239
  let c0_i32_240 : BitVec 32 := 0#32
  let v264 : BitVec 32 := Scalar.addi v263 c0_i32_240
  let c0_i32_245 : BitVec 32 := 0#32
  ![v264.toNat, 0]

def k0_chk1 (d0 : Dev nD) (v259 : BitVec 32) : Prop :=
  (∀ a, (k0_off5 d0 v259) a + S512x4096.size a ≤ S8192x4096.size a)
theorem k0_off5_inb : ∀ (d0 : Dev nD) (v259 : BitVec 32) (k0_hw1 : k0_chk1 d0 v259), ∀ a, (k0_off5 d0 v259) a + S512x4096.size a ≤ S8192x4096.size a := fun d0 v259 k0_hw1 => k0_hw1

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_246 : BitVec 32 := 512#32
  let v270 : BitVec 32 := Scalar.muli v2 c512_i32_246
  let c0_i32_247 : BitVec 32 := 0#32
  let v271 : BitVec 32 := Scalar.addi v270 c0_i32_247
  let c0_i32_252 : BitVec 32 := 0#32
  ![v271.toNat, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v284 : Index := Scalar.indexCast v2
  let c1 : Index := 1#32
  ![v284.toNat, 1]
def k0_off8 (d0 : Dev nD) (v285 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v286 : BitVec 32 := Scalar.subi v2 v285
  let c16_i32_261 : BitVec 32 := 16#32
  let v287 : BitVec 32 := Scalar.addi v286 c16_i32_261
  let c16_i32_262 : BitVec 32 := 16#32
  let v288 : BitVec 32 := Scalar.remsi v287 c16_i32_262
  let c512_i32_263 : BitVec 32 := 512#32
  let v289 : BitVec 32 := Scalar.muli v288 c512_i32_263
  let c0_i32_264 : BitVec 32 := 0#32
  let v290 : BitVec 32 := Scalar.addi v289 c0_i32_264
  let c0_i32_269 : BitVec 32 := 0#32
  ![v290.toNat, 0]

def k0_chk2 (d0 : Dev nD) (v285 : BitVec 32) : Prop :=
  (∀ a, (k0_off8 d0 v285) a + S512x4096.size a ≤ S8192x4096.size a)
theorem k0_off8_inb : ∀ (d0 : Dev nD) (v285 : BitVec 32) (k0_hw2 : k0_chk2 d0 v285), ∀ a, (k0_off8 d0 v285) a + S512x4096.size a ≤ S8192x4096.size a := fun d0 v285 k0_hw2 => k0_hw2

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v296 : Index := Scalar.indexCast v2
  let c0_270 : Index := 0#32
  ![v296.toNat, 0]
def k0_off10 (v297 : BitVec 32) : Fin 1 → Nat :=
  ![v297.toNat]

def k0_off11 (v297 : BitVec 32) : Fin 3 → Nat :=
  let c0_i32_275 : BitVec 32 := 0#32
  let c0_i32_276 : BitVec 32 := 0#32
  ![v297.toNat, 0, 0]
def k0_off12 (d0 : Dev nD) (v297 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v298 : BitVec 32 := Scalar.addi v2 v297
  let c16_i32_271 : BitVec 32 := 16#32
  let v299 : BitVec 32 := Scalar.remsi v298 c16_i32_271
  let c512_i32_272 : BitVec 32 := 512#32
  let v300 : BitVec 32 := Scalar.muli v299 c512_i32_272
  let c0_i32_277 : BitVec 32 := 0#32
  ![v300.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v308 : Index := Scalar.indexCast v2
  let c0_278 : Index := 0#32
  ![v308.toNat, 0]
def k0_off14 (d0 : Dev nD) (v309 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v310 : BitVec 32 := Scalar.subi v2 v309
  let c16_i32_279 : BitVec 32 := 16#32
  let v311 : BitVec 32 := Scalar.addi v310 c16_i32_279
  let c16_i32_280 : BitVec 32 := 16#32
  let v312 : BitVec 32 := Scalar.remsi v311 c16_i32_280
  let c512_i32_281 : BitVec 32 := 512#32
  let v313 : BitVec 32 := Scalar.muli v312 c512_i32_281
  let c0_i32_282 : BitVec 32 := 0#32
  let v314 : BitVec 32 := Scalar.addi v313 c0_i32_282
  let c0_i32_287 : BitVec 32 := 0#32
  ![v314.toNat, 0]

def k0_chk4 (d0 : Dev nD) (v309 : BitVec 32) : Prop :=
  (∀ a, (k0_off14 d0 v309) a + S512x4096.size a ≤ S8192x4096.size a)
theorem k0_off14_inb : ∀ (d0 : Dev nD) (v309 : BitVec 32) (k0_hw4 : k0_chk4 d0 v309), ∀ a, (k0_off14 d0 v309) a + S512x4096.size a ≤ S8192x4096.size a := fun d0 v309 k0_hw4 => k0_hw4

def k0_off15 (v297 : BitVec 32) : Fin 3 → Nat :=
  let v323 : Index := Scalar.indexCast v297
  let c0_291 : Index := 0#32
  let c0_292 : Index := 0#32
  ![v323.toNat, 0, 0]

def k0_chk3 (d0 : Dev nD) (v297 : BitVec 32) : Prop :=
  (∀ a, (k0_off10 v297) a + S1.size a ≤ S16.size a) ∧
  (∀ a, (k0_off11 v297) a + S1x512x512.size a ≤ S16x512x512.size a) ∧
  (∀ a, (k0_off12 d0 v297) a + S512x512.size a ≤ S8192x512.size a) ∧
  (∀ (hinb : ∀ a, (k0_off12 d0 v297) a + S512x512.size a ≤ S8192x512.size a), (Rect.unit (s := S8192x512) (k0_off12 d0 v297) S512x512.size hinb).WholeWords (EltTy.packing .bf16)) ∧
  (∀ (hinb : ∀ a, (k0_off11 v297) a + S1x512x512.size a ≤ S16x512x512.size a), (Rect.unit (s := S16x512x512) (k0_off11 v297) S1x512x512.size hinb).WholeWords (EltTy.packing .bf16)) ∧
  (∀ a, (k0_off15 v297) a + S1x512x512.size a ≤ S16x512x512.size a)
theorem k0_off10_inb : ∀ (d0 : Dev nD) (v297 : BitVec 32) (k0_hw3 : k0_chk3 d0 v297), ∀ a, (k0_off10 v297) a + S1.size a ≤ S16.size a := fun d0 v297 k0_hw3 => k0_hw3.1
theorem k0_off11_inb : ∀ (d0 : Dev nD) (v297 : BitVec 32) (k0_hw3 : k0_chk3 d0 v297), ∀ a, (k0_off11 v297) a + S1x512x512.size a ≤ S16x512x512.size a := fun d0 v297 k0_hw3 => k0_hw3.2.1
theorem k0_off12_inb : ∀ (d0 : Dev nD) (v297 : BitVec 32) (k0_hw3 : k0_chk3 d0 v297), ∀ a, (k0_off12 d0 v297) a + S512x512.size a ≤ S8192x512.size a := fun d0 v297 k0_hw3 => k0_hw3.2.2.1
theorem k0_off12_wordsbf16 : ∀ (d0 : Dev nD) (v297 : BitVec 32) (k0_hw3 : k0_chk3 d0 v297), (Rect.unit (s := S8192x512) (k0_off12 d0 v297) S512x512.size (k0_off12_inb d0 v297 k0_hw3)).WholeWords (EltTy.packing .bf16) := fun d0 v297 k0_hw3 => k0_hw3.2.2.2.1 (k0_off12_inb d0 v297 k0_hw3)
theorem k0_off11_wordsbf16 : ∀ (d0 : Dev nD) (v297 : BitVec 32) (k0_hw3 : k0_chk3 d0 v297), (Rect.unit (s := S16x512x512) (k0_off11 v297) S1x512x512.size (k0_off11_inb d0 v297 k0_hw3)).WholeWords (EltTy.packing .bf16) := fun d0 v297 k0_hw3 => k0_hw3.2.2.2.2.1 (k0_off11_inb d0 v297 k0_hw3)
theorem k0_off15_inb : ∀ (d0 : Dev nD) (v297 : BitVec 32) (k0_hw3 : k0_chk3 d0 v297), ∀ a, (k0_off15 v297) a + S1x512x512.size a ≤ S16x512x512.size a := fun d0 v297 k0_hw3 => k0_hw3.2.2.2.2.2

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v331 : Index := Scalar.indexCast v2
  let c2 : Index := 2#32
  ![v331.toNat, 2]
def k0_off17 (d0 : Dev nD) (v332 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v333 : BitVec 32 := Scalar.subi v2 v332
  let c16_i32_298 : BitVec 32 := 16#32
  let v334 : BitVec 32 := Scalar.addi v333 c16_i32_298
  let c16_i32_299 : BitVec 32 := 16#32
  let v335 : BitVec 32 := Scalar.remsi v334 c16_i32_299
  let c512_i32_300 : BitVec 32 := 512#32
  let v336 : BitVec 32 := Scalar.muli v335 c512_i32_300
  let c0_i32_301 : BitVec 32 := 0#32
  let v337 : BitVec 32 := Scalar.addi v336 c0_i32_301
  let c0_i32_306 : BitVec 32 := 0#32
  ![v337.toNat, 0]

def k0_chk5 (d0 : Dev nD) (v332 : BitVec 32) : Prop :=
  (∀ a, (k0_off17 d0 v332) a + S512x4096.size a ≤ S8192x4096.size a)
theorem k0_off17_inb : ∀ (d0 : Dev nD) (v332 : BitVec 32) (k0_hw5 : k0_chk5 d0 v332), ∀ a, (k0_off17 d0 v332) a + S512x4096.size a ≤ S8192x4096.size a := fun d0 v332 k0_hw5 => k0_hw5

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : Index := Scalar.indexCast v2
  let c1_307 : Index := 1#32
  ![v343.toNat, 1]
def k0_off19 (v344 : BitVec 32) : Fin 1 → Nat :=
  ![v344.toNat]

def k0_off20 (v344 : BitVec 32) : Fin 3 → Nat :=
  let c0_i32_312 : BitVec 32 := 0#32
  let c0_i32_313 : BitVec 32 := 0#32
  ![v344.toNat, 0, 0]
def k0_off21 (d0 : Dev nD) (v344 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v345 : BitVec 32 := Scalar.addi v2 v344
  let c16_i32_308 : BitVec 32 := 16#32
  let v346 : BitVec 32 := Scalar.remsi v345 c16_i32_308
  let c512_i32_309 : BitVec 32 := 512#32
  let v347 : BitVec 32 := Scalar.muli v346 c512_i32_309
  let c0_i32_314 : BitVec 32 := 0#32
  ![v347.toNat, 0]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v355 : Index := Scalar.indexCast v2
  let c1_315 : Index := 1#32
  ![v355.toNat, 1]
def k0_off23 (d0 : Dev nD) (v356 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v357 : BitVec 32 := Scalar.subi v2 v356
  let c16_i32_316 : BitVec 32 := 16#32
  let v358 : BitVec 32 := Scalar.addi v357 c16_i32_316
  let c16_i32_317 : BitVec 32 := 16#32
  let v359 : BitVec 32 := Scalar.remsi v358 c16_i32_317
  let c512_i32_318 : BitVec 32 := 512#32
  let v360 : BitVec 32 := Scalar.muli v359 c512_i32_318
  let c0_i32_319 : BitVec 32 := 0#32
  let v361 : BitVec 32 := Scalar.addi v360 c0_i32_319
  let c0_i32_324 : BitVec 32 := 0#32
  ![v361.toNat, 0]

def k0_chk7 (d0 : Dev nD) (v356 : BitVec 32) : Prop :=
  (∀ a, (k0_off23 d0 v356) a + S512x4096.size a ≤ S8192x4096.size a)
theorem k0_off23_inb : ∀ (d0 : Dev nD) (v356 : BitVec 32) (k0_hw7 : k0_chk7 d0 v356), ∀ a, (k0_off23 d0 v356) a + S512x4096.size a ≤ S8192x4096.size a := fun d0 v356 k0_hw7 => k0_hw7

def k0_off24 (v344 : BitVec 32) : Fin 3 → Nat :=
  let v370 : Index := Scalar.indexCast v344
  let c0_328 : Index := 0#32
  let c0_329 : Index := 0#32
  ![v370.toNat, 0, 0]

def k0_chk6 (d0 : Dev nD) (v344 : BitVec 32) : Prop :=
  (∀ a, (k0_off19 v344) a + S1.size a ≤ S16.size a) ∧
  (∀ a, (k0_off20 v344) a + S1x512x512.size a ≤ S16x512x512.size a) ∧
  (∀ a, (k0_off21 d0 v344) a + S512x512.size a ≤ S8192x512.size a) ∧
  (∀ (hinb : ∀ a, (k0_off21 d0 v344) a + S512x512.size a ≤ S8192x512.size a), (Rect.unit (s := S8192x512) (k0_off21 d0 v344) S512x512.size hinb).WholeWords (EltTy.packing .bf16)) ∧
  (∀ (hinb : ∀ a, (k0_off20 v344) a + S1x512x512.size a ≤ S16x512x512.size a), (Rect.unit (s := S16x512x512) (k0_off20 v344) S1x512x512.size hinb).WholeWords (EltTy.packing .bf16)) ∧
  (∀ a, (k0_off24 v344) a + S1x512x512.size a ≤ S16x512x512.size a)
theorem k0_off19_inb : ∀ (d0 : Dev nD) (v344 : BitVec 32) (k0_hw6 : k0_chk6 d0 v344), ∀ a, (k0_off19 v344) a + S1.size a ≤ S16.size a := fun d0 v344 k0_hw6 => k0_hw6.1
theorem k0_off20_inb : ∀ (d0 : Dev nD) (v344 : BitVec 32) (k0_hw6 : k0_chk6 d0 v344), ∀ a, (k0_off20 v344) a + S1x512x512.size a ≤ S16x512x512.size a := fun d0 v344 k0_hw6 => k0_hw6.2.1
theorem k0_off21_inb : ∀ (d0 : Dev nD) (v344 : BitVec 32) (k0_hw6 : k0_chk6 d0 v344), ∀ a, (k0_off21 d0 v344) a + S512x512.size a ≤ S8192x512.size a := fun d0 v344 k0_hw6 => k0_hw6.2.2.1
theorem k0_off21_wordsbf16 : ∀ (d0 : Dev nD) (v344 : BitVec 32) (k0_hw6 : k0_chk6 d0 v344), (Rect.unit (s := S8192x512) (k0_off21 d0 v344) S512x512.size (k0_off21_inb d0 v344 k0_hw6)).WholeWords (EltTy.packing .bf16) := fun d0 v344 k0_hw6 => k0_hw6.2.2.2.1 (k0_off21_inb d0 v344 k0_hw6)
theorem k0_off20_wordsbf16 : ∀ (d0 : Dev nD) (v344 : BitVec 32) (k0_hw6 : k0_chk6 d0 v344), (Rect.unit (s := S16x512x512) (k0_off20 v344) S1x512x512.size (k0_off20_inb d0 v344 k0_hw6)).WholeWords (EltTy.packing .bf16) := fun d0 v344 k0_hw6 => k0_hw6.2.2.2.2.1 (k0_off20_inb d0 v344 k0_hw6)
theorem k0_off24_inb : ∀ (d0 : Dev nD) (v344 : BitVec 32) (k0_hw6 : k0_chk6 d0 v344), ∀ a, (k0_off24 v344) a + S1x512x512.size a ≤ S16x512x512.size a := fun d0 v344 k0_hw6 => k0_hw6.2.2.2.2.2

def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v378 : Index := Scalar.indexCast v2
  let c3 : Index := 3#32
  ![v378.toNat, 3]
def k0_off26 (d0 : Dev nD) (v379 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v380 : BitVec 32 := Scalar.subi v2 v379
  let c16_i32_335 : BitVec 32 := 16#32
  let v381 : BitVec 32 := Scalar.addi v380 c16_i32_335
  let c16_i32_336 : BitVec 32 := 16#32
  let v382 : BitVec 32 := Scalar.remsi v381 c16_i32_336
  let c512_i32_337 : BitVec 32 := 512#32
  let v383 : BitVec 32 := Scalar.muli v382 c512_i32_337
  let c0_i32_338 : BitVec 32 := 0#32
  let v384 : BitVec 32 := Scalar.addi v383 c0_i32_338
  let c0_i32_343 : BitVec 32 := 0#32
  ![v384.toNat, 0]

def k0_chk8 (d0 : Dev nD) (v379 : BitVec 32) : Prop :=
  (∀ a, (k0_off26 d0 v379) a + S512x4096.size a ≤ S8192x4096.size a)
theorem k0_off26_inb : ∀ (d0 : Dev nD) (v379 : BitVec 32) (k0_hw8 : k0_chk8 d0 v379), ∀ a, (k0_off26 d0 v379) a + S512x4096.size a ≤ S8192x4096.size a := fun d0 v379 k0_hw8 => k0_hw8

def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v390 : Index := Scalar.indexCast v2
  let c2_344 : Index := 2#32
  ![v390.toNat, 2]
def k0_off28 (v391 : BitVec 32) : Fin 1 → Nat :=
  ![v391.toNat]

def k0_off29 (v391 : BitVec 32) : Fin 3 → Nat :=
  let c0_i32_349 : BitVec 32 := 0#32
  let c0_i32_350 : BitVec 32 := 0#32
  ![v391.toNat, 0, 0]
def k0_off30 (d0 : Dev nD) (v391 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v392 : BitVec 32 := Scalar.addi v2 v391
  let c16_i32_345 : BitVec 32 := 16#32
  let v393 : BitVec 32 := Scalar.remsi v392 c16_i32_345
  let c512_i32_346 : BitVec 32 := 512#32
  let v394 : BitVec 32 := Scalar.muli v393 c512_i32_346
  let c0_i32_351 : BitVec 32 := 0#32
  ![v394.toNat, 0]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v402 : Index := Scalar.indexCast v2
  let c2_352 : Index := 2#32
  ![v402.toNat, 2]
def k0_off32 (d0 : Dev nD) (v403 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v404 : BitVec 32 := Scalar.subi v2 v403
  let c16_i32_353 : BitVec 32 := 16#32
  let v405 : BitVec 32 := Scalar.addi v404 c16_i32_353
  let c16_i32_354 : BitVec 32 := 16#32
  let v406 : BitVec 32 := Scalar.remsi v405 c16_i32_354
  let c512_i32_355 : BitVec 32 := 512#32
  let v407 : BitVec 32 := Scalar.muli v406 c512_i32_355
  let c0_i32_356 : BitVec 32 := 0#32
  let v408 : BitVec 32 := Scalar.addi v407 c0_i32_356
  let c0_i32_361 : BitVec 32 := 0#32
  ![v408.toNat, 0]

def k0_chk10 (d0 : Dev nD) (v403 : BitVec 32) : Prop :=
  (∀ a, (k0_off32 d0 v403) a + S512x4096.size a ≤ S8192x4096.size a)
theorem k0_off32_inb : ∀ (d0 : Dev nD) (v403 : BitVec 32) (k0_hw10 : k0_chk10 d0 v403), ∀ a, (k0_off32 d0 v403) a + S512x4096.size a ≤ S8192x4096.size a := fun d0 v403 k0_hw10 => k0_hw10

def k0_off33 (v391 : BitVec 32) : Fin 3 → Nat :=
  let v417 : Index := Scalar.indexCast v391
  let c0_365 : Index := 0#32
  let c0_366 : Index := 0#32
  ![v417.toNat, 0, 0]

def k0_chk9 (d0 : Dev nD) (v391 : BitVec 32) : Prop :=
  (∀ a, (k0_off28 v391) a + S1.size a ≤ S16.size a) ∧
  (∀ a, (k0_off29 v391) a + S1x512x512.size a ≤ S16x512x512.size a) ∧
  (∀ a, (k0_off30 d0 v391) a + S512x512.size a ≤ S8192x512.size a) ∧
  (∀ (hinb : ∀ a, (k0_off30 d0 v391) a + S512x512.size a ≤ S8192x512.size a), (Rect.unit (s := S8192x512) (k0_off30 d0 v391) S512x512.size hinb).WholeWords (EltTy.packing .bf16)) ∧
  (∀ (hinb : ∀ a, (k0_off29 v391) a + S1x512x512.size a ≤ S16x512x512.size a), (Rect.unit (s := S16x512x512) (k0_off29 v391) S1x512x512.size hinb).WholeWords (EltTy.packing .bf16)) ∧
  (∀ a, (k0_off33 v391) a + S1x512x512.size a ≤ S16x512x512.size a)
theorem k0_off28_inb : ∀ (d0 : Dev nD) (v391 : BitVec 32) (k0_hw9 : k0_chk9 d0 v391), ∀ a, (k0_off28 v391) a + S1.size a ≤ S16.size a := fun d0 v391 k0_hw9 => k0_hw9.1
theorem k0_off29_inb : ∀ (d0 : Dev nD) (v391 : BitVec 32) (k0_hw9 : k0_chk9 d0 v391), ∀ a, (k0_off29 v391) a + S1x512x512.size a ≤ S16x512x512.size a := fun d0 v391 k0_hw9 => k0_hw9.2.1
theorem k0_off30_inb : ∀ (d0 : Dev nD) (v391 : BitVec 32) (k0_hw9 : k0_chk9 d0 v391), ∀ a, (k0_off30 d0 v391) a + S512x512.size a ≤ S8192x512.size a := fun d0 v391 k0_hw9 => k0_hw9.2.2.1
theorem k0_off30_wordsbf16 : ∀ (d0 : Dev nD) (v391 : BitVec 32) (k0_hw9 : k0_chk9 d0 v391), (Rect.unit (s := S8192x512) (k0_off30 d0 v391) S512x512.size (k0_off30_inb d0 v391 k0_hw9)).WholeWords (EltTy.packing .bf16) := fun d0 v391 k0_hw9 => k0_hw9.2.2.2.1 (k0_off30_inb d0 v391 k0_hw9)
theorem k0_off29_wordsbf16 : ∀ (d0 : Dev nD) (v391 : BitVec 32) (k0_hw9 : k0_chk9 d0 v391), (Rect.unit (s := S16x512x512) (k0_off29 v391) S1x512x512.size (k0_off29_inb d0 v391 k0_hw9)).WholeWords (EltTy.packing .bf16) := fun d0 v391 k0_hw9 => k0_hw9.2.2.2.2.1 (k0_off29_inb d0 v391 k0_hw9)
theorem k0_off33_inb : ∀ (d0 : Dev nD) (v391 : BitVec 32) (k0_hw9 : k0_chk9 d0 v391), ∀ a, (k0_off33 v391) a + S1x512x512.size a ≤ S16x512x512.size a := fun d0 v391 k0_hw9 => k0_hw9.2.2.2.2.2

def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v425 : Index := Scalar.indexCast v2
  let c4 : Index := 4#32
  ![v425.toNat, 4]
def k0_off35 (d0 : Dev nD) (v426 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v427 : BitVec 32 := Scalar.subi v2 v426
  let c16_i32_372 : BitVec 32 := 16#32
  let v428 : BitVec 32 := Scalar.addi v427 c16_i32_372
  let c16_i32_373 : BitVec 32 := 16#32
  let v429 : BitVec 32 := Scalar.remsi v428 c16_i32_373
  let c512_i32_374 : BitVec 32 := 512#32
  let v430 : BitVec 32 := Scalar.muli v429 c512_i32_374
  let c0_i32_375 : BitVec 32 := 0#32
  let v431 : BitVec 32 := Scalar.addi v430 c0_i32_375
  let c0_i32_380 : BitVec 32 := 0#32
  ![v431.toNat, 0]

def k0_chk11 (d0 : Dev nD) (v426 : BitVec 32) : Prop :=
  (∀ a, (k0_off35 d0 v426) a + S512x4096.size a ≤ S8192x4096.size a)
theorem k0_off35_inb : ∀ (d0 : Dev nD) (v426 : BitVec 32) (k0_hw11 : k0_chk11 d0 v426), ∀ a, (k0_off35 d0 v426) a + S512x4096.size a ≤ S8192x4096.size a := fun d0 v426 k0_hw11 => k0_hw11

def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v437 : Index := Scalar.indexCast v2
  let c3_381 : Index := 3#32
  ![v437.toNat, 3]
def k0_off37 (v438 : BitVec 32) : Fin 1 → Nat :=
  ![v438.toNat]

def k0_off38 (v438 : BitVec 32) : Fin 3 → Nat :=
  let c0_i32_386 : BitVec 32 := 0#32
  let c0_i32_387 : BitVec 32 := 0#32
  ![v438.toNat, 0, 0]
def k0_off39 (d0 : Dev nD) (v438 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v439 : BitVec 32 := Scalar.addi v2 v438
  let c16_i32_382 : BitVec 32 := 16#32
  let v440 : BitVec 32 := Scalar.remsi v439 c16_i32_382
  let c512_i32_383 : BitVec 32 := 512#32
  let v441 : BitVec 32 := Scalar.muli v440 c512_i32_383
  let c0_i32_388 : BitVec 32 := 0#32
  ![v441.toNat, 0]
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v449 : Index := Scalar.indexCast v2
  let c3_389 : Index := 3#32
  ![v449.toNat, 3]
def k0_off41 (d0 : Dev nD) (v450 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v451 : BitVec 32 := Scalar.subi v2 v450
  let c16_i32_390 : BitVec 32 := 16#32
  let v452 : BitVec 32 := Scalar.addi v451 c16_i32_390
  let c16_i32_391 : BitVec 32 := 16#32
  let v453 : BitVec 32 := Scalar.remsi v452 c16_i32_391
  let c512_i32_392 : BitVec 32 := 512#32
  let v454 : BitVec 32 := Scalar.muli v453 c512_i32_392
  let c0_i32_393 : BitVec 32 := 0#32
  let v455 : BitVec 32 := Scalar.addi v454 c0_i32_393
  let c0_i32_398 : BitVec 32 := 0#32
  ![v455.toNat, 0]

def k0_chk13 (d0 : Dev nD) (v450 : BitVec 32) : Prop :=
  (∀ a, (k0_off41 d0 v450) a + S512x4096.size a ≤ S8192x4096.size a)
theorem k0_off41_inb : ∀ (d0 : Dev nD) (v450 : BitVec 32) (k0_hw13 : k0_chk13 d0 v450), ∀ a, (k0_off41 d0 v450) a + S512x4096.size a ≤ S8192x4096.size a := fun d0 v450 k0_hw13 => k0_hw13

def k0_off42 (v438 : BitVec 32) : Fin 3 → Nat :=
  let v464 : Index := Scalar.indexCast v438
  let c0_402 : Index := 0#32
  let c0_403 : Index := 0#32
  ![v464.toNat, 0, 0]

def k0_chk12 (d0 : Dev nD) (v438 : BitVec 32) : Prop :=
  (∀ a, (k0_off37 v438) a + S1.size a ≤ S16.size a) ∧
  (∀ a, (k0_off38 v438) a + S1x512x512.size a ≤ S16x512x512.size a) ∧
  (∀ a, (k0_off39 d0 v438) a + S512x512.size a ≤ S8192x512.size a) ∧
  (∀ (hinb : ∀ a, (k0_off39 d0 v438) a + S512x512.size a ≤ S8192x512.size a), (Rect.unit (s := S8192x512) (k0_off39 d0 v438) S512x512.size hinb).WholeWords (EltTy.packing .bf16)) ∧
  (∀ (hinb : ∀ a, (k0_off38 v438) a + S1x512x512.size a ≤ S16x512x512.size a), (Rect.unit (s := S16x512x512) (k0_off38 v438) S1x512x512.size hinb).WholeWords (EltTy.packing .bf16)) ∧
  (∀ a, (k0_off42 v438) a + S1x512x512.size a ≤ S16x512x512.size a)
theorem k0_off37_inb : ∀ (d0 : Dev nD) (v438 : BitVec 32) (k0_hw12 : k0_chk12 d0 v438), ∀ a, (k0_off37 v438) a + S1.size a ≤ S16.size a := fun d0 v438 k0_hw12 => k0_hw12.1
theorem k0_off38_inb : ∀ (d0 : Dev nD) (v438 : BitVec 32) (k0_hw12 : k0_chk12 d0 v438), ∀ a, (k0_off38 v438) a + S1x512x512.size a ≤ S16x512x512.size a := fun d0 v438 k0_hw12 => k0_hw12.2.1
theorem k0_off39_inb : ∀ (d0 : Dev nD) (v438 : BitVec 32) (k0_hw12 : k0_chk12 d0 v438), ∀ a, (k0_off39 d0 v438) a + S512x512.size a ≤ S8192x512.size a := fun d0 v438 k0_hw12 => k0_hw12.2.2.1
theorem k0_off39_wordsbf16 : ∀ (d0 : Dev nD) (v438 : BitVec 32) (k0_hw12 : k0_chk12 d0 v438), (Rect.unit (s := S8192x512) (k0_off39 d0 v438) S512x512.size (k0_off39_inb d0 v438 k0_hw12)).WholeWords (EltTy.packing .bf16) := fun d0 v438 k0_hw12 => k0_hw12.2.2.2.1 (k0_off39_inb d0 v438 k0_hw12)
theorem k0_off38_wordsbf16 : ∀ (d0 : Dev nD) (v438 : BitVec 32) (k0_hw12 : k0_chk12 d0 v438), (Rect.unit (s := S16x512x512) (k0_off38 v438) S1x512x512.size (k0_off38_inb d0 v438 k0_hw12)).WholeWords (EltTy.packing .bf16) := fun d0 v438 k0_hw12 => k0_hw12.2.2.2.2.1 (k0_off38_inb d0 v438 k0_hw12)
theorem k0_off42_inb : ∀ (d0 : Dev nD) (v438 : BitVec 32) (k0_hw12 : k0_chk12 d0 v438), ∀ a, (k0_off42 v438) a + S1x512x512.size a ≤ S16x512x512.size a := fun d0 v438 k0_hw12 => k0_hw12.2.2.2.2.2

def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v472 : Index := Scalar.indexCast v2
  let c5 : Index := 5#32
  ![v472.toNat, 5]
def k0_off44 (d0 : Dev nD) (v473 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v474 : BitVec 32 := Scalar.subi v2 v473
  let c16_i32_409 : BitVec 32 := 16#32
  let v475 : BitVec 32 := Scalar.addi v474 c16_i32_409
  let c16_i32_410 : BitVec 32 := 16#32
  let v476 : BitVec 32 := Scalar.remsi v475 c16_i32_410
  let c512_i32_411 : BitVec 32 := 512#32
  let v477 : BitVec 32 := Scalar.muli v476 c512_i32_411
  let c0_i32_412 : BitVec 32 := 0#32
  let v478 : BitVec 32 := Scalar.addi v477 c0_i32_412
  let c0_i32_417 : BitVec 32 := 0#32
  ![v478.toNat, 0]

def k0_chk14 (d0 : Dev nD) (v473 : BitVec 32) : Prop :=
  (∀ a, (k0_off44 d0 v473) a + S512x4096.size a ≤ S8192x4096.size a)
theorem k0_off44_inb : ∀ (d0 : Dev nD) (v473 : BitVec 32) (k0_hw14 : k0_chk14 d0 v473), ∀ a, (k0_off44 d0 v473) a + S512x4096.size a ≤ S8192x4096.size a := fun d0 v473 k0_hw14 => k0_hw14

def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v484 : Index := Scalar.indexCast v2
  let c4_418 : Index := 4#32
  ![v484.toNat, 4]
def k0_off46 (v485 : BitVec 32) : Fin 1 → Nat :=
  ![v485.toNat]

def k0_off47 (v485 : BitVec 32) : Fin 3 → Nat :=
  let c0_i32_423 : BitVec 32 := 0#32
  let c0_i32_424 : BitVec 32 := 0#32
  ![v485.toNat, 0, 0]
def k0_off48 (d0 : Dev nD) (v485 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v486 : BitVec 32 := Scalar.addi v2 v485
  let c16_i32_419 : BitVec 32 := 16#32
  let v487 : BitVec 32 := Scalar.remsi v486 c16_i32_419
  let c512_i32_420 : BitVec 32 := 512#32
  let v488 : BitVec 32 := Scalar.muli v487 c512_i32_420
  let c0_i32_425 : BitVec 32 := 0#32
  ![v488.toNat, 0]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v496 : Index := Scalar.indexCast v2
  let c4_426 : Index := 4#32
  ![v496.toNat, 4]
def k0_off50 (d0 : Dev nD) (v497 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v498 : BitVec 32 := Scalar.subi v2 v497
  let c16_i32_427 : BitVec 32 := 16#32
  let v499 : BitVec 32 := Scalar.addi v498 c16_i32_427
  let c16_i32_428 : BitVec 32 := 16#32
  let v500 : BitVec 32 := Scalar.remsi v499 c16_i32_428
  let c512_i32_429 : BitVec 32 := 512#32
  let v501 : BitVec 32 := Scalar.muli v500 c512_i32_429
  let c0_i32_430 : BitVec 32 := 0#32
  let v502 : BitVec 32 := Scalar.addi v501 c0_i32_430
  let c0_i32_435 : BitVec 32 := 0#32
  ![v502.toNat, 0]

def k0_chk16 (d0 : Dev nD) (v497 : BitVec 32) : Prop :=
  (∀ a, (k0_off50 d0 v497) a + S512x4096.size a ≤ S8192x4096.size a)
theorem k0_off50_inb : ∀ (d0 : Dev nD) (v497 : BitVec 32) (k0_hw16 : k0_chk16 d0 v497), ∀ a, (k0_off50 d0 v497) a + S512x4096.size a ≤ S8192x4096.size a := fun d0 v497 k0_hw16 => k0_hw16

def k0_off51 (v485 : BitVec 32) : Fin 3 → Nat :=
  let v511 : Index := Scalar.indexCast v485
  let c0_439 : Index := 0#32
  let c0_440 : Index := 0#32
  ![v511.toNat, 0, 0]

def k0_chk15 (d0 : Dev nD) (v485 : BitVec 32) : Prop :=
  (∀ a, (k0_off46 v485) a + S1.size a ≤ S16.size a) ∧
  (∀ a, (k0_off47 v485) a + S1x512x512.size a ≤ S16x512x512.size a) ∧
  (∀ a, (k0_off48 d0 v485) a + S512x512.size a ≤ S8192x512.size a) ∧
  (∀ (hinb : ∀ a, (k0_off48 d0 v485) a + S512x512.size a ≤ S8192x512.size a), (Rect.unit (s := S8192x512) (k0_off48 d0 v485) S512x512.size hinb).WholeWords (EltTy.packing .bf16)) ∧
  (∀ (hinb : ∀ a, (k0_off47 v485) a + S1x512x512.size a ≤ S16x512x512.size a), (Rect.unit (s := S16x512x512) (k0_off47 v485) S1x512x512.size hinb).WholeWords (EltTy.packing .bf16)) ∧
  (∀ a, (k0_off51 v485) a + S1x512x512.size a ≤ S16x512x512.size a)
theorem k0_off46_inb : ∀ (d0 : Dev nD) (v485 : BitVec 32) (k0_hw15 : k0_chk15 d0 v485), ∀ a, (k0_off46 v485) a + S1.size a ≤ S16.size a := fun d0 v485 k0_hw15 => k0_hw15.1
theorem k0_off47_inb : ∀ (d0 : Dev nD) (v485 : BitVec 32) (k0_hw15 : k0_chk15 d0 v485), ∀ a, (k0_off47 v485) a + S1x512x512.size a ≤ S16x512x512.size a := fun d0 v485 k0_hw15 => k0_hw15.2.1
theorem k0_off48_inb : ∀ (d0 : Dev nD) (v485 : BitVec 32) (k0_hw15 : k0_chk15 d0 v485), ∀ a, (k0_off48 d0 v485) a + S512x512.size a ≤ S8192x512.size a := fun d0 v485 k0_hw15 => k0_hw15.2.2.1
theorem k0_off48_wordsbf16 : ∀ (d0 : Dev nD) (v485 : BitVec 32) (k0_hw15 : k0_chk15 d0 v485), (Rect.unit (s := S8192x512) (k0_off48 d0 v485) S512x512.size (k0_off48_inb d0 v485 k0_hw15)).WholeWords (EltTy.packing .bf16) := fun d0 v485 k0_hw15 => k0_hw15.2.2.2.1 (k0_off48_inb d0 v485 k0_hw15)
theorem k0_off47_wordsbf16 : ∀ (d0 : Dev nD) (v485 : BitVec 32) (k0_hw15 : k0_chk15 d0 v485), (Rect.unit (s := S16x512x512) (k0_off47 v485) S1x512x512.size (k0_off47_inb d0 v485 k0_hw15)).WholeWords (EltTy.packing .bf16) := fun d0 v485 k0_hw15 => k0_hw15.2.2.2.2.1 (k0_off47_inb d0 v485 k0_hw15)
theorem k0_off51_inb : ∀ (d0 : Dev nD) (v485 : BitVec 32) (k0_hw15 : k0_chk15 d0 v485), ∀ a, (k0_off51 v485) a + S1x512x512.size a ≤ S16x512x512.size a := fun d0 v485 k0_hw15 => k0_hw15.2.2.2.2.2

def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v519 : Index := Scalar.indexCast v2
  let c6 : Index := 6#32
  ![v519.toNat, 6]
def k0_off53 (d0 : Dev nD) (v520 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v521 : BitVec 32 := Scalar.subi v2 v520
  let c16_i32_446 : BitVec 32 := 16#32
  let v522 : BitVec 32 := Scalar.addi v521 c16_i32_446
  let c16_i32_447 : BitVec 32 := 16#32
  let v523 : BitVec 32 := Scalar.remsi v522 c16_i32_447
  let c512_i32_448 : BitVec 32 := 512#32
  let v524 : BitVec 32 := Scalar.muli v523 c512_i32_448
  let c0_i32_449 : BitVec 32 := 0#32
  let v525 : BitVec 32 := Scalar.addi v524 c0_i32_449
  let c0_i32_454 : BitVec 32 := 0#32
  ![v525.toNat, 0]

def k0_chk17 (d0 : Dev nD) (v520 : BitVec 32) : Prop :=
  (∀ a, (k0_off53 d0 v520) a + S512x4096.size a ≤ S8192x4096.size a)
theorem k0_off53_inb : ∀ (d0 : Dev nD) (v520 : BitVec 32) (k0_hw17 : k0_chk17 d0 v520), ∀ a, (k0_off53 d0 v520) a + S512x4096.size a ≤ S8192x4096.size a := fun d0 v520 k0_hw17 => k0_hw17

def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v531 : Index := Scalar.indexCast v2
  let c5_455 : Index := 5#32
  ![v531.toNat, 5]
def k0_off55 (v532 : BitVec 32) : Fin 1 → Nat :=
  ![v532.toNat]

def k0_off56 (v532 : BitVec 32) : Fin 3 → Nat :=
  let c0_i32_460 : BitVec 32 := 0#32
  let c0_i32_461 : BitVec 32 := 0#32
  ![v532.toNat, 0, 0]
def k0_off57 (d0 : Dev nD) (v532 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v533 : BitVec 32 := Scalar.addi v2 v532
  let c16_i32_456 : BitVec 32 := 16#32
  let v534 : BitVec 32 := Scalar.remsi v533 c16_i32_456
  let c512_i32_457 : BitVec 32 := 512#32
  let v535 : BitVec 32 := Scalar.muli v534 c512_i32_457
  let c0_i32_462 : BitVec 32 := 0#32
  ![v535.toNat, 0]
def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v543 : Index := Scalar.indexCast v2
  let c5_463 : Index := 5#32
  ![v543.toNat, 5]
def k0_off59 (d0 : Dev nD) (v544 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v545 : BitVec 32 := Scalar.subi v2 v544
  let c16_i32_464 : BitVec 32 := 16#32
  let v546 : BitVec 32 := Scalar.addi v545 c16_i32_464
  let c16_i32_465 : BitVec 32 := 16#32
  let v547 : BitVec 32 := Scalar.remsi v546 c16_i32_465
  let c512_i32_466 : BitVec 32 := 512#32
  let v548 : BitVec 32 := Scalar.muli v547 c512_i32_466
  let c0_i32_467 : BitVec 32 := 0#32
  let v549 : BitVec 32 := Scalar.addi v548 c0_i32_467
  let c0_i32_472 : BitVec 32 := 0#32
  ![v549.toNat, 0]

def k0_chk19 (d0 : Dev nD) (v544 : BitVec 32) : Prop :=
  (∀ a, (k0_off59 d0 v544) a + S512x4096.size a ≤ S8192x4096.size a)
theorem k0_off59_inb : ∀ (d0 : Dev nD) (v544 : BitVec 32) (k0_hw19 : k0_chk19 d0 v544), ∀ a, (k0_off59 d0 v544) a + S512x4096.size a ≤ S8192x4096.size a := fun d0 v544 k0_hw19 => k0_hw19

def k0_off60 (v532 : BitVec 32) : Fin 3 → Nat :=
  let v558 : Index := Scalar.indexCast v532
  let c0_476 : Index := 0#32
  let c0_477 : Index := 0#32
  ![v558.toNat, 0, 0]

def k0_chk18 (d0 : Dev nD) (v532 : BitVec 32) : Prop :=
  (∀ a, (k0_off55 v532) a + S1.size a ≤ S16.size a) ∧
  (∀ a, (k0_off56 v532) a + S1x512x512.size a ≤ S16x512x512.size a) ∧
  (∀ a, (k0_off57 d0 v532) a + S512x512.size a ≤ S8192x512.size a) ∧
  (∀ (hinb : ∀ a, (k0_off57 d0 v532) a + S512x512.size a ≤ S8192x512.size a), (Rect.unit (s := S8192x512) (k0_off57 d0 v532) S512x512.size hinb).WholeWords (EltTy.packing .bf16)) ∧
  (∀ (hinb : ∀ a, (k0_off56 v532) a + S1x512x512.size a ≤ S16x512x512.size a), (Rect.unit (s := S16x512x512) (k0_off56 v532) S1x512x512.size hinb).WholeWords (EltTy.packing .bf16)) ∧
  (∀ a, (k0_off60 v532) a + S1x512x512.size a ≤ S16x512x512.size a)
theorem k0_off55_inb : ∀ (d0 : Dev nD) (v532 : BitVec 32) (k0_hw18 : k0_chk18 d0 v532), ∀ a, (k0_off55 v532) a + S1.size a ≤ S16.size a := fun d0 v532 k0_hw18 => k0_hw18.1
theorem k0_off56_inb : ∀ (d0 : Dev nD) (v532 : BitVec 32) (k0_hw18 : k0_chk18 d0 v532), ∀ a, (k0_off56 v532) a + S1x512x512.size a ≤ S16x512x512.size a := fun d0 v532 k0_hw18 => k0_hw18.2.1
theorem k0_off57_inb : ∀ (d0 : Dev nD) (v532 : BitVec 32) (k0_hw18 : k0_chk18 d0 v532), ∀ a, (k0_off57 d0 v532) a + S512x512.size a ≤ S8192x512.size a := fun d0 v532 k0_hw18 => k0_hw18.2.2.1
theorem k0_off57_wordsbf16 : ∀ (d0 : Dev nD) (v532 : BitVec 32) (k0_hw18 : k0_chk18 d0 v532), (Rect.unit (s := S8192x512) (k0_off57 d0 v532) S512x512.size (k0_off57_inb d0 v532 k0_hw18)).WholeWords (EltTy.packing .bf16) := fun d0 v532 k0_hw18 => k0_hw18.2.2.2.1 (k0_off57_inb d0 v532 k0_hw18)
theorem k0_off56_wordsbf16 : ∀ (d0 : Dev nD) (v532 : BitVec 32) (k0_hw18 : k0_chk18 d0 v532), (Rect.unit (s := S16x512x512) (k0_off56 v532) S1x512x512.size (k0_off56_inb d0 v532 k0_hw18)).WholeWords (EltTy.packing .bf16) := fun d0 v532 k0_hw18 => k0_hw18.2.2.2.2.1 (k0_off56_inb d0 v532 k0_hw18)
theorem k0_off60_inb : ∀ (d0 : Dev nD) (v532 : BitVec 32) (k0_hw18 : k0_chk18 d0 v532), ∀ a, (k0_off60 v532) a + S1x512x512.size a ≤ S16x512x512.size a := fun d0 v532 k0_hw18 => k0_hw18.2.2.2.2.2

def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v566 : Index := Scalar.indexCast v2
  let c7 : Index := 7#32
  ![v566.toNat, 7]
def k0_off62 (d0 : Dev nD) (v567 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v568 : BitVec 32 := Scalar.subi v2 v567
  let c16_i32_483 : BitVec 32 := 16#32
  let v569 : BitVec 32 := Scalar.addi v568 c16_i32_483
  let c16_i32_484 : BitVec 32 := 16#32
  let v570 : BitVec 32 := Scalar.remsi v569 c16_i32_484
  let c512_i32_485 : BitVec 32 := 512#32
  let v571 : BitVec 32 := Scalar.muli v570 c512_i32_485
  let c0_i32_486 : BitVec 32 := 0#32
  let v572 : BitVec 32 := Scalar.addi v571 c0_i32_486
  let c0_i32_491 : BitVec 32 := 0#32
  ![v572.toNat, 0]

def k0_chk20 (d0 : Dev nD) (v567 : BitVec 32) : Prop :=
  (∀ a, (k0_off62 d0 v567) a + S512x4096.size a ≤ S8192x4096.size a)
theorem k0_off62_inb : ∀ (d0 : Dev nD) (v567 : BitVec 32) (k0_hw20 : k0_chk20 d0 v567), ∀ a, (k0_off62 d0 v567) a + S512x4096.size a ≤ S8192x4096.size a := fun d0 v567 k0_hw20 => k0_hw20

def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v578 : Index := Scalar.indexCast v2
  let c6_492 : Index := 6#32
  ![v578.toNat, 6]
def k0_off64 (v579 : BitVec 32) : Fin 1 → Nat :=
  ![v579.toNat]

def k0_off65 (v579 : BitVec 32) : Fin 3 → Nat :=
  let c0_i32_497 : BitVec 32 := 0#32
  let c0_i32_498 : BitVec 32 := 0#32
  ![v579.toNat, 0, 0]
def k0_off66 (d0 : Dev nD) (v579 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v580 : BitVec 32 := Scalar.addi v2 v579
  let c16_i32_493 : BitVec 32 := 16#32
  let v581 : BitVec 32 := Scalar.remsi v580 c16_i32_493
  let c512_i32_494 : BitVec 32 := 512#32
  let v582 : BitVec 32 := Scalar.muli v581 c512_i32_494
  let c0_i32_499 : BitVec 32 := 0#32
  ![v582.toNat, 0]
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v590 : Index := Scalar.indexCast v2
  let c6_500 : Index := 6#32
  ![v590.toNat, 6]
def k0_off68 (d0 : Dev nD) (v591 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v592 : BitVec 32 := Scalar.subi v2 v591
  let c16_i32_501 : BitVec 32 := 16#32
  let v593 : BitVec 32 := Scalar.addi v592 c16_i32_501
  let c16_i32_502 : BitVec 32 := 16#32
  let v594 : BitVec 32 := Scalar.remsi v593 c16_i32_502
  let c512_i32_503 : BitVec 32 := 512#32
  let v595 : BitVec 32 := Scalar.muli v594 c512_i32_503
  let c0_i32_504 : BitVec 32 := 0#32
  let v596 : BitVec 32 := Scalar.addi v595 c0_i32_504
  let c0_i32_509 : BitVec 32 := 0#32
  ![v596.toNat, 0]

def k0_chk22 (d0 : Dev nD) (v591 : BitVec 32) : Prop :=
  (∀ a, (k0_off68 d0 v591) a + S512x4096.size a ≤ S8192x4096.size a)
theorem k0_off68_inb : ∀ (d0 : Dev nD) (v591 : BitVec 32) (k0_hw22 : k0_chk22 d0 v591), ∀ a, (k0_off68 d0 v591) a + S512x4096.size a ≤ S8192x4096.size a := fun d0 v591 k0_hw22 => k0_hw22

def k0_off69 (v579 : BitVec 32) : Fin 3 → Nat :=
  let v605 : Index := Scalar.indexCast v579
  let c0_513 : Index := 0#32
  let c0_514 : Index := 0#32
  ![v605.toNat, 0, 0]

def k0_chk21 (d0 : Dev nD) (v579 : BitVec 32) : Prop :=
  (∀ a, (k0_off64 v579) a + S1.size a ≤ S16.size a) ∧
  (∀ a, (k0_off65 v579) a + S1x512x512.size a ≤ S16x512x512.size a) ∧
  (∀ a, (k0_off66 d0 v579) a + S512x512.size a ≤ S8192x512.size a) ∧
  (∀ (hinb : ∀ a, (k0_off66 d0 v579) a + S512x512.size a ≤ S8192x512.size a), (Rect.unit (s := S8192x512) (k0_off66 d0 v579) S512x512.size hinb).WholeWords (EltTy.packing .bf16)) ∧
  (∀ (hinb : ∀ a, (k0_off65 v579) a + S1x512x512.size a ≤ S16x512x512.size a), (Rect.unit (s := S16x512x512) (k0_off65 v579) S1x512x512.size hinb).WholeWords (EltTy.packing .bf16)) ∧
  (∀ a, (k0_off69 v579) a + S1x512x512.size a ≤ S16x512x512.size a)
theorem k0_off64_inb : ∀ (d0 : Dev nD) (v579 : BitVec 32) (k0_hw21 : k0_chk21 d0 v579), ∀ a, (k0_off64 v579) a + S1.size a ≤ S16.size a := fun d0 v579 k0_hw21 => k0_hw21.1
theorem k0_off65_inb : ∀ (d0 : Dev nD) (v579 : BitVec 32) (k0_hw21 : k0_chk21 d0 v579), ∀ a, (k0_off65 v579) a + S1x512x512.size a ≤ S16x512x512.size a := fun d0 v579 k0_hw21 => k0_hw21.2.1
theorem k0_off66_inb : ∀ (d0 : Dev nD) (v579 : BitVec 32) (k0_hw21 : k0_chk21 d0 v579), ∀ a, (k0_off66 d0 v579) a + S512x512.size a ≤ S8192x512.size a := fun d0 v579 k0_hw21 => k0_hw21.2.2.1
theorem k0_off66_wordsbf16 : ∀ (d0 : Dev nD) (v579 : BitVec 32) (k0_hw21 : k0_chk21 d0 v579), (Rect.unit (s := S8192x512) (k0_off66 d0 v579) S512x512.size (k0_off66_inb d0 v579 k0_hw21)).WholeWords (EltTy.packing .bf16) := fun d0 v579 k0_hw21 => k0_hw21.2.2.2.1 (k0_off66_inb d0 v579 k0_hw21)
theorem k0_off65_wordsbf16 : ∀ (d0 : Dev nD) (v579 : BitVec 32) (k0_hw21 : k0_chk21 d0 v579), (Rect.unit (s := S16x512x512) (k0_off65 v579) S1x512x512.size (k0_off65_inb d0 v579 k0_hw21)).WholeWords (EltTy.packing .bf16) := fun d0 v579 k0_hw21 => k0_hw21.2.2.2.2.1 (k0_off65_inb d0 v579 k0_hw21)
theorem k0_off69_inb : ∀ (d0 : Dev nD) (v579 : BitVec 32) (k0_hw21 : k0_chk21 d0 v579), ∀ a, (k0_off69 v579) a + S1x512x512.size a ≤ S16x512x512.size a := fun d0 v579 k0_hw21 => k0_hw21.2.2.2.2.2

def k0_off70 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v613 : Index := Scalar.indexCast v2
  let c8 : Index := 8#32
  ![v613.toNat, 8]
def k0_off71 (d0 : Dev nD) (v614 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v615 : BitVec 32 := Scalar.subi v2 v614
  let c16_i32_520 : BitVec 32 := 16#32
  let v616 : BitVec 32 := Scalar.addi v615 c16_i32_520
  let c16_i32_521 : BitVec 32 := 16#32
  let v617 : BitVec 32 := Scalar.remsi v616 c16_i32_521
  let c512_i32_522 : BitVec 32 := 512#32
  let v618 : BitVec 32 := Scalar.muli v617 c512_i32_522
  let c0_i32_523 : BitVec 32 := 0#32
  let v619 : BitVec 32 := Scalar.addi v618 c0_i32_523
  let c0_i32_528 : BitVec 32 := 0#32
  ![v619.toNat, 0]

def k0_chk23 (d0 : Dev nD) (v614 : BitVec 32) : Prop :=
  (∀ a, (k0_off71 d0 v614) a + S512x4096.size a ≤ S8192x4096.size a)
theorem k0_off71_inb : ∀ (d0 : Dev nD) (v614 : BitVec 32) (k0_hw23 : k0_chk23 d0 v614), ∀ a, (k0_off71 d0 v614) a + S512x4096.size a ≤ S8192x4096.size a := fun d0 v614 k0_hw23 => k0_hw23

def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v625 : Index := Scalar.indexCast v2
  let c7_529 : Index := 7#32
  ![v625.toNat, 7]
def k0_off73 (v626 : BitVec 32) : Fin 1 → Nat :=
  ![v626.toNat]

def k0_off74 (v626 : BitVec 32) : Fin 3 → Nat :=
  let c0_i32_534 : BitVec 32 := 0#32
  let c0_i32_535 : BitVec 32 := 0#32
  ![v626.toNat, 0, 0]
def k0_off75 (d0 : Dev nD) (v626 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v627 : BitVec 32 := Scalar.addi v2 v626
  let c16_i32_530 : BitVec 32 := 16#32
  let v628 : BitVec 32 := Scalar.remsi v627 c16_i32_530
  let c512_i32_531 : BitVec 32 := 512#32
  let v629 : BitVec 32 := Scalar.muli v628 c512_i32_531
  let c0_i32_536 : BitVec 32 := 0#32
  ![v629.toNat, 0]
def k0_off76 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v637 : Index := Scalar.indexCast v2
  let c7_537 : Index := 7#32
  ![v637.toNat, 7]
def k0_off77 (d0 : Dev nD) (v638 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v639 : BitVec 32 := Scalar.subi v2 v638
  let c16_i32_538 : BitVec 32 := 16#32
  let v640 : BitVec 32 := Scalar.addi v639 c16_i32_538
  let c16_i32_539 : BitVec 32 := 16#32
  let v641 : BitVec 32 := Scalar.remsi v640 c16_i32_539
  let c512_i32_540 : BitVec 32 := 512#32
  let v642 : BitVec 32 := Scalar.muli v641 c512_i32_540
  let c0_i32_541 : BitVec 32 := 0#32
  let v643 : BitVec 32 := Scalar.addi v642 c0_i32_541
  let c0_i32_546 : BitVec 32 := 0#32
  ![v643.toNat, 0]

def k0_chk25 (d0 : Dev nD) (v638 : BitVec 32) : Prop :=
  (∀ a, (k0_off77 d0 v638) a + S512x4096.size a ≤ S8192x4096.size a)
theorem k0_off77_inb : ∀ (d0 : Dev nD) (v638 : BitVec 32) (k0_hw25 : k0_chk25 d0 v638), ∀ a, (k0_off77 d0 v638) a + S512x4096.size a ≤ S8192x4096.size a := fun d0 v638 k0_hw25 => k0_hw25

def k0_off78 (v626 : BitVec 32) : Fin 3 → Nat :=
  let v652 : Index := Scalar.indexCast v626
  let c0_550 : Index := 0#32
  let c0_551 : Index := 0#32
  ![v652.toNat, 0, 0]

def k0_chk24 (d0 : Dev nD) (v626 : BitVec 32) : Prop :=
  (∀ a, (k0_off73 v626) a + S1.size a ≤ S16.size a) ∧
  (∀ a, (k0_off74 v626) a + S1x512x512.size a ≤ S16x512x512.size a) ∧
  (∀ a, (k0_off75 d0 v626) a + S512x512.size a ≤ S8192x512.size a) ∧
  (∀ (hinb : ∀ a, (k0_off75 d0 v626) a + S512x512.size a ≤ S8192x512.size a), (Rect.unit (s := S8192x512) (k0_off75 d0 v626) S512x512.size hinb).WholeWords (EltTy.packing .bf16)) ∧
  (∀ (hinb : ∀ a, (k0_off74 v626) a + S1x512x512.size a ≤ S16x512x512.size a), (Rect.unit (s := S16x512x512) (k0_off74 v626) S1x512x512.size hinb).WholeWords (EltTy.packing .bf16)) ∧
  (∀ a, (k0_off78 v626) a + S1x512x512.size a ≤ S16x512x512.size a)
theorem k0_off73_inb : ∀ (d0 : Dev nD) (v626 : BitVec 32) (k0_hw24 : k0_chk24 d0 v626), ∀ a, (k0_off73 v626) a + S1.size a ≤ S16.size a := fun d0 v626 k0_hw24 => k0_hw24.1
theorem k0_off74_inb : ∀ (d0 : Dev nD) (v626 : BitVec 32) (k0_hw24 : k0_chk24 d0 v626), ∀ a, (k0_off74 v626) a + S1x512x512.size a ≤ S16x512x512.size a := fun d0 v626 k0_hw24 => k0_hw24.2.1
theorem k0_off75_inb : ∀ (d0 : Dev nD) (v626 : BitVec 32) (k0_hw24 : k0_chk24 d0 v626), ∀ a, (k0_off75 d0 v626) a + S512x512.size a ≤ S8192x512.size a := fun d0 v626 k0_hw24 => k0_hw24.2.2.1
theorem k0_off75_wordsbf16 : ∀ (d0 : Dev nD) (v626 : BitVec 32) (k0_hw24 : k0_chk24 d0 v626), (Rect.unit (s := S8192x512) (k0_off75 d0 v626) S512x512.size (k0_off75_inb d0 v626 k0_hw24)).WholeWords (EltTy.packing .bf16) := fun d0 v626 k0_hw24 => k0_hw24.2.2.2.1 (k0_off75_inb d0 v626 k0_hw24)
theorem k0_off74_wordsbf16 : ∀ (d0 : Dev nD) (v626 : BitVec 32) (k0_hw24 : k0_chk24 d0 v626), (Rect.unit (s := S16x512x512) (k0_off74 v626) S1x512x512.size (k0_off74_inb d0 v626 k0_hw24)).WholeWords (EltTy.packing .bf16) := fun d0 v626 k0_hw24 => k0_hw24.2.2.2.2.1 (k0_off74_inb d0 v626 k0_hw24)
theorem k0_off78_inb : ∀ (d0 : Dev nD) (v626 : BitVec 32) (k0_hw24 : k0_chk24 d0 v626), ∀ a, (k0_off78 v626) a + S1x512x512.size a ≤ S16x512x512.size a := fun d0 v626 k0_hw24 => k0_hw24.2.2.2.2.2

def k0_off79 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v660 : Index := Scalar.indexCast v2
  let c9 : Index := 9#32
  ![v660.toNat, 9]
def k0_off80 (d0 : Dev nD) (v661 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v662 : BitVec 32 := Scalar.subi v2 v661
  let c16_i32_557 : BitVec 32 := 16#32
  let v663 : BitVec 32 := Scalar.addi v662 c16_i32_557
  let c16_i32_558 : BitVec 32 := 16#32
  let v664 : BitVec 32 := Scalar.remsi v663 c16_i32_558
  let c512_i32_559 : BitVec 32 := 512#32
  let v665 : BitVec 32 := Scalar.muli v664 c512_i32_559
  let c0_i32_560 : BitVec 32 := 0#32
  let v666 : BitVec 32 := Scalar.addi v665 c0_i32_560
  let c0_i32_565 : BitVec 32 := 0#32
  ![v666.toNat, 0]

def k0_chk26 (d0 : Dev nD) (v661 : BitVec 32) : Prop :=
  (∀ a, (k0_off80 d0 v661) a + S512x4096.size a ≤ S8192x4096.size a)
theorem k0_off80_inb : ∀ (d0 : Dev nD) (v661 : BitVec 32) (k0_hw26 : k0_chk26 d0 v661), ∀ a, (k0_off80 d0 v661) a + S512x4096.size a ≤ S8192x4096.size a := fun d0 v661 k0_hw26 => k0_hw26

def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v672 : Index := Scalar.indexCast v2
  let c8_566 : Index := 8#32
  ![v672.toNat, 8]
def k0_off82 (v673 : BitVec 32) : Fin 1 → Nat :=
  ![v673.toNat]

def k0_off83 (v673 : BitVec 32) : Fin 3 → Nat :=
  let c0_i32_571 : BitVec 32 := 0#32
  let c0_i32_572 : BitVec 32 := 0#32
  ![v673.toNat, 0, 0]
def k0_off84 (d0 : Dev nD) (v673 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v674 : BitVec 32 := Scalar.addi v2 v673
  let c16_i32_567 : BitVec 32 := 16#32
  let v675 : BitVec 32 := Scalar.remsi v674 c16_i32_567
  let c512_i32_568 : BitVec 32 := 512#32
  let v676 : BitVec 32 := Scalar.muli v675 c512_i32_568
  let c0_i32_573 : BitVec 32 := 0#32
  ![v676.toNat, 0]
def k0_off85 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v684 : Index := Scalar.indexCast v2
  let c8_574 : Index := 8#32
  ![v684.toNat, 8]
def k0_off86 (d0 : Dev nD) (v685 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v686 : BitVec 32 := Scalar.subi v2 v685
  let c16_i32_575 : BitVec 32 := 16#32
  let v687 : BitVec 32 := Scalar.addi v686 c16_i32_575
  let c16_i32_576 : BitVec 32 := 16#32
  let v688 : BitVec 32 := Scalar.remsi v687 c16_i32_576
  let c512_i32_577 : BitVec 32 := 512#32
  let v689 : BitVec 32 := Scalar.muli v688 c512_i32_577
  let c0_i32_578 : BitVec 32 := 0#32
  let v690 : BitVec 32 := Scalar.addi v689 c0_i32_578
  let c0_i32_583 : BitVec 32 := 0#32
  ![v690.toNat, 0]

def k0_chk28 (d0 : Dev nD) (v685 : BitVec 32) : Prop :=
  (∀ a, (k0_off86 d0 v685) a + S512x4096.size a ≤ S8192x4096.size a)
theorem k0_off86_inb : ∀ (d0 : Dev nD) (v685 : BitVec 32) (k0_hw28 : k0_chk28 d0 v685), ∀ a, (k0_off86 d0 v685) a + S512x4096.size a ≤ S8192x4096.size a := fun d0 v685 k0_hw28 => k0_hw28

def k0_off87 (v673 : BitVec 32) : Fin 3 → Nat :=
  let v699 : Index := Scalar.indexCast v673
  let c0_587 : Index := 0#32
  let c0_588 : Index := 0#32
  ![v699.toNat, 0, 0]

def k0_chk27 (d0 : Dev nD) (v673 : BitVec 32) : Prop :=
  (∀ a, (k0_off82 v673) a + S1.size a ≤ S16.size a) ∧
  (∀ a, (k0_off83 v673) a + S1x512x512.size a ≤ S16x512x512.size a) ∧
  (∀ a, (k0_off84 d0 v673) a + S512x512.size a ≤ S8192x512.size a) ∧
  (∀ (hinb : ∀ a, (k0_off84 d0 v673) a + S512x512.size a ≤ S8192x512.size a), (Rect.unit (s := S8192x512) (k0_off84 d0 v673) S512x512.size hinb).WholeWords (EltTy.packing .bf16)) ∧
  (∀ (hinb : ∀ a, (k0_off83 v673) a + S1x512x512.size a ≤ S16x512x512.size a), (Rect.unit (s := S16x512x512) (k0_off83 v673) S1x512x512.size hinb).WholeWords (EltTy.packing .bf16)) ∧
  (∀ a, (k0_off87 v673) a + S1x512x512.size a ≤ S16x512x512.size a)
theorem k0_off82_inb : ∀ (d0 : Dev nD) (v673 : BitVec 32) (k0_hw27 : k0_chk27 d0 v673), ∀ a, (k0_off82 v673) a + S1.size a ≤ S16.size a := fun d0 v673 k0_hw27 => k0_hw27.1
theorem k0_off83_inb : ∀ (d0 : Dev nD) (v673 : BitVec 32) (k0_hw27 : k0_chk27 d0 v673), ∀ a, (k0_off83 v673) a + S1x512x512.size a ≤ S16x512x512.size a := fun d0 v673 k0_hw27 => k0_hw27.2.1
theorem k0_off84_inb : ∀ (d0 : Dev nD) (v673 : BitVec 32) (k0_hw27 : k0_chk27 d0 v673), ∀ a, (k0_off84 d0 v673) a + S512x512.size a ≤ S8192x512.size a := fun d0 v673 k0_hw27 => k0_hw27.2.2.1
theorem k0_off84_wordsbf16 : ∀ (d0 : Dev nD) (v673 : BitVec 32) (k0_hw27 : k0_chk27 d0 v673), (Rect.unit (s := S8192x512) (k0_off84 d0 v673) S512x512.size (k0_off84_inb d0 v673 k0_hw27)).WholeWords (EltTy.packing .bf16) := fun d0 v673 k0_hw27 => k0_hw27.2.2.2.1 (k0_off84_inb d0 v673 k0_hw27)
theorem k0_off83_wordsbf16 : ∀ (d0 : Dev nD) (v673 : BitVec 32) (k0_hw27 : k0_chk27 d0 v673), (Rect.unit (s := S16x512x512) (k0_off83 v673) S1x512x512.size (k0_off83_inb d0 v673 k0_hw27)).WholeWords (EltTy.packing .bf16) := fun d0 v673 k0_hw27 => k0_hw27.2.2.2.2.1 (k0_off83_inb d0 v673 k0_hw27)
theorem k0_off87_inb : ∀ (d0 : Dev nD) (v673 : BitVec 32) (k0_hw27 : k0_chk27 d0 v673), ∀ a, (k0_off87 v673) a + S1x512x512.size a ≤ S16x512x512.size a := fun d0 v673 k0_hw27 => k0_hw27.2.2.2.2.2

def k0_off88 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v707 : Index := Scalar.indexCast v2
  let c10 : Index := 10#32
  ![v707.toNat, 10]
def k0_off89 (d0 : Dev nD) (v708 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v709 : BitVec 32 := Scalar.subi v2 v708
  let c16_i32_594 : BitVec 32 := 16#32
  let v710 : BitVec 32 := Scalar.addi v709 c16_i32_594
  let c16_i32_595 : BitVec 32 := 16#32
  let v711 : BitVec 32 := Scalar.remsi v710 c16_i32_595
  let c512_i32_596 : BitVec 32 := 512#32
  let v712 : BitVec 32 := Scalar.muli v711 c512_i32_596
  let c0_i32_597 : BitVec 32 := 0#32
  let v713 : BitVec 32 := Scalar.addi v712 c0_i32_597
  let c0_i32_602 : BitVec 32 := 0#32
  ![v713.toNat, 0]

def k0_chk29 (d0 : Dev nD) (v708 : BitVec 32) : Prop :=
  (∀ a, (k0_off89 d0 v708) a + S512x4096.size a ≤ S8192x4096.size a)
theorem k0_off89_inb : ∀ (d0 : Dev nD) (v708 : BitVec 32) (k0_hw29 : k0_chk29 d0 v708), ∀ a, (k0_off89 d0 v708) a + S512x4096.size a ≤ S8192x4096.size a := fun d0 v708 k0_hw29 => k0_hw29

def k0_off90 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v719 : Index := Scalar.indexCast v2
  let c9_603 : Index := 9#32
  ![v719.toNat, 9]
def k0_off91 (v720 : BitVec 32) : Fin 1 → Nat :=
  ![v720.toNat]

def k0_off92 (v720 : BitVec 32) : Fin 3 → Nat :=
  let c0_i32_608 : BitVec 32 := 0#32
  let c0_i32_609 : BitVec 32 := 0#32
  ![v720.toNat, 0, 0]
def k0_off93 (d0 : Dev nD) (v720 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v721 : BitVec 32 := Scalar.addi v2 v720
  let c16_i32_604 : BitVec 32 := 16#32
  let v722 : BitVec 32 := Scalar.remsi v721 c16_i32_604
  let c512_i32_605 : BitVec 32 := 512#32
  let v723 : BitVec 32 := Scalar.muli v722 c512_i32_605
  let c0_i32_610 : BitVec 32 := 0#32
  ![v723.toNat, 0]
def k0_off94 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v731 : Index := Scalar.indexCast v2
  let c9_611 : Index := 9#32
  ![v731.toNat, 9]
def k0_off95 (d0 : Dev nD) (v732 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v733 : BitVec 32 := Scalar.subi v2 v732
  let c16_i32_612 : BitVec 32 := 16#32
  let v734 : BitVec 32 := Scalar.addi v733 c16_i32_612
  let c16_i32_613 : BitVec 32 := 16#32
  let v735 : BitVec 32 := Scalar.remsi v734 c16_i32_613
  let c512_i32_614 : BitVec 32 := 512#32
  let v736 : BitVec 32 := Scalar.muli v735 c512_i32_614
  let c0_i32_615 : BitVec 32 := 0#32
  let v737 : BitVec 32 := Scalar.addi v736 c0_i32_615
  let c0_i32_620 : BitVec 32 := 0#32
  ![v737.toNat, 0]

def k0_chk31 (d0 : Dev nD) (v732 : BitVec 32) : Prop :=
  (∀ a, (k0_off95 d0 v732) a + S512x4096.size a ≤ S8192x4096.size a)
theorem k0_off95_inb : ∀ (d0 : Dev nD) (v732 : BitVec 32) (k0_hw31 : k0_chk31 d0 v732), ∀ a, (k0_off95 d0 v732) a + S512x4096.size a ≤ S8192x4096.size a := fun d0 v732 k0_hw31 => k0_hw31

def k0_off96 (v720 : BitVec 32) : Fin 3 → Nat :=
  let v746 : Index := Scalar.indexCast v720
  let c0_624 : Index := 0#32
  let c0_625 : Index := 0#32
  ![v746.toNat, 0, 0]

def k0_chk30 (d0 : Dev nD) (v720 : BitVec 32) : Prop :=
  (∀ a, (k0_off91 v720) a + S1.size a ≤ S16.size a) ∧
  (∀ a, (k0_off92 v720) a + S1x512x512.size a ≤ S16x512x512.size a) ∧
  (∀ a, (k0_off93 d0 v720) a + S512x512.size a ≤ S8192x512.size a) ∧
  (∀ (hinb : ∀ a, (k0_off93 d0 v720) a + S512x512.size a ≤ S8192x512.size a), (Rect.unit (s := S8192x512) (k0_off93 d0 v720) S512x512.size hinb).WholeWords (EltTy.packing .bf16)) ∧
  (∀ (hinb : ∀ a, (k0_off92 v720) a + S1x512x512.size a ≤ S16x512x512.size a), (Rect.unit (s := S16x512x512) (k0_off92 v720) S1x512x512.size hinb).WholeWords (EltTy.packing .bf16)) ∧
  (∀ a, (k0_off96 v720) a + S1x512x512.size a ≤ S16x512x512.size a)
theorem k0_off91_inb : ∀ (d0 : Dev nD) (v720 : BitVec 32) (k0_hw30 : k0_chk30 d0 v720), ∀ a, (k0_off91 v720) a + S1.size a ≤ S16.size a := fun d0 v720 k0_hw30 => k0_hw30.1
theorem k0_off92_inb : ∀ (d0 : Dev nD) (v720 : BitVec 32) (k0_hw30 : k0_chk30 d0 v720), ∀ a, (k0_off92 v720) a + S1x512x512.size a ≤ S16x512x512.size a := fun d0 v720 k0_hw30 => k0_hw30.2.1
theorem k0_off93_inb : ∀ (d0 : Dev nD) (v720 : BitVec 32) (k0_hw30 : k0_chk30 d0 v720), ∀ a, (k0_off93 d0 v720) a + S512x512.size a ≤ S8192x512.size a := fun d0 v720 k0_hw30 => k0_hw30.2.2.1
theorem k0_off93_wordsbf16 : ∀ (d0 : Dev nD) (v720 : BitVec 32) (k0_hw30 : k0_chk30 d0 v720), (Rect.unit (s := S8192x512) (k0_off93 d0 v720) S512x512.size (k0_off93_inb d0 v720 k0_hw30)).WholeWords (EltTy.packing .bf16) := fun d0 v720 k0_hw30 => k0_hw30.2.2.2.1 (k0_off93_inb d0 v720 k0_hw30)
theorem k0_off92_wordsbf16 : ∀ (d0 : Dev nD) (v720 : BitVec 32) (k0_hw30 : k0_chk30 d0 v720), (Rect.unit (s := S16x512x512) (k0_off92 v720) S1x512x512.size (k0_off92_inb d0 v720 k0_hw30)).WholeWords (EltTy.packing .bf16) := fun d0 v720 k0_hw30 => k0_hw30.2.2.2.2.1 (k0_off92_inb d0 v720 k0_hw30)
theorem k0_off96_inb : ∀ (d0 : Dev nD) (v720 : BitVec 32) (k0_hw30 : k0_chk30 d0 v720), ∀ a, (k0_off96 v720) a + S1x512x512.size a ≤ S16x512x512.size a := fun d0 v720 k0_hw30 => k0_hw30.2.2.2.2.2

def k0_off97 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v754 : Index := Scalar.indexCast v2
  let c11 : Index := 11#32
  ![v754.toNat, 11]
def k0_off98 (d0 : Dev nD) (v755 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v756 : BitVec 32 := Scalar.subi v2 v755
  let c16_i32_631 : BitVec 32 := 16#32
  let v757 : BitVec 32 := Scalar.addi v756 c16_i32_631
  let c16_i32_632 : BitVec 32 := 16#32
  let v758 : BitVec 32 := Scalar.remsi v757 c16_i32_632
  let c512_i32_633 : BitVec 32 := 512#32
  let v759 : BitVec 32 := Scalar.muli v758 c512_i32_633
  let c0_i32_634 : BitVec 32 := 0#32
  let v760 : BitVec 32 := Scalar.addi v759 c0_i32_634
  let c0_i32_639 : BitVec 32 := 0#32
  ![v760.toNat, 0]

def k0_chk32 (d0 : Dev nD) (v755 : BitVec 32) : Prop :=
  (∀ a, (k0_off98 d0 v755) a + S512x4096.size a ≤ S8192x4096.size a)
theorem k0_off98_inb : ∀ (d0 : Dev nD) (v755 : BitVec 32) (k0_hw32 : k0_chk32 d0 v755), ∀ a, (k0_off98 d0 v755) a + S512x4096.size a ≤ S8192x4096.size a := fun d0 v755 k0_hw32 => k0_hw32

def k0_off99 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v766 : Index := Scalar.indexCast v2
  let c10_640 : Index := 10#32
  ![v766.toNat, 10]
def k0_off100 (v767 : BitVec 32) : Fin 1 → Nat :=
  ![v767.toNat]

def k0_off101 (v767 : BitVec 32) : Fin 3 → Nat :=
  let c0_i32_645 : BitVec 32 := 0#32
  let c0_i32_646 : BitVec 32 := 0#32
  ![v767.toNat, 0, 0]
def k0_off102 (d0 : Dev nD) (v767 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v768 : BitVec 32 := Scalar.addi v2 v767
  let c16_i32_641 : BitVec 32 := 16#32
  let v769 : BitVec 32 := Scalar.remsi v768 c16_i32_641
  let c512_i32_642 : BitVec 32 := 512#32
  let v770 : BitVec 32 := Scalar.muli v769 c512_i32_642
  let c0_i32_647 : BitVec 32 := 0#32
  ![v770.toNat, 0]
def k0_off103 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v778 : Index := Scalar.indexCast v2
  let c10_648 : Index := 10#32
  ![v778.toNat, 10]
def k0_off104 (d0 : Dev nD) (v779 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v780 : BitVec 32 := Scalar.subi v2 v779
  let c16_i32_649 : BitVec 32 := 16#32
  let v781 : BitVec 32 := Scalar.addi v780 c16_i32_649
  let c16_i32_650 : BitVec 32 := 16#32
  let v782 : BitVec 32 := Scalar.remsi v781 c16_i32_650
  let c512_i32_651 : BitVec 32 := 512#32
  let v783 : BitVec 32 := Scalar.muli v782 c512_i32_651
  let c0_i32_652 : BitVec 32 := 0#32
  let v784 : BitVec 32 := Scalar.addi v783 c0_i32_652
  let c0_i32_657 : BitVec 32 := 0#32
  ![v784.toNat, 0]

def k0_chk34 (d0 : Dev nD) (v779 : BitVec 32) : Prop :=
  (∀ a, (k0_off104 d0 v779) a + S512x4096.size a ≤ S8192x4096.size a)
theorem k0_off104_inb : ∀ (d0 : Dev nD) (v779 : BitVec 32) (k0_hw34 : k0_chk34 d0 v779), ∀ a, (k0_off104 d0 v779) a + S512x4096.size a ≤ S8192x4096.size a := fun d0 v779 k0_hw34 => k0_hw34

def k0_off105 (v767 : BitVec 32) : Fin 3 → Nat :=
  let v793 : Index := Scalar.indexCast v767
  let c0_661 : Index := 0#32
  let c0_662 : Index := 0#32
  ![v793.toNat, 0, 0]

def k0_chk33 (d0 : Dev nD) (v767 : BitVec 32) : Prop :=
  (∀ a, (k0_off100 v767) a + S1.size a ≤ S16.size a) ∧
  (∀ a, (k0_off101 v767) a + S1x512x512.size a ≤ S16x512x512.size a) ∧
  (∀ a, (k0_off102 d0 v767) a + S512x512.size a ≤ S8192x512.size a) ∧
  (∀ (hinb : ∀ a, (k0_off102 d0 v767) a + S512x512.size a ≤ S8192x512.size a), (Rect.unit (s := S8192x512) (k0_off102 d0 v767) S512x512.size hinb).WholeWords (EltTy.packing .bf16)) ∧
  (∀ (hinb : ∀ a, (k0_off101 v767) a + S1x512x512.size a ≤ S16x512x512.size a), (Rect.unit (s := S16x512x512) (k0_off101 v767) S1x512x512.size hinb).WholeWords (EltTy.packing .bf16)) ∧
  (∀ a, (k0_off105 v767) a + S1x512x512.size a ≤ S16x512x512.size a)
theorem k0_off100_inb : ∀ (d0 : Dev nD) (v767 : BitVec 32) (k0_hw33 : k0_chk33 d0 v767), ∀ a, (k0_off100 v767) a + S1.size a ≤ S16.size a := fun d0 v767 k0_hw33 => k0_hw33.1
theorem k0_off101_inb : ∀ (d0 : Dev nD) (v767 : BitVec 32) (k0_hw33 : k0_chk33 d0 v767), ∀ a, (k0_off101 v767) a + S1x512x512.size a ≤ S16x512x512.size a := fun d0 v767 k0_hw33 => k0_hw33.2.1
theorem k0_off102_inb : ∀ (d0 : Dev nD) (v767 : BitVec 32) (k0_hw33 : k0_chk33 d0 v767), ∀ a, (k0_off102 d0 v767) a + S512x512.size a ≤ S8192x512.size a := fun d0 v767 k0_hw33 => k0_hw33.2.2.1
theorem k0_off102_wordsbf16 : ∀ (d0 : Dev nD) (v767 : BitVec 32) (k0_hw33 : k0_chk33 d0 v767), (Rect.unit (s := S8192x512) (k0_off102 d0 v767) S512x512.size (k0_off102_inb d0 v767 k0_hw33)).WholeWords (EltTy.packing .bf16) := fun d0 v767 k0_hw33 => k0_hw33.2.2.2.1 (k0_off102_inb d0 v767 k0_hw33)
theorem k0_off101_wordsbf16 : ∀ (d0 : Dev nD) (v767 : BitVec 32) (k0_hw33 : k0_chk33 d0 v767), (Rect.unit (s := S16x512x512) (k0_off101 v767) S1x512x512.size (k0_off101_inb d0 v767 k0_hw33)).WholeWords (EltTy.packing .bf16) := fun d0 v767 k0_hw33 => k0_hw33.2.2.2.2.1 (k0_off101_inb d0 v767 k0_hw33)
theorem k0_off105_inb : ∀ (d0 : Dev nD) (v767 : BitVec 32) (k0_hw33 : k0_chk33 d0 v767), ∀ a, (k0_off105 v767) a + S1x512x512.size a ≤ S16x512x512.size a := fun d0 v767 k0_hw33 => k0_hw33.2.2.2.2.2

def k0_off106 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v801 : Index := Scalar.indexCast v2
  let c12 : Index := 12#32
  ![v801.toNat, 12]
def k0_off107 (d0 : Dev nD) (v802 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v803 : BitVec 32 := Scalar.subi v2 v802
  let c16_i32_668 : BitVec 32 := 16#32
  let v804 : BitVec 32 := Scalar.addi v803 c16_i32_668
  let c16_i32_669 : BitVec 32 := 16#32
  let v805 : BitVec 32 := Scalar.remsi v804 c16_i32_669
  let c512_i32_670 : BitVec 32 := 512#32
  let v806 : BitVec 32 := Scalar.muli v805 c512_i32_670
  let c0_i32_671 : BitVec 32 := 0#32
  let v807 : BitVec 32 := Scalar.addi v806 c0_i32_671
  let c0_i32_676 : BitVec 32 := 0#32
  ![v807.toNat, 0]

def k0_chk35 (d0 : Dev nD) (v802 : BitVec 32) : Prop :=
  (∀ a, (k0_off107 d0 v802) a + S512x4096.size a ≤ S8192x4096.size a)
theorem k0_off107_inb : ∀ (d0 : Dev nD) (v802 : BitVec 32) (k0_hw35 : k0_chk35 d0 v802), ∀ a, (k0_off107 d0 v802) a + S512x4096.size a ≤ S8192x4096.size a := fun d0 v802 k0_hw35 => k0_hw35

def k0_off108 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v813 : Index := Scalar.indexCast v2
  let c11_677 : Index := 11#32
  ![v813.toNat, 11]
def k0_off109 (v814 : BitVec 32) : Fin 1 → Nat :=
  ![v814.toNat]

def k0_off110 (v814 : BitVec 32) : Fin 3 → Nat :=
  let c0_i32_682 : BitVec 32 := 0#32
  let c0_i32_683 : BitVec 32 := 0#32
  ![v814.toNat, 0, 0]
def k0_off111 (d0 : Dev nD) (v814 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v815 : BitVec 32 := Scalar.addi v2 v814
  let c16_i32_678 : BitVec 32 := 16#32
  let v816 : BitVec 32 := Scalar.remsi v815 c16_i32_678
  let c512_i32_679 : BitVec 32 := 512#32
  let v817 : BitVec 32 := Scalar.muli v816 c512_i32_679
  let c0_i32_684 : BitVec 32 := 0#32
  ![v817.toNat, 0]
def k0_off112 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v825 : Index := Scalar.indexCast v2
  let c11_685 : Index := 11#32
  ![v825.toNat, 11]
def k0_off113 (d0 : Dev nD) (v826 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v827 : BitVec 32 := Scalar.subi v2 v826
  let c16_i32_686 : BitVec 32 := 16#32
  let v828 : BitVec 32 := Scalar.addi v827 c16_i32_686
  let c16_i32_687 : BitVec 32 := 16#32
  let v829 : BitVec 32 := Scalar.remsi v828 c16_i32_687
  let c512_i32_688 : BitVec 32 := 512#32
  let v830 : BitVec 32 := Scalar.muli v829 c512_i32_688
  let c0_i32_689 : BitVec 32 := 0#32
  let v831 : BitVec 32 := Scalar.addi v830 c0_i32_689
  let c0_i32_694 : BitVec 32 := 0#32
  ![v831.toNat, 0]

def k0_chk37 (d0 : Dev nD) (v826 : BitVec 32) : Prop :=
  (∀ a, (k0_off113 d0 v826) a + S512x4096.size a ≤ S8192x4096.size a)
theorem k0_off113_inb : ∀ (d0 : Dev nD) (v826 : BitVec 32) (k0_hw37 : k0_chk37 d0 v826), ∀ a, (k0_off113 d0 v826) a + S512x4096.size a ≤ S8192x4096.size a := fun d0 v826 k0_hw37 => k0_hw37

def k0_off114 (v814 : BitVec 32) : Fin 3 → Nat :=
  let v840 : Index := Scalar.indexCast v814
  let c0_698 : Index := 0#32
  let c0_699 : Index := 0#32
  ![v840.toNat, 0, 0]

def k0_chk36 (d0 : Dev nD) (v814 : BitVec 32) : Prop :=
  (∀ a, (k0_off109 v814) a + S1.size a ≤ S16.size a) ∧
  (∀ a, (k0_off110 v814) a + S1x512x512.size a ≤ S16x512x512.size a) ∧
  (∀ a, (k0_off111 d0 v814) a + S512x512.size a ≤ S8192x512.size a) ∧
  (∀ (hinb : ∀ a, (k0_off111 d0 v814) a + S512x512.size a ≤ S8192x512.size a), (Rect.unit (s := S8192x512) (k0_off111 d0 v814) S512x512.size hinb).WholeWords (EltTy.packing .bf16)) ∧
  (∀ (hinb : ∀ a, (k0_off110 v814) a + S1x512x512.size a ≤ S16x512x512.size a), (Rect.unit (s := S16x512x512) (k0_off110 v814) S1x512x512.size hinb).WholeWords (EltTy.packing .bf16)) ∧
  (∀ a, (k0_off114 v814) a + S1x512x512.size a ≤ S16x512x512.size a)
theorem k0_off109_inb : ∀ (d0 : Dev nD) (v814 : BitVec 32) (k0_hw36 : k0_chk36 d0 v814), ∀ a, (k0_off109 v814) a + S1.size a ≤ S16.size a := fun d0 v814 k0_hw36 => k0_hw36.1
theorem k0_off110_inb : ∀ (d0 : Dev nD) (v814 : BitVec 32) (k0_hw36 : k0_chk36 d0 v814), ∀ a, (k0_off110 v814) a + S1x512x512.size a ≤ S16x512x512.size a := fun d0 v814 k0_hw36 => k0_hw36.2.1
theorem k0_off111_inb : ∀ (d0 : Dev nD) (v814 : BitVec 32) (k0_hw36 : k0_chk36 d0 v814), ∀ a, (k0_off111 d0 v814) a + S512x512.size a ≤ S8192x512.size a := fun d0 v814 k0_hw36 => k0_hw36.2.2.1
theorem k0_off111_wordsbf16 : ∀ (d0 : Dev nD) (v814 : BitVec 32) (k0_hw36 : k0_chk36 d0 v814), (Rect.unit (s := S8192x512) (k0_off111 d0 v814) S512x512.size (k0_off111_inb d0 v814 k0_hw36)).WholeWords (EltTy.packing .bf16) := fun d0 v814 k0_hw36 => k0_hw36.2.2.2.1 (k0_off111_inb d0 v814 k0_hw36)
theorem k0_off110_wordsbf16 : ∀ (d0 : Dev nD) (v814 : BitVec 32) (k0_hw36 : k0_chk36 d0 v814), (Rect.unit (s := S16x512x512) (k0_off110 v814) S1x512x512.size (k0_off110_inb d0 v814 k0_hw36)).WholeWords (EltTy.packing .bf16) := fun d0 v814 k0_hw36 => k0_hw36.2.2.2.2.1 (k0_off110_inb d0 v814 k0_hw36)
theorem k0_off114_inb : ∀ (d0 : Dev nD) (v814 : BitVec 32) (k0_hw36 : k0_chk36 d0 v814), ∀ a, (k0_off114 v814) a + S1x512x512.size a ≤ S16x512x512.size a := fun d0 v814 k0_hw36 => k0_hw36.2.2.2.2.2

def k0_off115 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v848 : Index := Scalar.indexCast v2
  let c13 : Index := 13#32
  ![v848.toNat, 13]
def k0_off116 (d0 : Dev nD) (v849 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v850 : BitVec 32 := Scalar.subi v2 v849
  let c16_i32_705 : BitVec 32 := 16#32
  let v851 : BitVec 32 := Scalar.addi v850 c16_i32_705
  let c16_i32_706 : BitVec 32 := 16#32
  let v852 : BitVec 32 := Scalar.remsi v851 c16_i32_706
  let c512_i32_707 : BitVec 32 := 512#32
  let v853 : BitVec 32 := Scalar.muli v852 c512_i32_707
  let c0_i32_708 : BitVec 32 := 0#32
  let v854 : BitVec 32 := Scalar.addi v853 c0_i32_708
  let c0_i32_713 : BitVec 32 := 0#32
  ![v854.toNat, 0]

def k0_chk38 (d0 : Dev nD) (v849 : BitVec 32) : Prop :=
  (∀ a, (k0_off116 d0 v849) a + S512x4096.size a ≤ S8192x4096.size a)
theorem k0_off116_inb : ∀ (d0 : Dev nD) (v849 : BitVec 32) (k0_hw38 : k0_chk38 d0 v849), ∀ a, (k0_off116 d0 v849) a + S512x4096.size a ≤ S8192x4096.size a := fun d0 v849 k0_hw38 => k0_hw38

def k0_off117 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v860 : Index := Scalar.indexCast v2
  let c12_714 : Index := 12#32
  ![v860.toNat, 12]
def k0_off118 (v861 : BitVec 32) : Fin 1 → Nat :=
  ![v861.toNat]

def k0_off119 (v861 : BitVec 32) : Fin 3 → Nat :=
  let c0_i32_719 : BitVec 32 := 0#32
  let c0_i32_720 : BitVec 32 := 0#32
  ![v861.toNat, 0, 0]
def k0_off120 (d0 : Dev nD) (v861 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v862 : BitVec 32 := Scalar.addi v2 v861
  let c16_i32_715 : BitVec 32 := 16#32
  let v863 : BitVec 32 := Scalar.remsi v862 c16_i32_715
  let c512_i32_716 : BitVec 32 := 512#32
  let v864 : BitVec 32 := Scalar.muli v863 c512_i32_716
  let c0_i32_721 : BitVec 32 := 0#32
  ![v864.toNat, 0]
def k0_off121 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v872 : Index := Scalar.indexCast v2
  let c12_722 : Index := 12#32
  ![v872.toNat, 12]
def k0_off122 (d0 : Dev nD) (v873 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v874 : BitVec 32 := Scalar.subi v2 v873
  let c16_i32_723 : BitVec 32 := 16#32
  let v875 : BitVec 32 := Scalar.addi v874 c16_i32_723
  let c16_i32_724 : BitVec 32 := 16#32
  let v876 : BitVec 32 := Scalar.remsi v875 c16_i32_724
  let c512_i32_725 : BitVec 32 := 512#32
  let v877 : BitVec 32 := Scalar.muli v876 c512_i32_725
  let c0_i32_726 : BitVec 32 := 0#32
  let v878 : BitVec 32 := Scalar.addi v877 c0_i32_726
  let c0_i32_731 : BitVec 32 := 0#32
  ![v878.toNat, 0]

def k0_chk40 (d0 : Dev nD) (v873 : BitVec 32) : Prop :=
  (∀ a, (k0_off122 d0 v873) a + S512x4096.size a ≤ S8192x4096.size a)
theorem k0_off122_inb : ∀ (d0 : Dev nD) (v873 : BitVec 32) (k0_hw40 : k0_chk40 d0 v873), ∀ a, (k0_off122 d0 v873) a + S512x4096.size a ≤ S8192x4096.size a := fun d0 v873 k0_hw40 => k0_hw40

def k0_off123 (v861 : BitVec 32) : Fin 3 → Nat :=
  let v887 : Index := Scalar.indexCast v861
  let c0_735 : Index := 0#32
  let c0_736 : Index := 0#32
  ![v887.toNat, 0, 0]

def k0_chk39 (d0 : Dev nD) (v861 : BitVec 32) : Prop :=
  (∀ a, (k0_off118 v861) a + S1.size a ≤ S16.size a) ∧
  (∀ a, (k0_off119 v861) a + S1x512x512.size a ≤ S16x512x512.size a) ∧
  (∀ a, (k0_off120 d0 v861) a + S512x512.size a ≤ S8192x512.size a) ∧
  (∀ (hinb : ∀ a, (k0_off120 d0 v861) a + S512x512.size a ≤ S8192x512.size a), (Rect.unit (s := S8192x512) (k0_off120 d0 v861) S512x512.size hinb).WholeWords (EltTy.packing .bf16)) ∧
  (∀ (hinb : ∀ a, (k0_off119 v861) a + S1x512x512.size a ≤ S16x512x512.size a), (Rect.unit (s := S16x512x512) (k0_off119 v861) S1x512x512.size hinb).WholeWords (EltTy.packing .bf16)) ∧
  (∀ a, (k0_off123 v861) a + S1x512x512.size a ≤ S16x512x512.size a)
theorem k0_off118_inb : ∀ (d0 : Dev nD) (v861 : BitVec 32) (k0_hw39 : k0_chk39 d0 v861), ∀ a, (k0_off118 v861) a + S1.size a ≤ S16.size a := fun d0 v861 k0_hw39 => k0_hw39.1
theorem k0_off119_inb : ∀ (d0 : Dev nD) (v861 : BitVec 32) (k0_hw39 : k0_chk39 d0 v861), ∀ a, (k0_off119 v861) a + S1x512x512.size a ≤ S16x512x512.size a := fun d0 v861 k0_hw39 => k0_hw39.2.1
theorem k0_off120_inb : ∀ (d0 : Dev nD) (v861 : BitVec 32) (k0_hw39 : k0_chk39 d0 v861), ∀ a, (k0_off120 d0 v861) a + S512x512.size a ≤ S8192x512.size a := fun d0 v861 k0_hw39 => k0_hw39.2.2.1
theorem k0_off120_wordsbf16 : ∀ (d0 : Dev nD) (v861 : BitVec 32) (k0_hw39 : k0_chk39 d0 v861), (Rect.unit (s := S8192x512) (k0_off120 d0 v861) S512x512.size (k0_off120_inb d0 v861 k0_hw39)).WholeWords (EltTy.packing .bf16) := fun d0 v861 k0_hw39 => k0_hw39.2.2.2.1 (k0_off120_inb d0 v861 k0_hw39)
theorem k0_off119_wordsbf16 : ∀ (d0 : Dev nD) (v861 : BitVec 32) (k0_hw39 : k0_chk39 d0 v861), (Rect.unit (s := S16x512x512) (k0_off119 v861) S1x512x512.size (k0_off119_inb d0 v861 k0_hw39)).WholeWords (EltTy.packing .bf16) := fun d0 v861 k0_hw39 => k0_hw39.2.2.2.2.1 (k0_off119_inb d0 v861 k0_hw39)
theorem k0_off123_inb : ∀ (d0 : Dev nD) (v861 : BitVec 32) (k0_hw39 : k0_chk39 d0 v861), ∀ a, (k0_off123 v861) a + S1x512x512.size a ≤ S16x512x512.size a := fun d0 v861 k0_hw39 => k0_hw39.2.2.2.2.2

def k0_off124 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v895 : Index := Scalar.indexCast v2
  let c14 : Index := 14#32
  ![v895.toNat, 14]
def k0_off125 (d0 : Dev nD) (v896 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v897 : BitVec 32 := Scalar.subi v2 v896
  let c16_i32_742 : BitVec 32 := 16#32
  let v898 : BitVec 32 := Scalar.addi v897 c16_i32_742
  let c16_i32_743 : BitVec 32 := 16#32
  let v899 : BitVec 32 := Scalar.remsi v898 c16_i32_743
  let c512_i32_744 : BitVec 32 := 512#32
  let v900 : BitVec 32 := Scalar.muli v899 c512_i32_744
  let c0_i32_745 : BitVec 32 := 0#32
  let v901 : BitVec 32 := Scalar.addi v900 c0_i32_745
  let c0_i32_750 : BitVec 32 := 0#32
  ![v901.toNat, 0]

def k0_chk41 (d0 : Dev nD) (v896 : BitVec 32) : Prop :=
  (∀ a, (k0_off125 d0 v896) a + S512x4096.size a ≤ S8192x4096.size a)
theorem k0_off125_inb : ∀ (d0 : Dev nD) (v896 : BitVec 32) (k0_hw41 : k0_chk41 d0 v896), ∀ a, (k0_off125 d0 v896) a + S512x4096.size a ≤ S8192x4096.size a := fun d0 v896 k0_hw41 => k0_hw41

def k0_off126 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v907 : Index := Scalar.indexCast v2
  let c13_751 : Index := 13#32
  ![v907.toNat, 13]
def k0_off127 (v908 : BitVec 32) : Fin 1 → Nat :=
  ![v908.toNat]

def k0_off128 (v908 : BitVec 32) : Fin 3 → Nat :=
  let c0_i32_756 : BitVec 32 := 0#32
  let c0_i32_757 : BitVec 32 := 0#32
  ![v908.toNat, 0, 0]
def k0_off129 (d0 : Dev nD) (v908 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v909 : BitVec 32 := Scalar.addi v2 v908
  let c16_i32_752 : BitVec 32 := 16#32
  let v910 : BitVec 32 := Scalar.remsi v909 c16_i32_752
  let c512_i32_753 : BitVec 32 := 512#32
  let v911 : BitVec 32 := Scalar.muli v910 c512_i32_753
  let c0_i32_758 : BitVec 32 := 0#32
  ![v911.toNat, 0]
def k0_off130 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v919 : Index := Scalar.indexCast v2
  let c13_759 : Index := 13#32
  ![v919.toNat, 13]
def k0_off131 (d0 : Dev nD) (v920 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v921 : BitVec 32 := Scalar.subi v2 v920
  let c16_i32_760 : BitVec 32 := 16#32
  let v922 : BitVec 32 := Scalar.addi v921 c16_i32_760
  let c16_i32_761 : BitVec 32 := 16#32
  let v923 : BitVec 32 := Scalar.remsi v922 c16_i32_761
  let c512_i32_762 : BitVec 32 := 512#32
  let v924 : BitVec 32 := Scalar.muli v923 c512_i32_762
  let c0_i32_763 : BitVec 32 := 0#32
  let v925 : BitVec 32 := Scalar.addi v924 c0_i32_763
  let c0_i32_768 : BitVec 32 := 0#32
  ![v925.toNat, 0]

def k0_chk43 (d0 : Dev nD) (v920 : BitVec 32) : Prop :=
  (∀ a, (k0_off131 d0 v920) a + S512x4096.size a ≤ S8192x4096.size a)
theorem k0_off131_inb : ∀ (d0 : Dev nD) (v920 : BitVec 32) (k0_hw43 : k0_chk43 d0 v920), ∀ a, (k0_off131 d0 v920) a + S512x4096.size a ≤ S8192x4096.size a := fun d0 v920 k0_hw43 => k0_hw43

def k0_off132 (v908 : BitVec 32) : Fin 3 → Nat :=
  let v934 : Index := Scalar.indexCast v908
  let c0_772 : Index := 0#32
  let c0_773 : Index := 0#32
  ![v934.toNat, 0, 0]

def k0_chk42 (d0 : Dev nD) (v908 : BitVec 32) : Prop :=
  (∀ a, (k0_off127 v908) a + S1.size a ≤ S16.size a) ∧
  (∀ a, (k0_off128 v908) a + S1x512x512.size a ≤ S16x512x512.size a) ∧
  (∀ a, (k0_off129 d0 v908) a + S512x512.size a ≤ S8192x512.size a) ∧
  (∀ (hinb : ∀ a, (k0_off129 d0 v908) a + S512x512.size a ≤ S8192x512.size a), (Rect.unit (s := S8192x512) (k0_off129 d0 v908) S512x512.size hinb).WholeWords (EltTy.packing .bf16)) ∧
  (∀ (hinb : ∀ a, (k0_off128 v908) a + S1x512x512.size a ≤ S16x512x512.size a), (Rect.unit (s := S16x512x512) (k0_off128 v908) S1x512x512.size hinb).WholeWords (EltTy.packing .bf16)) ∧
  (∀ a, (k0_off132 v908) a + S1x512x512.size a ≤ S16x512x512.size a)
theorem k0_off127_inb : ∀ (d0 : Dev nD) (v908 : BitVec 32) (k0_hw42 : k0_chk42 d0 v908), ∀ a, (k0_off127 v908) a + S1.size a ≤ S16.size a := fun d0 v908 k0_hw42 => k0_hw42.1
theorem k0_off128_inb : ∀ (d0 : Dev nD) (v908 : BitVec 32) (k0_hw42 : k0_chk42 d0 v908), ∀ a, (k0_off128 v908) a + S1x512x512.size a ≤ S16x512x512.size a := fun d0 v908 k0_hw42 => k0_hw42.2.1
theorem k0_off129_inb : ∀ (d0 : Dev nD) (v908 : BitVec 32) (k0_hw42 : k0_chk42 d0 v908), ∀ a, (k0_off129 d0 v908) a + S512x512.size a ≤ S8192x512.size a := fun d0 v908 k0_hw42 => k0_hw42.2.2.1
theorem k0_off129_wordsbf16 : ∀ (d0 : Dev nD) (v908 : BitVec 32) (k0_hw42 : k0_chk42 d0 v908), (Rect.unit (s := S8192x512) (k0_off129 d0 v908) S512x512.size (k0_off129_inb d0 v908 k0_hw42)).WholeWords (EltTy.packing .bf16) := fun d0 v908 k0_hw42 => k0_hw42.2.2.2.1 (k0_off129_inb d0 v908 k0_hw42)
theorem k0_off128_wordsbf16 : ∀ (d0 : Dev nD) (v908 : BitVec 32) (k0_hw42 : k0_chk42 d0 v908), (Rect.unit (s := S16x512x512) (k0_off128 v908) S1x512x512.size (k0_off128_inb d0 v908 k0_hw42)).WholeWords (EltTy.packing .bf16) := fun d0 v908 k0_hw42 => k0_hw42.2.2.2.2.1 (k0_off128_inb d0 v908 k0_hw42)
theorem k0_off132_inb : ∀ (d0 : Dev nD) (v908 : BitVec 32) (k0_hw42 : k0_chk42 d0 v908), ∀ a, (k0_off132 v908) a + S1x512x512.size a ≤ S16x512x512.size a := fun d0 v908 k0_hw42 => k0_hw42.2.2.2.2.2

def k0_off133 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v942 : Index := Scalar.indexCast v2
  let c14_779 : Index := 14#32
  ![v942.toNat, 14]
def k0_off134 (v943 : BitVec 32) : Fin 1 → Nat :=
  ![v943.toNat]

def k0_off135 (v943 : BitVec 32) : Fin 3 → Nat :=
  let c0_i32_784 : BitVec 32 := 0#32
  let c0_i32_785 : BitVec 32 := 0#32
  ![v943.toNat, 0, 0]
def k0_off136 (d0 : Dev nD) (v943 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v944 : BitVec 32 := Scalar.addi v2 v943
  let c16_i32_780 : BitVec 32 := 16#32
  let v945 : BitVec 32 := Scalar.remsi v944 c16_i32_780
  let c512_i32_781 : BitVec 32 := 512#32
  let v946 : BitVec 32 := Scalar.muli v945 c512_i32_781
  let c0_i32_786 : BitVec 32 := 0#32
  ![v946.toNat, 0]
def k0_off137 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v954 : Index := Scalar.indexCast v2
  let c14_787 : Index := 14#32
  ![v954.toNat, 14]
def k0_off138 (d0 : Dev nD) (v955 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v956 : BitVec 32 := Scalar.subi v2 v955
  let c16_i32_788 : BitVec 32 := 16#32
  let v957 : BitVec 32 := Scalar.addi v956 c16_i32_788
  let c16_i32_789 : BitVec 32 := 16#32
  let v958 : BitVec 32 := Scalar.remsi v957 c16_i32_789
  let c512_i32_790 : BitVec 32 := 512#32
  let v959 : BitVec 32 := Scalar.muli v958 c512_i32_790
  let c0_i32_791 : BitVec 32 := 0#32
  let v960 : BitVec 32 := Scalar.addi v959 c0_i32_791
  let c0_i32_796 : BitVec 32 := 0#32
  ![v960.toNat, 0]

def k0_chk45 (d0 : Dev nD) (v955 : BitVec 32) : Prop :=
  (∀ a, (k0_off138 d0 v955) a + S512x4096.size a ≤ S8192x4096.size a)
theorem k0_off138_inb : ∀ (d0 : Dev nD) (v955 : BitVec 32) (k0_hw45 : k0_chk45 d0 v955), ∀ a, (k0_off138 d0 v955) a + S512x4096.size a ≤ S8192x4096.size a := fun d0 v955 k0_hw45 => k0_hw45

def k0_off139 (v943 : BitVec 32) : Fin 3 → Nat :=
  let v969 : Index := Scalar.indexCast v943
  let c0_800 : Index := 0#32
  let c0_801 : Index := 0#32
  ![v969.toNat, 0, 0]

def k0_chk44 (d0 : Dev nD) (v943 : BitVec 32) : Prop :=
  (∀ a, (k0_off134 v943) a + S1.size a ≤ S16.size a) ∧
  (∀ a, (k0_off135 v943) a + S1x512x512.size a ≤ S16x512x512.size a) ∧
  (∀ a, (k0_off136 d0 v943) a + S512x512.size a ≤ S8192x512.size a) ∧
  (∀ (hinb : ∀ a, (k0_off136 d0 v943) a + S512x512.size a ≤ S8192x512.size a), (Rect.unit (s := S8192x512) (k0_off136 d0 v943) S512x512.size hinb).WholeWords (EltTy.packing .bf16)) ∧
  (∀ (hinb : ∀ a, (k0_off135 v943) a + S1x512x512.size a ≤ S16x512x512.size a), (Rect.unit (s := S16x512x512) (k0_off135 v943) S1x512x512.size hinb).WholeWords (EltTy.packing .bf16)) ∧
  (∀ a, (k0_off139 v943) a + S1x512x512.size a ≤ S16x512x512.size a)
theorem k0_off134_inb : ∀ (d0 : Dev nD) (v943 : BitVec 32) (k0_hw44 : k0_chk44 d0 v943), ∀ a, (k0_off134 v943) a + S1.size a ≤ S16.size a := fun d0 v943 k0_hw44 => k0_hw44.1
theorem k0_off135_inb : ∀ (d0 : Dev nD) (v943 : BitVec 32) (k0_hw44 : k0_chk44 d0 v943), ∀ a, (k0_off135 v943) a + S1x512x512.size a ≤ S16x512x512.size a := fun d0 v943 k0_hw44 => k0_hw44.2.1
theorem k0_off136_inb : ∀ (d0 : Dev nD) (v943 : BitVec 32) (k0_hw44 : k0_chk44 d0 v943), ∀ a, (k0_off136 d0 v943) a + S512x512.size a ≤ S8192x512.size a := fun d0 v943 k0_hw44 => k0_hw44.2.2.1
theorem k0_off136_wordsbf16 : ∀ (d0 : Dev nD) (v943 : BitVec 32) (k0_hw44 : k0_chk44 d0 v943), (Rect.unit (s := S8192x512) (k0_off136 d0 v943) S512x512.size (k0_off136_inb d0 v943 k0_hw44)).WholeWords (EltTy.packing .bf16) := fun d0 v943 k0_hw44 => k0_hw44.2.2.2.1 (k0_off136_inb d0 v943 k0_hw44)
theorem k0_off135_wordsbf16 : ∀ (d0 : Dev nD) (v943 : BitVec 32) (k0_hw44 : k0_chk44 d0 v943), (Rect.unit (s := S16x512x512) (k0_off135 v943) S1x512x512.size (k0_off135_inb d0 v943 k0_hw44)).WholeWords (EltTy.packing .bf16) := fun d0 v943 k0_hw44 => k0_hw44.2.2.2.2.1 (k0_off135_inb d0 v943 k0_hw44)
theorem k0_off139_inb : ∀ (d0 : Dev nD) (v943 : BitVec 32) (k0_hw44 : k0_chk44 d0 v943), ∀ a, (k0_off139 v943) a + S1x512x512.size a ≤ S16x512x512.size a := fun d0 v943 k0_hw44 => k0_hw44.2.2.2.2.2

def k0_off140 (d0 : Dev nD) (c1_i32_808 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v979 : BitVec 32 := Scalar.addi v2 c1_i32_808
  let c16_i32_809 : BitVec 32 := 16#32
  let v980 : BitVec 32 := Scalar.remsi v979 c16_i32_809
  let c512_i32_810 : BitVec 32 := 512#32
  let v981 : BitVec 32 := Scalar.muli v980 c512_i32_810
  let c0_i32_815 : BitVec 32 := 0#32
  ![v981.toNat, 0]
abbrev stage0_0 : Fin 1 → Memref sig .tc .vmem S8192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16x15 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Table.lean ====
/-
  The table of peers and the arithmetic of the ring of sixteen devices.

  Row `c` of the kernel's constant table lists, in the order device `c` visits them, the distances (1 to 15) to the
  devices whose blocks it multiplies after its own. A distance is carried here as an index `j : Fin 15`, standing
  for the distance `j + 1`.
-/
module

public import proofs.«01_k».proof.Proof.Gen.KernelIdeal
public import Idealize.ShloMosaic.Lib.PointwiseCore

@[expose] public section

noncomputable section

namespace Cert.Exchange

open Cert.KernelIdeal Cert.KernelIdeal.Gen
open Idealize.ShloMosaic

/-! ## Neighbours -/

/-- The device at distance `j + 1` after `c`. -/
def up (c : Dev nD) (j : Fin 15) : Dev nD := ⟨(c.val + (j.val + 1)) % 16, Nat.mod_lt _ (by decide)⟩
/-- The device at distance `j + 1` before `c`. -/
def dn (c : Dev nD) (j : Fin 15) : Dev nD := ⟨(c.val + (15 - j.val)) % 16, Nat.mod_lt _ (by decide)⟩
/-- The complementary distance: `(j + 1) + (flip j + 1) = 16`. -/
def flip (j : Fin 15) : Fin 15 := ⟨14 - j.val, by omega⟩

theorem flip_flip (j : Fin 15) : flip (flip j) = j := by revert j; decide
theorem dn_up (c : Dev nD) (j : Fin 15) : dn (up c j) j = c := by revert c j; decide +kernel
theorem up_dn (c : Dev nD) (j : Fin 15) : up (dn c j) j = c := by revert c j; decide +kernel
theorem up_flip (c : Dev nD) (j : Fin 15) : up c (flip j) = dn c j := by revert c j; decide +kernel
theorem dn_flip (c : Dev nD) (j : Fin 15) : dn c (flip j) = up c j := by revert c j; decide +kernel
theorem up_ne (c : Dev nD) (j : Fin 15) : up c j ≠ c := by revert c j; decide +kernel
theorem up_inj (c : Dev nD) (i j : Fin 15) (h : up c i = up c j) : i = j := by revert c i j; decide +kernel

/-- Going `j + 1` devices forward is a permutation of the devices. -/
def rot (j : Fin 15) : Dev nD ≃ Dev nD := ⟨fun c => up c j, fun c => dn c j, fun c => dn_up c j, fun c => up_dn c j⟩
/-- Going to the complementary distance is a permutation of the distances. -/
def flipE : Fin 15 ≃ Fin 15 := ⟨flip, flip, flip_flip, flip_flip⟩

/-! ## The table -/

/-- The word of the table at row `c`, column `n`. -/
def tw (c : Dev nD) (n : Fin 15) : BitVec 32 := lit0 (S16x15.rowMajor (ix2 (n0 := 16) (n1 := 15) c n))
/-- The distance that word names, as an index. -/
def ord (c : Dev nD) (n : Fin 15) : Fin 15 := ⟨((tw c n).toNat - 1) % 15, Nat.mod_lt _ (by decide)⟩

theorem tw_eq (c : Dev nD) (n : Fin 15) : tw c n = BitVec.ofNat 32 ((ord c n).val + 1) := by revert c n; decide +kernel
theorem ord_inj (c : Dev nD) (i j : Fin 15) (h : ord c i = ord c j) : i = j := by revert c i j; decide +kernel

/-- Row `c` of the table as a permutation of the distances. -/
def ordE (c : Dev nD) : Fin 15 ≃ Fin 15 := Equiv.ofBijective (ord c) (Finite.injective_iff_bijective.mp fun i j => ord_inj c i j)

theorem ordE_apply (c : Dev nD) (n : Fin 15) : ordE c n = ord c n := rfl

end Cert.Exchange

end
-- ==== Proof.Cells.lean ====
/-
  The cells of the exchange, what each landing hands over, and the schedule that says so.

  Device `c` owns thirty-one semaphores that others count on. Its barrier semaphore receives one unit from each of
  the fifteen other devices; the unit of the device at distance `j + 1` before it brings that device's slot of the
  receive buffer which `c` will fill. Its send semaphore `j` receives the copy to the device at distance `j + 1`
  once the block has been read, and gives that block of `x` back. Its receive semaphore `j` receives the copy of the
  device at distance `j + 1` before it, and gives slot `j + 1` back filled with that device's block.
-/
module

public import proofs.«01_k».proof.Proof.Table
public import proofs.«01_k».proof.Proof.Gen.KernelIdeal.Launch
public import proofs.«01_k».proof.Proof.Gen.KernelIdeal.Points
public import Idealize.ShloMosaic.Lib.Rounds
public import Idealize.ShloMosaic.Lib.Transfers
public import Idealize.ShloMosaic.Lib.Ring
public import Idealize.ShloMosaic.Lib.ViewIndex

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The protocol's component: rounds with fifteen duty names. -/
abbrev UB : Type := URounds (GSem nD τ sig) (Fin 15)
/-- The pipeline's component, the protocol's, and the counters of the local copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := Emb.inl.trans embR
abbrev EC : UEmb Counters (MT nD τ sig Unit (Elt F) ℕ UU ℕ) := countersEmb

/-! ## Semaphores and cells -/

abbrev barS : Sem sig := (SemArray.scalar (sig.barrier 0 rfl) : Sems sig S_).sem
/-- The semaphore of the copy to the device at distance `j + 1`. -/
def sendS (j : Fin 15) : DmaSem sig := ⟨4 + j.val, by have := j.isLt; show 4 + j.val < 37; omega⟩
/-- The semaphore of the copy from the device at distance `j + 1` before. -/
def recvS (j : Fin 15) : DmaSem sig := ⟨20 + j.val, by have := j.isLt; show 20 + j.val < 37; omega⟩
/-- The semaphore of the buffer half `p` for the blocks of `w`. -/
def wS (p : Fin 2) : DmaSem sig := ⟨35 + p.val, by have := p.isLt; show 35 + p.val < 37; omega⟩

theorem sendS_inj {i j : Fin 15} (h : sendS i = sendS j) : i = j := by
  have := congrArg Fin.val h; simp only [sendS] at this; exact Fin.ext (by omega)
theorem recvS_inj {i j : Fin 15} (h : recvS i = recvS j) : i = j := by
  have := congrArg Fin.val h; simp only [recvS] at this; exact Fin.ext (by omega)
theorem send_ne_recv (i j : Fin 15) : sendS i ≠ recvS j := fun h => by
  have := congrArg Fin.val h; simp only [sendS, recvS] at this; omega

abbrev barCell (c : Dev nD) : GSem nD τ sig := ((c : Thread nD τ), .reg barS)
abbrev sendCell (c : Dev nD) (j : Fin 15) : GSem nD τ sig := ((c : Thread nD τ), .dma (sendS j))
abbrev recvCell (c : Dev nD) (j : Fin 15) : GSem nD τ sig := ((c : Thread nD τ), .dma (recvS j))
abbrev wCell (c : Dev nD) (p : Fin 2) : GSem nD τ sig := ((c : Thread nD τ), .dma (wS p))

/-! ## Windows onto the buffers -/

abbrev xM : Memref sig .tc .vmem S8192x512 .bf16 := Memref.whole cc0_stg0_0
abbrev tM : Memref sig .tc .smem S16x15 .i32 := Memref.whole cc0_stg1_0
abbrev oM : Memref sig .tc .vmem S512x4096 .f32 := Memref.whole cc0_stg2_0
abbrev rM : Memref sig .tc .vmem S16x512x512 .bf16 := Memref.whole cc0_scratch0
abbrev bM : Memref sig .tc .vmem S2x512x4096 .f32 := Memref.whole cc0_scratch1
abbrev wM : Memref sig .tc .hbm S8192x4096 .f32 := Memref.whole main_arg1

theorem row_inb (d : Fin 16) : ∀ a, (![512 * d.val, 0] : Fin 2 → ℕ) a + S512x512.size a ≤ S8192x512.size a := by revert d; decide
theorem slot_inb (k : Fin 16) : ∀ a, (![k.val, 0, 0] : Fin 3 → ℕ) a + S1x512x512.size a ≤ S16x512x512.size a := by revert k; decide
theorem wrow_inb (s : Fin 16) : ∀ a, (![512 * s.val, 0] : Fin 2 → ℕ) a + S512x4096.size a ≤ S8192x4096.size a := by revert s; decide
theorem half_inb (p : Fin 2) : ∀ a, (![p.val, 0, 0] : Fin 3 → ℕ) a + S1x512x4096.size a ≤ S2x512x4096.size a := by revert p; decide

/-- The rectangle of the rows of `x` that go to device `d`. -/
abbrev rowR (d : Fin 16) : Rect S8192x512 := Rect.unit (s := S8192x512) ![512 * d.val, 0] S512x512.size (row_inb d)
/-- The rectangle of slot `k` of the receive buffer. -/
abbrev slotR (k : Fin 16) : Rect S16x512x512 := Rect.unit (s := S16x512x512) ![k.val, 0, 0] S1x512x512.size (slot_inb k)
/-- The rectangle of the rows of `w` that device `s`'s block of `x` meets. -/
abbrev wrowR (s : Fin 16) : Rect S8192x4096 := Rect.unit (s := S8192x4096) ![512 * s.val, 0] S512x4096.size (wrow_inb s)
/-- The rectangle of half `p` of the buffer for the blocks of `w`. -/
abbrev halfR (p : Fin 2) : Rect S2x512x4096 := Rect.unit (s := S2x512x4096) ![p.val, 0, 0] S1x512x4096.size (half_inb p)

abbrev rowM (d : Fin 16) : Memref sig .tc .vmem S512x512 .bf16 := xM.slice (rowR d) (fun _ => rfl)
abbrev slotM (k : Fin 16) : Memref sig .tc .vmem S512x512 .bf16 := (rM.slice (slotR k) (fun _ => rfl)).squeeze S512x512 squeezes_S1x512x512_S512x512
abbrev wrowM (s : Fin 16) : Memref sig .tc .hbm S512x4096 .f32 := wM.slice (wrowR s) (fun _ => rfl)
abbrev halfM (p : Fin 2) : Memref sig .tc .vmem S512x4096 .f32 := (bM.slice (halfR p) (fun _ => rfl)).squeeze S512x4096 squeezes_S1x512x4096_S512x4096

/-- What one copy of a block of `x` pays. -/
abbrev NX : ℕ := (slotM 0).view.dmaCredit
/-- What one copy of a block of `w` pays. -/
abbrev NW : ℕ := (halfM 0).view.dmaCredit
theorem NX_pos : 0 < NX := View.dmaCredit_pos _ (by decide)
theorem NW_pos : 0 < NW := View.dmaCredit_pos _ (by decide)

/-! ## The set of elements under each window -/

theorem row_set (d : Fin 16) : (rowM d).view.set = (rowR d).set := View.set_slice_whole cc0_stg0_0 (rowR d)
theorem wrow_set (s : Fin 16) : (wrowM s).view.set = (wrowR s).set := View.set_slice_whole main_arg1 (wrowR s)
theorem slot_set (k : Fin 16) : (slotM k).view.set = (slotR k).set := by
  exact (View.set_reshape (rM.slice (slotR k) (fun _ => rfl)).view _).trans (View.set_slice_whole cc0_scratch0 (slotR k))
theorem half_set (p : Fin 2) : (halfM p).view.set = (halfR p).set := by
  exact (View.set_reshape (bM.slice (halfR p) (fun _ => rfl)).view _).trans (View.set_slice_whole cc0_scratch1 (halfR p))

/-! ## Contents -/

/-- Row `i` of block `d`. -/
def blk (d : Fin 16) (i : Fin 512) : Fin 8192 := ⟨512 * d.val + i.val, by have := d.isLt; have := i.isLt; omega⟩
/-- The device whose block fills slot `k` of device `c`'s receive buffer. -/
def src (c : Dev nD) (k : Fin 16) : Dev nD := ⟨(c.val + (16 - k.val)) % 16, Nat.mod_lt _ (by decide)⟩

theorem src_zero (c : Dev nD) : src c 0 = c := by revert c; decide
theorem src_succ (c : Dev nD) (j : Fin 15) : src c j.succ = dn c j := by revert c j; decide +kernel
theorem src_up (c : Dev nD) (j : Fin 15) : src (up c j) j.succ = c := by revert c j; decide +kernel

variable (X : Dev nD → (S8192x512.Idx → Elt F .bf16)) (Wm : Dev nD → (S8192x4096.Idx → Elt F .f32))

/-- The receive buffer of device `c` when every slot has landed. -/
def RB (c : Dev nD) : S16x512x512.Idx → Elt F .bf16 := fun i =>
  X (src c (i 0)) (ix2 (n0 := 8192) (n1 := 512) (blk c (i 1)) (i 2))
/-- The buffer for the blocks of `w` with block `s` in each half. -/
def WB (c : Dev nD) (s : Fin 16) : S2x512x4096.Idx → Elt F .f32 := fun i =>
  Wm c (ix2 (n0 := 8192) (n1 := 4096) (blk s (i 1)) (i 2))

/-! ## Assertions on the pieces -/

/-- Device `c`'s rows of `x` for device `d`. -/
def rowPts (c : Dev nD) (d : Fin 16) : sProp 𝕄 := (rowM d).view.loc (c : Thread nD τ) ↦[(rowM d).view.set]{fullShare} X c
/-- Slot `k` of device `c` at contents `f`. -/
def slotPts (c : Dev nD) (k : Fin 16) (f : S16x512x512.Idx → Elt F .bf16) : sProp 𝕄 :=
  (slotM k).view.loc (c : Thread nD τ) ↦[(slotM k).view.set]{fullShare} f

instance rowPts_storable (c : Dev nD) (d : Fin 16) : BI.Storable (upEmb : UEmb _ 𝕄) (rowPts (F := F) X c d) := by unfold rowPts; infer_instance
instance slotPts_storable (c : Dev nD) (k : Fin 16) (f) : BI.Storable (upEmb : UEmb _ 𝕄) (slotPts (F := F) c k f) := by unfold slotPts; infer_instance

/-- Paid to `c`'s barrier by the device at distance `j + 1` before it: its slot for `c`'s copy, which is its slot at the
    complementary distance, and that its semaphore for that copy is open. -/
def barPay (c : Dev nD) (j : Fin 15) : sProp 𝕄 :=
  iprop((∃ f, slotPts (F := F) (dn c j) (flip j).succ f) ∗ reached ER (recvCell (dn c j) (flip j)) 0)

instance barPay_storable (c : Dev nD) (j : Fin 15) : BI.Storable (upEmb : UEmb _ 𝕄) (barPay (F := F) c j) := by unfold barPay; infer_instance

/-! ## The schedule -/

/-- The distance a copy's semaphore belongs to. -/
def jS (q : DmaSem sig) : Fin 15 := ⟨(q.val - 4) % 15, Nat.mod_lt _ (by decide)⟩
def jR (q : DmaSem sig) : Fin 15 := ⟨(q.val - 20) % 15, Nat.mod_lt _ (by decide)⟩
theorem jS_sendS (j : Fin 15) : jS (sendS j) = j := by revert j; decide
theorem jR_recvS (j : Fin 15) : jR (recvS j) = j := by revert j; decide

/-- One round on every cell: fifteen units on a barrier, one copy on a send or a receive semaphore. -/
def rd : Rounds.Schedule (GSem nD τ sig) (Fin 15) 𝕄 where
  duties g r := if r = 0 ∧ g.1.2 = .tc then
    (match g.2 with
      | .reg _ => Finset.univ
      | .dma q => if (4 ≤ q.val ∧ q.val < 19) ∨ (20 ≤ q.val ∧ q.val < 35) then {0} else ∅) else ∅
  unitless _ := False
  amount g _ _ := match g.2 with
    | .reg _ => 1
    | .dma _ => NX
  payload g _ d := match g.2 with
    | .reg _ => barPay g.1.1 d
    | .dma q => if q.val < 20 then rowPts X g.1.1 (up g.1.1 (jS q)) else slotPts g.1.1 (jR q).succ (RB X g.1.1)
  amount_pos g _ _ _ := by
    cases g.2 with
    | reg _ => exact Nat.one_pos
    | dma _ => exact NX_pos

instance rd_storable (g : GSem nD τ sig) (r : ℕ) (d : Fin 15) : BI.Storable (upEmb : UEmb _ 𝕄) ((rd (F := F) X).payload g r d) := by
  obtain ⟨t, s⟩ := g
  cases s with
  | reg _ => exact barPay_storable _ _
  | dma q =>
    show BI.Storable upEmb (if q.val < 20 then _ else _)
    split <;> infer_instance

theorem duties_bar (c : Dev nD) : (rd (F := F) X).duties (barCell c) 0 = Finset.univ := by dsimp only [rd]; exact if_pos ⟨rfl, rfl⟩
theorem duties_send (c : Dev nD) (j : Fin 15) : (rd (F := F) X).duties (sendCell c j) 0 = {0} := by
  dsimp only [rd]; rw [if_pos ⟨rfl, rfl⟩, if_pos (Or.inl (by simp only [sendS]; omega))]
theorem duties_recv (c : Dev nD) (j : Fin 15) : (rd (F := F) X).duties (recvCell c j) 0 = {0} := by
  dsimp only [rd]; rw [if_pos ⟨rfl, rfl⟩, if_pos (Or.inr (by simp only [recvS]; omega))]
theorem duties_later (g : GSem nD τ sig) : ∀ r, 1 ≤ r → (rd (F := F) X).duties g r = ∅ :=
  fun r hr => if_neg fun h => by omega

theorem amount_bar (c : Dev nD) (d : Fin 15) : (rd (F := F) X).amount (barCell c) 0 d = 1 := rfl
theorem amount_send (c : Dev nD) (j d : Fin 15) : (rd (F := F) X).amount (sendCell c j) 0 d = NX := rfl
theorem amount_recv (c : Dev nD) (j d : Fin 15) : (rd (F := F) X).amount (recvCell c j) 0 d = NX := rfl

theorem expect_bar (c : Dev nD) : (rd (F := F) X).expect (barCell c) 0 = 15 := by
  unfold Schedule.expect Schedule.amountOf; rw [duties_bar]; simp only [amount_bar]; decide
theorem expect_send (c : Dev nD) (j : Fin 15) : (rd (F := F) X).expect (sendCell c j) 0 = NX := by
  unfold Schedule.expect Schedule.amountOf; rw [duties_send, Finset.sum_singleton, amount_send]
theorem expect_recv (c : Dev nD) (j : Fin 15) : (rd (F := F) X).expect (recvCell c j) 0 = NX := by
  unfold Schedule.expect Schedule.amountOf; rw [duties_recv, Finset.sum_singleton, amount_recv]

theorem payload_bar (c : Dev nD) (j : Fin 15) : (rd (F := F) X).payload (barCell c) 0 j = barPay c j := rfl
theorem payload_send (c : Dev nD) (j d : Fin 15) : (rd (F := F) X).payload (sendCell c j) 0 d = rowPts X c (up c j) := by
  refine (if_pos (by simp only [sendS]; omega)).trans ?_
  rw [jS_sendS]
theorem payload_recv (c : Dev nD) (j d : Fin 15) : (rd (F := F) X).payload (recvCell c j) 0 d = slotPts c j.succ (RB X c) := by
  refine (if_neg (by simp only [recvS]; omega)).trans ?_
  rw [jR_recvS]

theorem rest_bar (c : Dev nD) : bigSep ((rd (F := F) X).duties (barCell c) 0 \ ∅) (fun d => (rd (F := F) X).payload (barCell c) 0 d)
    = bigSep Finset.univ fun j => barPay c j := by
  rw [Finset.sdiff_empty, duties_bar]; rfl
theorem rest_send (c : Dev nD) (j : Fin 15) : bigSep ((rd (F := F) X).duties (sendCell c j) 0 \ ∅) (fun d => (rd (F := F) X).payload (sendCell c j) 0 d)
    = rowPts X c (up c j) := by
  rw [Finset.sdiff_empty, duties_send, bigSep_singleton, payload_send]
theorem rest_recv (c : Dev nD) (j : Fin 15) : bigSep ((rd (F := F) X).duties (recvCell c j) 0 \ ∅) (fun d => (rd (F := F) X).payload (recvCell c j) 0 d)
    = slotPts c j.succ (RB X c) := by
  rw [Finset.sdiff_empty, duties_recv, bigSep_singleton, payload_recv]

/-! ## What is owed, and the levels -/

/-- The copies from the `n`-th on: a copy's credit on the receive semaphore of each device ahead. -/
def owR (c : Dev nD) (n : ℕ) : CellTallies nD τ sig Unit :=
  ∑ j ∈ (Finset.univ : Finset (Fin 15)).filter (fun j => n ≤ j.val), tallyAt (recvCell (up c j) j) () NX
/-- The signals from the `n`-th on: one unit on the barrier of each device ahead. -/
def owB (c : Dev nD) (n : ℕ) : CellTallies nD τ sig Unit :=
  ∑ j ∈ (Finset.univ : Finset (Fin 15)).filter (fun j => n ≤ j.val), tallyAt (barCell (up c j)) () 1

theorem filter_step (j : Fin 15) : (Finset.univ : Finset (Fin 15)).filter (fun i => j.val ≤ i.val)
    = insert j ((Finset.univ : Finset (Fin 15)).filter (fun i => j.val + 1 ≤ i.val)) := by
  ext i; simp only [Finset.mem_filter, Finset.mem_univ, true_and, Finset.mem_insert, Fin.ext_iff]; omega
theorem filter_last : (Finset.univ : Finset (Fin 15)).filter (fun i => 15 ≤ i.val) = ∅ := by decide

theorem owR_step (c : Dev nD) (j : Fin 15) : owR c j.val = owR c (j.val + 1) + tallyAt (recvCell (up c j) j) () NX := by
  unfold owR
  rw [filter_step j, Finset.sum_insert (by simp only [Finset.mem_filter, Finset.mem_univ, true_and]; omega), add_comm]
theorem owB_step (c : Dev nD) (j : Fin 15) : owB c j.val = owB c (j.val + 1) + tallyAt (barCell (up c j)) () 1 := by
  unfold owB
  rw [filter_step j, Finset.sum_insert (by simp only [Finset.mem_filter, Finset.mem_univ, true_and]; omega), add_comm]
theorem owR_last (c : Dev nD) : owR c 15 = 0 := by unfold owR; rw [filter_last]; rfl
theorem owB_last (c : Dev nD) : owB c 15 = 0 := by unfold owB; rw [filter_last]; rfl

/-- What device `c` owes at launch. -/
def O₀ (c : Dev nD) : CellTallies nD τ sig Unit := owR c 0 + owB c 0

def L (g : GSem nD τ sig) : Finset Unit := if g.1.2 = .tc then {()} else ∅
/-- Barriers at level 1, receive semaphores at level 2, the rest at 0. -/
def lv (g : GSem nD τ sig) (_ : Unit) : ℕ := match g.2 with
  | .reg _ => 1
  | .dma q => if 20 ≤ q.val ∧ q.val < 35 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (j : Fin 15) : lv (recvCell c j) () = 2 := if_pos (by simp only [recvS]; omega)

theorem owR_pos {c : Dev nD} {n : ℕ} {g : GSem nD τ sig} {u : Unit} (h : 0 < owR c n g u) : ∃ j, g = recvCell (up c j) j := by
  by_contra hn
  push Not at hn
  have hz : owR c n g u = 0 := by
    unfold owR
    rw [Finset.sum_apply, Finsupp.finset_sum_apply]
    refine Finset.sum_eq_zero fun j _ => ?_
    rw [tallyAt_apply, if_neg (fun e => hn j e.1)]
  omega
theorem owB_pos {c : Dev nD} {n : ℕ} {g : GSem nD τ sig} {u : Unit} (h : 0 < owB c n g u) : ∃ j, g = barCell (up c j) := by
  by_contra hn
  push Not at hn
  have hz : owB c n g u = 0 := by
    unfold owB
    rw [Finset.sum_apply, Finsupp.finset_sum_apply]
    refine Finset.sum_eq_zero fun j _ => ?_
    rw [tallyAt_apply, if_neg (fun e => hn j e.1)]
  omega

/-- A device may wait on its barrier while it owes only copies. -/
theorem mayWait_bar (c : Dev nD) (n : ℕ) : (levAts L lv : sProp 𝕄) ⊢ MayWait (c : Thread nD τ) (.reg barS) () (owR c n) :=
  MayOwe.of_cut (L := L) (lev := lv) 1 (fun p hp => by rw [Finset.mem_singleton.mp hp, L_tc]; exact Finset.mem_singleton_self _)
    (fun g u hg => by obtain ⟨j, rfl⟩ := owR_pos hg; rw [L_tc]; exact Finset.mem_singleton_self _)
    (fun p hp => by rw [Finset.mem_singleton.mp hp]; exact Nat.le_refl 1)
    (fun g u hg => by obtain ⟨j, rfl⟩ := owR_pos hg; rw [lv_recv]; decide)

/-- A device may wait for a copy of its own staging while it owes what it owes at launch. -/
theorem mayWait_low (c : Dev nD) (q : DmaSem sig) (hq : ¬ (20 ≤ q.val ∧ q.val < 35)) :
    (levAts L lv : sProp 𝕄) ⊢ MayWait (c : Thread nD τ) (.dma q) () (O₀ c) := by
  have hpos : ∀ g u, 0 < O₀ c g u → (∃ j, g = recvCell (up c j) j) ∨ ∃ j, g = barCell (up c j) := fun g u hg => by
    by_cases h : 0 < owR c 0 g u
    · exact Or.inl (owR_pos h)
    · refine Or.inr (owB_pos (n := 0) (u := u) ?_)
      have : O₀ c g u = owR c 0 g u + owB c 0 g u := rfl
      omega
  exact MayOwe.of_cut (L := L) (lev := lv) 0 (fun p hp => by rw [Finset.mem_singleton.mp hp, L_tc]; exact Finset.mem_singleton_self _)
    (fun g u hg => by rcases hpos g u hg with ⟨j, rfl⟩ | ⟨j, rfl⟩ <;> (rw [L_tc]; exact Finset.mem_singleton_self _))
    (fun p hp => by rw [Finset.mem_singleton.mp hp]; exact Nat.le_of_eq (if_neg hq))
    (fun g u hg => by
      rcases hpos g u hg with ⟨j, rfl⟩ | ⟨j, rfl⟩
      · rw [lv_recv]; decide
      · exact Nat.one_pos)

/-! ## Closing a cell -/

/-- A cell whose one round is over gives its counter back at zero. -/
theorem close (κ : ℕ) (g : GSem nD τ sig) :
    iprop(cellInv ER (rd X) κ g ∗ atPos ER g (0 + 1) ∅ 0) ⊢ (|={Set.univ}=> semVal g 0 : sProp 𝕄) :=
  Rounds.cell_close ER (rd X) (Set.mem_univ κ) id (duties_later X g)

end Cert.Exchange

end
-- ==== Proof.Contents.lean ====
/-
  What the windows onto the buffers read, and that each copy leaves the named contents.
-/
module

public import proofs.«01_k».proof.Proof.Cells
public import proofs.«01_k».proof.Proof.Gen.KernelIdeal.Skeleton
public import Idealize.ShloMosaic.Lib.ValueLayout

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Reading through a window -/

theorem row_read (d : Fin 16) (f : S8192x512.Idx → Elt F .bf16) (x : S512x512.Idx) :
    (rowM d).view.read (Elt F) f x = f (ix2 (n0 := 8192) (n1 := 512) (blk d (x 0)) (x 1)) := by
  show f ((rowR d).emb x) = _
  congr 1
  funext a
  match a with
  | ⟨0, _⟩ => exact Fin.ext (by rw [Rect.emb_apply]; show 512 * d.val + 1 * (x 0).val = _; rw [Nat.one_mul]; rfl)
  | ⟨1, _⟩ => exact Fin.ext (by rw [Rect.emb_apply]; show 0 + 1 * (x 1).val = _; rw [Nat.one_mul, Nat.zero_add]; rfl)

theorem wrow_read (s : Fin 16) (f : S8192x4096.Idx → Elt F .f32) (x : S512x4096.Idx) :
    (wrowM s).view.read (Elt F) f x = f (ix2 (n0 := 8192) (n1 := 4096) (blk s (x 0)) (x 1)) := by
  show f ((wrowR s).emb x) = _
  congr 1
  funext a
  match a with
  | ⟨0, _⟩ => exact Fin.ext (by rw [Rect.emb_apply]; show 512 * s.val + 1 * (x 0).val = _; rw [Nat.one_mul]; rfl)
  | ⟨1, _⟩ => exact Fin.ext (by rw [Rect.emb_apply]; show 0 + 1 * (x 1).val = _; rw [Nat.one_mul, Nat.zero_add]; rfl)

/-- The element of slot `k` at a row and a column. -/
abbrev slotIx (k : Fin 16) (x : S512x512.Idx) : S16x512x512.Idx := ix3 (n0 := 16) (n1 := 512) (n2 := 512) k (x 0) (x 1)
/-- The element of half `p` at a row and a column. -/
abbrev halfIx (p : Fin 2) (x : S512x4096.Idx) : S2x512x4096.Idx := ix3 (n0 := 2) (n1 := 512) (n2 := 4096) p (x 0) (x 1)

theorem slotR_emb (k : Fin 16) (y : S1x512x512.Idx) : (slotR k).emb y = ix3 (n0 := 16) (n1 := 512) (n2 := 512) k (y 1) (y 2) := by
  funext a
  match a with
  | ⟨0, _⟩ => exact Fin.ext (by rw [Rect.emb_apply]; show k.val + 1 * (y 0).val = k.val; have : (y 0).val < 1 := (y 0).isLt; omega)
  | ⟨1, _⟩ => exact Fin.ext (by rw [Rect.emb_apply]; show 0 + 1 * (y 1).val = (y 1).val; omega)
  | ⟨2, _⟩ => exact Fin.ext (by rw [Rect.emb_apply]; show 0 + 1 * (y 2).val = (y 2).val; omega)

theorem halfR_emb (p : Fin 2) (y : S1x512x4096.Idx) : (halfR p).emb y = ix3 (n0 := 2) (n1 := 512) (n2 := 4096) p (y 1) (y 2) := by
  funext a
  match a with
  | ⟨0, _⟩ => exact Fin.ext (by rw [Rect.emb_apply]; show p.val + 1 * (y 0).val = p.val; have : (y 0).val < 1 := (y 0).isLt; omega)
  | ⟨1, _⟩ => exact Fin.ext (by rw [Rect.emb_apply]; show 0 + 1 * (y 1).val = (y 1).val; omega)
  | ⟨2, _⟩ => exact Fin.ext (by rw [Rect.emb_apply]; show 0 + 1 * (y 2).val = (y 2).val; omega)

theorem slot_read (k : Fin 16) (f : S16x512x512.Idx → Elt F .bf16) (x : S512x512.Idx) :
    (slotM k).view.read (Elt F) f x = f (slotIx k x) := by
  show f ((slotR k).emb (Shape.reshapeEquiv _ x)) = _
  rw [slotR_emb, Shape.reshapeEquiv_cons_one]
  rfl

theorem half_read (p : Fin 2) (f : S2x512x4096.Idx → Elt F .f32) (x : S512x4096.Idx) :
    (halfM p).view.read (Elt F) f x = f (halfIx p x) := by
  show f ((halfR p).emb (Shape.reshapeEquiv _ x)) = _
  rw [halfR_emb, Shape.reshapeEquiv_cons_one]
  rfl

/-- Contents that a window reads alike agree on the elements under it. -/
theorem eq_on_set {κ : Kind} {sp : Space} {s : Shape} {e : EltTy} (v : View sig κ sp s e) {f g : v.ty.Contents (Elt F)}
    (h : ∀ x, v.read (Elt F) f x = v.read (Elt F) g x) : ∀ i ∈ v.set, f i = g i := by
  intro i hi
  obtain ⟨x, -, rfl⟩ := Finset.mem_map.mp hi
  exact View.eq_of_read_eq (h x)

/-! ## What each copy leaves -/

variable (X : Dev nD → (S8192x512.Idx → Elt F .bf16)) (Wm : Dev nD → (S8192x4096.Idx → Elt F .f32))

/-- The copy to the device ahead leaves its slot as the receive buffer names it. -/
theorem landed_eq (c : Dev nD) (j : Fin 15) (fd : S16x512x512.Idx → Elt F .bf16) :
    ∀ i ∈ (slotM j.succ).view.set,
      (slotM j.succ).view.write (Elt F) fd ((rowM (up c j)).view.read (Elt F) (X c)) Finset.univ i = RB X (up c j) i := by
  refine eq_on_set (slotM j.succ).view (g := RB X (up c j)) fun x => ?_
  rw [View.read_write_of_mem (v := (slotM j.succ).view) fd _ (Finset.mem_univ x), row_read, slot_read]
  show _ = X (src (up c j) j.succ) _
  rw [src_up]
  rfl

/-- The copy of a block of `w` leaves half `p` as named. -/
theorem copied_eq (c : Dev nD) (p : Fin 2) (s : Fin 16) (fd : S2x512x4096.Idx → Elt F .f32) :
    ∀ i ∈ (halfM p).view.set,
      (halfM p).view.write (Elt F) fd ((wrowM s).view.read (Elt F) (Wm c)) Finset.univ i = WB Wm c s i := by
  refine eq_on_set (halfM p).view (g := WB Wm c s) fun x => ?_
  rw [View.read_write_of_mem (v := (halfM p).view) fd _ (Finset.mem_univ x), wrow_read, half_read]
  rfl

/-! ## The vectors the body loads -/

/-- Block `d` of device `c`'s `x`. -/
def xv (c : Dev nD) (d : Fin 16) : FVec F S512x512 .bf16 := fun x => X c (ix2 (n0 := 8192) (n1 := 512) (blk d (x 0)) (x 1))
/-- Slot `k` of the filled receive buffer. -/
def sv (c : Dev nD) (k : Fin 16) : Vec F S1x512x512 .bf16 := fun x => RB X c (ix3 (n0 := 16) (n1 := 512) (n2 := 512) k (x 1) (x 2))
/-- Block `s` of `w` in a half of the buffer. -/
def wv (c : Dev nD) (s : Fin 16) : Vec F S1x512x4096 .f32 := fun x => Wm c (ix2 (n0 := 8192) (n1 := 4096) (blk s (x 1)) (x 2))

theorem load_row (c : Dev nD) (d : Fin 16) : xM.view.readAt (Elt F) (rowR d).toLoadRect (X c) = xv X c d := by
  rw [View.readAt_rect]; funext x; exact row_read d (X c) x
theorem load_slot (c : Dev nD) (k : Fin 16) : rM.view.readAt (Elt F) (slotR k).toLoadRect (RB X c) = sv X c k := by
  rw [View.readAt_rect]; funext x
  show RB X c ((slotR k).emb x) = _
  rw [slotR_emb]; rfl
theorem load_half (c : Dev nD) (p : Fin 2) (s : Fin 16) : bM.view.readAt (Elt F) (halfR p).toLoadRect (WB Wm c s) = wv Wm c s := by
  rw [View.readAt_rect]; funext x
  show WB Wm c s ((halfR p).emb x) = _
  rw [halfR_emb]; rfl

/-- Storing a device's own block in slot 0 leaves that slot as named. -/
theorem stored_eq (c : Dev nD) (fd : S16x512x512.Idx → Elt F .bf16) :
    ∀ i ∈ (slotM 0).view.set,
      (rM.access (slotR 0)).write (Elt F) fd (k0_pay1 (xv X c c)) Finset.univ i = RB X c i := by
  intro i hi
  rw [slot_set] at hi
  obtain ⟨y, rfl⟩ : ∃ y, (slotR 0).emb y = i := (slotR 0).exists_idx_of_mem hi
  refine View.eq_of_read_eq (v := rM.access (slotR 0)) ?_
  rw [View.read_write_of_mem (v := rM.access (slotR 0)) fd _ (Finset.mem_univ y)]
  show _ = RB X c ((slotR 0).emb y)
  rw [slotR_emb]
  show k0_pay1 (xv X c c) y = X (src c 0) _
  rw [src_zero]
  unfold k0_pay1
  rw [shapeCast_self, show y = ix3 (n0 := 1) (n1 := 512) (n2 := 512) (y 0) (y 1) (y 2) from eq_ix3 _]
  exact Idealize.ShloMosaic.ValueIdx.shapeCast_ab_1ab_apply _ _ _ _ _

end Cert.Exchange

end
-- ==== Proof.Ladder.lean ====
/-
  Fifteen like resources taken up one by one, and the assertions the body carries from step to step.
-/
module

public import proofs.«01_k».proof.Proof.Contents

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ladder -/

/-- The first `n` of fifteen resources as `Q` describes them, the others still as `P` does. -/
def lad (P Q : Fin 15 → sProp 𝕄) (n : ℕ) : sProp 𝕄 := bigSep Finset.univ fun j => if j.val < n then Q j else P j

theorem lad_zero (P Q : Fin 15 → sProp 𝕄) : lad P Q 0 = bigSep Finset.univ P := by
  unfold lad; exact bigSep_congr fun j _ => if_neg (Nat.not_lt_zero _)
theorem lad_last (P Q : Fin 15 → sProp 𝕄) : lad P Q 15 = bigSep Finset.univ Q := by
  unfold lad; exact bigSep_congr fun j _ => if_pos j.isLt

/-- The next resource comes out, and once it is as `Q` describes it the ladder is one step on. -/
theorem lad_step (P Q : Fin 15 → sProp 𝕄) (j : Fin 15) : lad P Q j.val ⊢ iprop(P j ∗ (Q j -∗ lad P Q (j.val + 1))) := by
  unfold lad
  rw [bigSep_univ_at (fun i : Fin 15 => if i.val < j.val then Q i else P i) j,
    bigSep_univ_at (fun i : Fin 15 => if i.val < j.val + 1 then Q i else P i) j, if_neg (Nat.lt_irrefl _), if_pos (Nat.lt_succ_self _),
    bigSep_congr (s := Finset.univ.erase j) (Φ := fun i : Fin 15 => if i.val < j.val + 1 then Q i else P i)
      (Ψ := fun i : Fin 15 => if i.val < j.val then Q i else P i) (fun i hi => by
        have hne : i.val ≠ j.val := fun e => (Finset.mem_erase.mp hi).1 (Fin.ext e)
        by_cases h : i.val < j.val
        · rw [if_pos h, if_pos (by omega)]
        · rw [if_neg h, if_neg (by omega)])]
  iintro ⟨HP, HR⟩
  isplitl [HP]; · iexact HP
  iintro HQ
  isplitl [HQ]; · iexact HQ
  iexact HR

/-- A resource already as `Q` describes it can be looked at and put back. -/
theorem lad_look (P Q : Fin 15 → sProp 𝕄) (n : ℕ) (j : Fin 15) (h : j.val < n) : lad P Q n ⊢ iprop(Q j ∗ (Q j -∗ lad P Q n)) := by
  unfold lad
  rw [bigSep_univ_at (fun i : Fin 15 => if i.val < n then Q i else P i) j, if_pos h]
  iintro ⟨HP, HR⟩
  isplitl [HP]; · iexact HP
  iintro HQ
  isplitl [HQ]; · iexact HQ
  iexact HR

/-! ## The pieces a device carries -/

variable (X : Dev nD → (S8192x512.Idx → Elt F .bf16)) (Wm : Dev nD → (S8192x4096.Idx → Elt F .f32))

abbrev 𝒱₀ : Variants := Variants.none

/-- Cell `g` stands under its invariant. -/
def cinv (g : GSem nD τ sig) : sProp 𝕄 := iprop(∃ κ, cellInv ER (rd (F := F) X) κ g)
instance cinv_persistent (g : GSem nD τ sig) : BI.Persistent (cinv (F := F) X g) := by unfold cinv; infer_instance

/-- Device `c` owes `O`, whatever it has waited for. -/
def ow (c : Dev nD) (O : CellTallies nD τ sig Unit) : sProp 𝕄 := iprop(∃ W, owes (c : Thread nD τ) O W)

/-- What signal `j` spends: the right to pay the barrier of the device ahead, and the slot that device will fill. -/
def Sig (c : Dev nD) (j : Fin 15) : sProp 𝕄 :=
  iprop(cinv X (barCell (up c j)) ∗ dutyTok ER (barCell (up c j)) 0 j ∗ reached ER (barCell (up c j)) 0
    ∗ (∃ f, slotPts (F := F) c (flip j).succ f) ∗ reached ER (recvCell c (flip j)) 0)

/-- What copy `j` spends, but for the slot it fills. -/
def SndP (c : Dev nD) (j : Fin 15) : sProp 𝕄 :=
  iprop(cinv X (sendCell c j) ∗ cinv X (recvCell (up c j) j) ∗ rowPts X c (up c j)
    ∗ dutyTok ER (sendCell c j) 0 0 ∗ reached ER (sendCell c j) 0 ∗ dutyTok ER (recvCell (up c j) j) 0 0)
/-- What copy `j` spends. -/
def Snd (c : Dev nD) (j : Fin 15) : sProp 𝕄 :=
  iprop(SndP X c j ∗ (∃ f, slotPts (F := F) (up c j) j.succ f) ∗ reached ER (recvCell (up c j) j) 0)
/-- What copy `j` leaves: the credit to wait for it. -/
def Sent (c : Dev nD) (j : Fin 15) : sProp 𝕄 := cred (tallyAt (sendCell c j) () NX)

/-- What the wait for the copy from the device at distance `j + 1` before spends; -/
def Rcv (c : Dev nD) (j : Fin 15) : sProp 𝕄 :=
  iprop(cinv X (recvCell c j) ∗ cred (tallyAt (recvCell c j) () NX) ∗ atPos ER (recvCell c j) 0 ∅ 0)
/-- and what it yields. -/
def Got (c : Dev nD) (j : Fin 15) : sProp 𝕄 := iprop(slotPts c j.succ (RB X c) ∗ semVal (recvCell c j) 0)

/-- What the wait for the device's own copy `j` spends beside the credit; -/
def SwtP (c : Dev nD) (j : Fin 15) : sProp 𝕄 := iprop(cinv X (sendCell c j) ∗ atPos ER (sendCell c j) 0 ∅ 0)
/-- in all; -/
def Swt (c : Dev nD) (j : Fin 15) : sProp 𝕄 := iprop(SwtP X c j ∗ Sent c j)
/-- and what it yields. -/
def Swd (c : Dev nD) (j : Fin 15) : sProp 𝕄 := iprop(rowPts X c (up c j) ∗ semVal (sendCell c j) 0)

/-! ## The buffer for the blocks of `w` -/

/-- The share of `w` that half `p` copies from. -/
def qh (p : Fin 2) : PosShare TreeShare := if p = 0 then fullShare.left else fullShare.right

/-- Half `p` of the buffer at contents `f`. -/
def halfPts (c : Dev nD) (p : Fin 2) (f : S2x512x4096.Idx → Elt F .f32) : sProp 𝕄 :=
  (halfM p).view.loc (c : Thread nD τ) ↦[(halfM p).view.set]{fullShare} f
/-- A share of `w` off a set of its elements. -/
def wPts (c : Dev nD) (q : PosShare TreeShare) (S : Finset S8192x4096.Idx) : sProp 𝕄 :=
  wM.view.loc (c : Thread nD τ) ↦[S]{q} Wm c

/-- What half `p` is doing: nothing yet, receiving block `s`, holding block `s`. -/
inductive HSt where
  | idle
  | fly (s : Fin 16)
  | full (s : Fin 16)

/-- Half `p` of the buffer in each state, with its semaphore and its share of `w`. -/
def Half (c : Dev nD) (p : Fin 2) : HSt → sProp 𝕄
  | .idle => iprop((∃ f, halfPts (F := F) c p f) ∗ semVal (wCell c p) 0 ∗ wPts Wm c (qh p) Finset.univ)
  | .fly s => iprop(Transfers.Flight EC (c : Thread nD τ) (.dma (wS p)) () NW (iprop(halfPts c p (WB Wm c s) ∗ wPts Wm c (qh p) (wrowM s).view.set))
      ∗ wPts Wm c (qh p) (Finset.univ \ (wrowM s).view.set))
  | .full s => iprop(halfPts c p (WB Wm c s) ∗ semVal (wCell c p) 0 ∗ wPts Wm c (qh p) Finset.univ)

/-! ## The table and the result -/

/-- The table as the body reads it. -/
def tbl : S16x15.Idx → Elt F .i32 := fun i => lit0 (S16x15.rowMajor i)
def tPts (c : Dev nD) : sProp 𝕄 := tM.view.loc (c : Thread nD τ) ↦{fullShare} (tbl (F := F))
/-- The result at `o`, or at contents nobody chose. -/
def outSt (c : Dev nD) : Option (FVec F S512x4096 .f32) → sProp 𝕄
  | none => iprop(∃ f, oM.view.loc (c : Thread nD τ) ↦{fullShare} (f : S512x4096.Idx → Elt F .f32))
  | some a => oM.view.loc (c : Thread nD τ) ↦{fullShare} (a : S512x4096.Idx → Elt F .f32)

/-! ## The stages of the body -/

/-- Before signal `n`, with the rest `R` of what the device holds. -/
def StA (c : Dev nD) (n : ℕ) (R : sProp 𝕄) : sProp 𝕄 :=
  iprop(ow c (owR c 0 + owB c n) ∗ lad (Sig X c) (fun _ => iprop(emp)) n ∗ R)
/-- Before copy `n`. -/
def StB (c : Dev nD) (n : ℕ) (R : sProp 𝕄) : sProp 𝕄 :=
  iprop(ow c (owR c n) ∗ lad (Snd X c) (Sent c) n ∗ R)
/-- While the products are summed: `n` blocks have been waited for, in the order of the device's row of the table. -/
def StC (c : Dev nD) (n : ℕ) (s0 s1 : HSt) (o : Option (FVec F S512x4096 .f32)) (R : sProp 𝕄) : sProp 𝕄 :=
  iprop(ow c 0 ∗ slotPts c 0 (RB X c) ∗ lad (fun i => Rcv X c (ord c i)) (fun i => Got X c (ord c i)) n
    ∗ Half Wm c 0 s0 ∗ Half Wm c 1 s1 ∗ tPts c ∗ outSt c o ∗ R)
/-- Before the wait for the device's own copy `n`. -/
def StD (c : Dev nD) (n : ℕ) (R : sProp 𝕄) : sProp 𝕄 :=
  iprop(ow c 0 ∗ lad (Swt X c) (Swd X c) n ∗ R)

end Cert.Exchange

end
-- ==== Proof.Steps.lean ====
/-
  One rule per kind of step of the body: what the device carries before it suffices once it suffices after it.

  Each rule takes the offsets, semaphores and devices of the step as the program computes them, with an equation that
  says what they are.
-/
module

public import proofs.«01_k».proof.Proof.Ladder

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (S8192x512.Idx → Elt F .bf16)) (Wm : Dev nD → (S8192x4096.Idx → Elt F .f32))

/-! ## Signals and the barrier -/

/-- Signal `j`: the device ahead gets one unit and the right to fill this device's slot for it. -/
theorem step_signal {α : Type} {Q : α → sProp 𝕄} (c : Dev nD) (j : Fin 15) (R : sProp 𝕄) {d : Dev nD} {sm : Sem sig} {k : PUnit → Prog (TpuEff nD τ sig (Elt F) Λ₀ .tc) α}
    (hd : d = up c j) (hs : sm = barS)
    (h : StA X c (j.val + 1) R ⊢ wp frame (wpE (defs₀ (F := F)) 𝒱₀ c none) Set.univ (k ⟨⟩) Q) :
    StA X c j.val R ⊢ wp frame (wpE (defs₀ (F := F)) 𝒱₀ c none) Set.univ (.op (.semSignal (Dev.tc d : Thread nD τ) sm 1) k) Q := by
  subst hd hs
  unfold StA ow
  iintro ⟨⟨%W, HO⟩, HL, HR⟩
  ihave H1 := (lad_step (Sig X c) (fun _ => iprop(emp)) j) $$ HL
  unfold Sig cinv
  icases H1 with ⟨⟨⟨%κ, #HI⟩, Ht, #Hr, Hslot, #HrV⟩, HL⟩
  iapply (Rounds.wp_signal 𝒱₀ ER (rd X) (c : Thread nD τ) none (dst := (up c j : Thread nD τ)) (sem := barS) (r := 0) (d := j) (κ := κ)
      (by rw [duties_bar]; exact Finset.mem_univ _) (amount_bar X (up c j) j) () (owR c 0 + owB c (j.val + 1))
      ((congrArg (owR c 0 + ·) (owB_step c j)).trans (add_assoc _ _ _).symm)) $$ [HO Ht Hslot]
  · isplitr; · iexact HI
    isplitl [HO]; · iexact HO
    isplitl [Ht]; · iexact Ht
    isplitl [Hslot]
    · rw [payload_bar]; unfold barPay; rw [dn_up]
      isplitl [Hslot]; · iexact Hslot
      iexact HrV
    · iexact Hr
  iintro HO
  iapply h
  unfold StA ow
  isplitl [HO]; · iexists _; iexact HO
  isplitl [HL]
  · iapply HL; iempintro
  iexact HR

/-- The barrier: the fifteen units bring the slots this device will fill, and its counter comes back at zero. -/
theorem step_barrier {α : Type} {Q : α → sProp 𝕄} (c : Dev nD) (R : sProp 𝕄) {sm : Sem sig} {k : PUnit → Prog (TpuEff nD τ sig (Elt F) Λ₀ .tc) α}
    (hs : sm = barS)
    (h : StB X c 0 iprop(semVal (barCell c) 0 ∗ R) ⊢ wp frame (wpE (defs₀ (F := F)) 𝒱₀ c none) Set.univ (k ⟨⟩) Q) :
    StA X c 15 iprop((levAts L lv ∗ cinv X (barCell c) ∗ cred (tallyAt (barCell c) () 15) ∗ atPos ER (barCell c) 0 ∅ 0)
        ∗ bigSep Finset.univ (SndP X c) ∗ R)
      ⊢ wp frame (wpE (defs₀ (F := F)) 𝒱₀ c none) Set.univ (.op (.semWait sm 15) k) Q := by
  subst hs
  unfold StA ow cinv
  iintro ⟨⟨%W, HO⟩, -, ⟨#Hlev, ⟨%κ, #HI⟩, Hc, Hat⟩, HS, HR⟩
  iapply (Rounds.wp_wait_rest_token 𝒱₀ ER (rd X) (c : Thread nD τ) none (κ := κ)
      (wpE_semWait_eq 𝒱₀ (c : Thread nD τ) none Set.univ) (Set.mem_univ _) () (O := owR c 0 + owB c 15) (W := W) (R := 0) (m := 0) (T := ∅)
      ((Nat.zero_add 15).trans (expect_bar X c).symm)) $$ [Hc HO Hat]
  · isplitr; · iexact HI
    isplitl [Hc]; · iexact Hc
    isplitl [HO]; · iexact HO
    isplitr
    · rw [owB_last, add_zero]; iapply (mayWait_bar c 0); iexact Hlev
    iexact Hat
  iintro ⟨HO, Hat, -, Hpay⟩
  iapply (fupd_wp frame _)
  imod (close X κ (barCell c)) $$ [Hat] with Hb
  · isplitr; · iexact HI
    iexact Hat
  imodintro
  ihave Hp := (Entails.of_eq ((rest_bar X c).trans (bigSep_univ_equiv flipE (fun j => barPay (F := F) c j)))) $$ Hpay
  iapply h
  unfold StB ow
  rw [lad_zero, owB_last, add_zero]
  isplitl [HO]; · iexists _; iexact HO
  isplitr [HR Hb]
  · iapply (Entails.of_eq (show iprop(bigSep Finset.univ (SndP X c) ∗ bigSep Finset.univ fun j => barPay (F := F) c (flipE j)) = bigSep Finset.univ (Snd X c) from by
      refine (bigSep_sep _ _ _).symm.trans (bigSep_congr fun j _ => ?_)
      show iprop(SndP X c j ∗ barPay c (flip j)) = _
      unfold Snd barPay
      rw [dn_flip, flip_flip]))
    isplitl [HS]; · iexact HS
    iexact Hp
  isplitl [Hb]; · iexact Hb
  iexact HR

/-! ## The copies to the other devices -/

/-- Copy `j`: the rows for the device ahead go to its slot. -/
theorem step_send {α : Type} {Q : α → sProp 𝕄} (c : Dev nD) (j : Fin 15) (R : sProp 𝕄) {d : Dev nD} {off : Fin 2 → ℕ} {offs : Fin 3 → ℕ} {s1 s2 : DmaSem sig}
    {hi hi' h1 h2 hq hsc hsrc hdst hsem} {k : PUnit → Prog (TpuEff nD τ sig (Elt F) Λ₀ .tc) α}
    (hd : d = up c j) (ho : off = ![512 * (up c j).val, 0]) (hos : offs = ![(Fin.succ j).val, 0, 0]) (hs1 : s1 = sendS j) (hs2 : s2 = recvS j)
    (h : StB X c (j.val + 1) R ⊢ wp frame (wpE (defs₀ (F := F)) 𝒱₀ c none) Set.univ (k ⟨⟩) Q) :
    StB X c j.val R ⊢ wp frame (wpE (defs₀ (F := F)) 𝒱₀ c none) Set.univ
      (.op (.enqueueDma (xM.slice (Rect.unit (s := S8192x512) off S512x512.size hi) h1)
        (.remote (Dev.tc d : Thread nD τ) ((rM.slice (Rect.unit (s := S16x512x512) offs S1x512x512.size hi') h2).squeeze S512x512 hq) (.dma s1) hsc)
        (.dma s2) hsrc hdst hsem) k) Q := by
  subst hd ho hos hs1 hs2
  unfold StB ow
  iintro ⟨⟨%W, HO⟩, HL, HR⟩
  ihave H1 := (lad_step (Snd X c) (Sent c) j) $$ HL
  unfold Snd SndP cinv rowPts slotPts
  icases H1 with ⟨⟨⟨⟨%κ₁, #HI1⟩, ⟨%κ₂, #HI2⟩, Hx, Ht1, #Hr1, Ht2⟩, ⟨%fd, Hslot⟩, #Hr2⟩, HL⟩
  iapply (Rounds.wp_send_pointsTo 𝒱₀ ER (rd X) (c : Thread nD τ) none (c' := (up c j : Thread nD τ)) (src := rowM (up c j)) (dst := slotM j.succ)
      (sS := .dma (sendS j)) (sem := .dma (recvS j)) (q := fullShare) (fs := X c) (κ₁ := κ₁) (κ₂ := κ₂)
      (r₁ := 0) (r₂ := 0) (d₁ := 0) (d₂ := 0) (fd := fd)
      (by rw [duties_send]; exact Finset.mem_singleton_self _) (by rw [duties_recv]; exact Finset.mem_singleton_self _)
      () () NX rfl (amount_send X c j 0) (amount_recv X (up c j) j 0) (owR c (j.val + 1)) (owR_step c j) (W := W)
      (by rw [payload_send]; exact BI.Entails.refl _)
      (by rw [payload_recv]; unfold slotPts; exact Entails.of_eq (pointsTo_congr (landed_eq X c j fd)))) $$ [Hx Hslot HO Ht1 Ht2]
  · isplitr; · iexact HI1
    isplitr; · iexact HI2
    isplitl [Hx]; · iexact Hx
    isplitl [Hslot]; · iexact Hslot
    isplitl [HO]; · iexact HO
    isplitl [Ht1]; · iexact Ht1
    isplitr; · iexact Hr1
    isplitl [Ht2]; · iexact Ht2
    iexact Hr2
  iintro ⟨Hc, HO⟩
  iapply h
  unfold StB ow
  isplitl [HO]; · iexists _; iexact HO
  isplitl [HL Hc]
  · iapply HL; unfold Sent; iexact Hc
  iexact HR

/-! ## The device's own block into slot 0 -/

theorem slot_on (k : Fin 16) : rM.view.setOn (slotR k).set ⊆ (slotM k).view.set :=
  ((View.set_reshape (rM.slice (slotR k) (fun _ => rfl)).view _).trans (View.set_slice rM.view (slotR k))).symm.subset
theorem half_on (p : Fin 2) : bM.view.setOn (halfR p).set ⊆ (halfM p).view.set :=
  ((View.set_reshape (bM.slice (halfR p) (fun _ => rfl)).view _).trans (View.set_slice bM.view (halfR p))).symm.subset

/-- Reading the device's own rows of `x`. -/
theorem step_load_row {α : Type} {Q : α → sProp 𝕄} (c : Dev nD) (R : sProp 𝕄) {off : Fin 2 → ℕ} {hi hl} {k : (S512x512.Idx → Elt F .bf16) → Prog (TpuEff nD τ sig (Elt F) Λ₀ .tc) α}
    (ho : off = ![512 * c.val, 0])
    (h : iprop(rowPts X c c ∗ R) ⊢ wp frame (wpE (defs₀ (F := F)) 𝒱₀ c none) Set.univ (k (xv X c c)) Q) :
    iprop(rowPts X c c ∗ R) ⊢ wp frame (wpE (defs₀ (F := F)) 𝒱₀ c none) Set.univ
      (.op (.load xM (Rect.unit (s := S8192x512) off S512x512.size hi).toLoadRect hl) k) Q := by
  subst ho
  rw [← load_row X c c] at h
  unfold rowPts at h ⊢
  iintro ⟨Hx, HR⟩
  iapply (wp_load 𝒱₀ (c : Thread nD τ) none Set.univ (m := xM) (r := (rowR c).toLoadRect) (S := (rowM c).view.set) (q := fullShare) (f := X c) (View.set_slice xM.view (rowR c)).symm.subset) $$ [Hx]
  · iexact Hx
  iintro Hx
  iapply h
  isplitl [Hx]; · iexact Hx
  iexact HR

/-- A read of slot 0 whose value is not used. -/
theorem step_load_slot0 {α : Type} {Q : α → sProp 𝕄} (c : Dev nD) (R : sProp 𝕄) {hi hl} {k : (S1x512x512.Idx → Elt F .bf16) → Prog (TpuEff nD τ sig (Elt F) Λ₀ .tc) α}
    (h : ∀ v, iprop((∃ f, slotPts c 0 f) ∗ R) ⊢ wp frame (wpE (defs₀ (F := F)) 𝒱₀ c none) Set.univ (k v) Q) :
    iprop((∃ f, slotPts c 0 f) ∗ R) ⊢ wp frame (wpE (defs₀ (F := F)) 𝒱₀ c none) Set.univ
      (.op (.load rM (Rect.unit (s := S16x512x512) ![0, 0, 0] S1x512x512.size hi).toLoadRect hl) k) Q := by
  unfold slotPts at h ⊢
  iintro ⟨⟨%f, Hx⟩, HR⟩
  iapply (wp_load 𝒱₀ (c : Thread nD τ) none Set.univ (m := rM) (r := (slotR 0).toLoadRect) (S := (slotM 0).view.set) (q := fullShare) (f := f) (slot_on 0)) $$ [Hx]
  · iexact Hx
  iintro Hx
  iapply (h _)
  isplitl [Hx]; · iexists _; iexact Hx
  iexact HR

/-- Storing the device's own block fills slot 0. -/
theorem step_store_slot0 {α : Type} {Q : α → sProp 𝕄} (c : Dev nD) (R : sProp 𝕄) {hi hx hm} {k : PUnit → Prog (TpuEff nD τ sig (Elt F) Λ₀ .tc) α}
    (h : iprop(slotPts c 0 (RB X c) ∗ R) ⊢ wp frame (wpE (defs₀ (F := F)) 𝒱₀ c none) Set.univ (k ⟨⟩) Q) :
    iprop((∃ f, slotPts c 0 f) ∗ R) ⊢ wp frame (wpE (defs₀ (F := F)) 𝒱₀ c none) Set.univ
      (.op (.store rM (Rect.unit (s := S16x512x512) ![0, 0, 0] S1x512x512.size hi) (k0_pay1 (xv X c c)) Finset.univ hx hm) k) Q := by
  unfold slotPts at h ⊢
  iintro ⟨⟨%f, Hx⟩, HR⟩
  iapply (wp_store 𝒱₀ (c : Thread nD τ) none Set.univ (m := rM) (r := slotR 0) (S := (slotM 0).view.set) (f := f)
    (by rw [View.setOn_univ]; exact (View.set_slice rM.view (slotR 0)).subset.trans (slot_on 0))) $$ [Hx]
  · iexact Hx
  iintro Hx
  ihave Hx := (Entails.of_eq (pointsTo_congr (stored_eq X c f))) $$ Hx
  iapply h
  isplitl [Hx]; · iexact Hx
  iexact HR

/-! ## Blocks of `w` into a half of the buffer -/

theorem half_copied (c : Dev nD) (p : Fin 2) (s : Fin 16) (fd : S2x512x4096.Idx → Elt F .f32) :
    halfPts c p ((halfM p).view.write (Elt F) fd ((wrowM s).view.read (Elt F) (Wm c)) Finset.univ) = halfPts c p (WB Wm c s) :=
  pointsTo_congr (copied_eq Wm c p s fd)

/-- Starting the copy of block `s` into half `p`. -/
theorem half_start {α : Type} {Q : α → sProp 𝕄} (c : Dev nD) (p : Fin 2) (s : Fin 16) (R : sProp 𝕄) {off : Fin 2 → ℕ} {offp : Fin 3 → ℕ} {sm : DmaSem sig}
    {hi hi' h1 h2 hq hsrc hdst hsem} {k : PUnit → Prog (TpuEff nD τ sig (Elt F) Λ₀ .tc) α}
    (ho : off = ![512 * s.val, 0]) (hp : offp = ![p.val, 0, 0]) (hs : sm = wS p)
    (h : iprop(Half Wm c p (.fly s) ∗ R) ⊢ wp frame (wpE (defs₀ (F := F)) 𝒱₀ c none) Set.univ (k ⟨⟩) Q) :
    iprop(Half Wm c p .idle ∗ R) ⊢ wp frame (wpE (defs₀ (F := F)) 𝒱₀ c none) Set.univ
      (.op (.enqueueDma (wM.slice (Rect.unit (s := S8192x4096) off S512x4096.size hi) h1)
        (.here ((bM.slice (Rect.unit (s := S2x512x4096) offp S1x512x4096.size hi') h2).squeeze S512x4096 hq)) (.dma sm) hsrc hdst hsem) k) Q := by
  subst ho hp hs
  unfold Half at h ⊢
  iintro ⟨⟨⟨%fd, Hd⟩, Hv, Hw⟩, HR⟩
  dsimp only at h
  rw [← half_copied Wm c p s fd] at h
  unfold halfPts wPts at h ⊢
  ihave Hw := (pointsTo_split_subset (Finset.subset_univ (wrowM s).view.set)).1 $$ Hw
  icases Hw with ⟨Hs, Hrest⟩
  iapply (Transfers.wp_dmaLocal EC 𝒱₀ (c : Thread nD τ) none (src := wrowM s) (dst := halfM p) (sm := .dma (wS p)) (q := qh p) (fs := Wm c) (fd := fd)
    (Sd := (halfM p).view.set) () NW rfl NW_pos (Finset.Subset.refl _)) $$ [Hd Hv Hs]
  · isplitl [Hs]; · iexact Hs
    isplitl [Hd]; · iexact Hd
    iexact Hv
  iintro HF
  iapply h
  isplitr [HR]
  · isplitl [HF]
    · iexact HF
    · iexact Hrest
  iexact HR

/-- A half that holds a block may take another. -/
theorem half_restart (c : Dev nD) (p : Fin 2) (s : Fin 16) : Half Wm c p (.full s) ⊢ Half Wm c p .idle := by
  unfold Half
  iintro ⟨Hd, Hv, Hw⟩
  isplitl [Hd]; · iexists _; iexact Hd
  isplitl [Hv]; · iexact Hv
  iexact Hw

/-- Waiting for the copy of block `s` into half `p`. -/
theorem half_wait {α : Type} {Q : α → sProp 𝕄} (c : Dev nD) (p : Fin 2) (s : Fin 16) (R : sProp 𝕄) {b : Memref sig .tc .hbm S512x4096 .f32} {offp : Fin 3 → ℕ} {sm : DmaSem sig}
    {hi' h2 hq hsrc hdst} {k : PUnit → Prog (TpuEff nD τ sig (Elt F) Λ₀ .tc) α}
    (hp : offp = ![p.val, 0, 0]) (hs : sm = wS p)
    (h : iprop(Half Wm c p (.full s) ∗ ow c 0 ∗ R) ⊢ wp frame (wpE (defs₀ (F := F)) 𝒱₀ c none) Set.univ (k ⟨⟩) Q) :
    iprop(Half Wm c p (.fly s) ∗ ow c 0 ∗ R) ⊢ wp frame (wpE (defs₀ (F := F)) 𝒱₀ c none) Set.univ
      (.op (.waitDma2 sm b
        ((bM.slice (Rect.unit (s := S2x512x4096) offp S1x512x4096.size hi') h2).squeeze S512x4096 hq) hsrc hdst) k) Q := by
  subst hp hs
  unfold Half ow at *
  iintro ⟨⟨HF, Hrest⟩, ⟨%W, HO⟩, HR⟩
  iapply (Transfers.wp_waitLocal EC 𝒱₀ (c : Thread nD τ) none (srcw := b) (dstw := halfM p) (sem := wS p) (hsrc := hsrc) (hdst := hdst) () (N := NW) rfl) $$ [HF HO]
  · isplitl [HF]; · iexact HF
    iexact HO
  iintro ⟨⟨Hd, Hs⟩, Hv, HO⟩
  iapply h
  isplitr [HO HR]
  · isplitl [Hd]; · iexact Hd
    isplitl [Hv]; · iexact Hv
    unfold wPts
    iapply (pointsTo_split_subset (Finset.subset_univ (wrowM s).view.set)).2
    isplitl [Hs]; · iexact Hs
    iexact Hrest
  isplitl [HO]; · iexists _; iexact HO
  iexact HR

/-- Reading block `s` from half `p`. -/
theorem half_load {α : Type} {Q : α → sProp 𝕄} (c : Dev nD) (p : Fin 2) (s : Fin 16) (R : sProp 𝕄) {offp : Fin 3 → ℕ}
    {hi hl} {k : (S1x512x4096.Idx → Elt F .f32) → Prog (TpuEff nD τ sig (Elt F) Λ₀ .tc) α}
    (hp : offp = ![p.val, 0, 0])
    (h : iprop(Half Wm c p (.full s) ∗ R) ⊢ wp frame (wpE (defs₀ (F := F)) 𝒱₀ c none) Set.univ (k (wv Wm c s)) Q) :
    iprop(Half Wm c p (.full s) ∗ R) ⊢ wp frame (wpE (defs₀ (F := F)) 𝒱₀ c none) Set.univ
      (.op (.load bM (Rect.unit (s := S2x512x4096) offp S1x512x4096.size hi).toLoadRect hl) k) Q := by
  subst hp
  rw [← load_half Wm c p s] at h
  unfold Half halfPts at h ⊢
  iintro ⟨⟨Hd, Hv, Hw⟩, HR⟩
  iapply (wp_load 𝒱₀ (c : Thread nD τ) none Set.univ (m := bM) (r := (halfR p).toLoadRect) (S := (halfM p).view.set) (q := fullShare) (f := WB Wm c s) (half_on p)) $$ [Hd]
  · iexact Hd
  iintro Hd
  iapply h
  isplitr [HR]
  · isplitl [Hd]; · iexact Hd
    isplitl [Hv]; · iexact Hv
    iexact Hw
  iexact HR

/-! ## The table -/

theorem table_read (c : Dev nD) (n : Fin 15) (r : Rect S16x15) (x : r.shape.Idx) (hx : r.emb x = ix2 (n0 := 16) (n1 := 15) c n) :
    (tM.access r).read (Elt F) (tbl (F := F)) x = tw c n := by
  show tbl (F := F) (r.emb x) = _
  rw [hx]; rfl

/-- Reading the word of the table at the device's row and column `n`. -/
theorem table_load {α : Type} {Q : α → sProp 𝕄} (c : Dev nD) (n : Fin 15) (R : sProp 𝕄) {off : Fin 2 → ℕ} {hi hw} {k : Elt F .i32 → Prog (TpuEff nD τ sig (Elt F) Λ₀ .tc) α}
    {x : (Rect.unit (s := S16x15) off S1x1.size hi).shape.Idx}
    (ho : off = ![c.val, n.val])
    (h : iprop(tPts (F := F) c ∗ R) ⊢ wp frame (wpE (defs₀ (F := F)) 𝒱₀ c none) Set.univ (k (tw c n)) Q) :
    iprop(tPts (F := F) c ∗ R) ⊢ wp frame (wpE (defs₀ (F := F)) 𝒱₀ c none) Set.univ
      (smemLoadElt tM (Rect.unit (s := S16x15) off S1x1.size hi) hw x k) Q := by
  subst ho
  rw [← table_read (F := F) c n (Rect.unit (s := S16x15) ![c.val, n.val] S1x1.size hi) x (by
    funext a
    match a with
    | ⟨0, _⟩ => exact Fin.ext (by rw [Rect.emb_apply]; show c.val + 1 * (x 0).val = c.val; have : (x 0).val < 1 := (x 0).isLt; omega)
    | ⟨1, _⟩ => exact Fin.ext (by rw [Rect.emb_apply]; show n.val + 1 * (x 1).val = n.val; have : (x 1).val < 1 := (x 1).isLt; omega))] at h
  unfold tPts at h ⊢
  iintro ⟨Ht, HR⟩
  iapply (wp_smemLoadElt 𝒱₀ (c : Thread nD τ) none Set.univ (m := tM) (S := Finset.univ) (q := fullShare) (f := tbl (F := F)) (Finset.subset_univ _)) $$ [Ht]
  · iexact Ht
  iintro Ht
  iapply h
  isplitl [Ht]; · iexact Ht
  iexact HR

/-! ## The result -/

theorem out_whole (a : FVec F S512x4096 .f32) (hi) :
    oM.view.readAt (Elt F) (Rect.unit (s := S512x4096) ![0, 0] S512x4096.size hi).toLoadRect a = a := by
  exact Memref.readAt_unit_zero (Elt F) cc0_stg2_0 (by decide) hi a
theorem out_written (f : S512x4096.Idx → Elt F .f32) (a : FVec F S512x4096 .f32) (hi) :
    (oM.access (Rect.unit (s := S512x4096) ![0, 0] S512x4096.size hi)).write (Elt F) f a Finset.univ = a := by
  exact Memref.write_access_unit_zero_univ (Elt F) cc0_stg2_0 (by decide) hi f a

/-- A read of the result whose value is not used. -/
theorem out_load_any {α : Type} {Q : α → sProp 𝕄} (c : Dev nD) (o : Option (FVec F S512x4096 .f32)) (R : sProp 𝕄) {r : LoadRect S512x4096} {hl}
    {k : (r.shape.Idx → Elt F .f32) → Prog (TpuEff nD τ sig (Elt F) Λ₀ .tc) α}
    (h : ∀ v, iprop(outSt c o ∗ R) ⊢ wp frame (wpE (defs₀ (F := F)) 𝒱₀ c none) Set.univ (k v) Q) :
    iprop(outSt c o ∗ R) ⊢ wp frame (wpE (defs₀ (F := F)) 𝒱₀ c none) Set.univ (.op (.load oM r hl) k) Q := by
  cases o with
  | none =>
    unfold outSt at h ⊢
    iintro ⟨⟨%f, Ho⟩, HR⟩
    iapply (wp_load 𝒱₀ (c : Thread nD τ) none Set.univ (m := oM) (S := Finset.univ) (q := fullShare) (f := f) (Finset.subset_univ _)) $$ [Ho]
    · iexact Ho
    iintro Ho
    iapply (h _)
    isplitl [Ho]; · iexists _; iexact Ho
    iexact HR
  | some a =>
    unfold outSt at h ⊢
    iintro ⟨Ho, HR⟩
    iapply (wp_load 𝒱₀ (c : Thread nD τ) none Set.univ (m := oM) (S := Finset.univ) (q := fullShare) (f := a) (Finset.subset_univ _)) $$ [Ho]
    · iexact Ho
    iintro Ho
    iapply (h _)
    isplitl [Ho]; · iexact Ho
    iexact HR

/-- Reading the sum so far. -/
theorem out_load {α : Type} {Q : α → sProp 𝕄} (c : Dev nD) (a : FVec F S512x4096 .f32) (R : sProp 𝕄) {hi hl}
    {k : (S512x4096.Idx → Elt F .f32) → Prog (TpuEff nD τ sig (Elt F) Λ₀ .tc) α}
    (h : iprop(outSt c (some a) ∗ R) ⊢ wp frame (wpE (defs₀ (F := F)) 𝒱₀ c none) Set.univ (k a) Q) :
    iprop(outSt c (some a) ∗ R) ⊢ wp frame (wpE (defs₀ (F := F)) 𝒱₀ c none) Set.univ
      (.op (.load oM (Rect.unit (s := S512x4096) ![0, 0] S512x4096.size hi).toLoadRect hl) k) Q := by
  unfold outSt at h ⊢
  iintro ⟨Ho, HR⟩
  iapply (wp_load 𝒱₀ (c : Thread nD τ) none Set.univ (m := oM) (S := Finset.univ) (q := fullShare) (f := a) (Finset.subset_univ _)) $$ [Ho]
  · iexact Ho
  iintro Ho
  rw [out_whole a hi]
  iapply h
  isplitl [Ho]; · iexact Ho
  iexact HR

theorem out_store_none {α : Type} {Q : α → sProp 𝕄} (c : Dev nD) (a : FVec F S512x4096 .f32) (R : sProp 𝕄) {hi hx hm}
    {k : PUnit → Prog (TpuEff nD τ sig (Elt F) Λ₀ .tc) α}
    (h : iprop(outSt c (some a) ∗ R) ⊢ wp frame (wpE (defs₀ (F := F)) 𝒱₀ c none) Set.univ (k ⟨⟩) Q) :
    iprop(outSt (F := F) c none ∗ R) ⊢ wp frame (wpE (defs₀ (F := F)) 𝒱₀ c none) Set.univ
      (.op (.store oM (Rect.unit (s := S512x4096) ![0, 0] S512x4096.size hi) a Finset.univ hx hm) k) Q := by
  unfold outSt at h ⊢
  iintro ⟨⟨%f, Ho⟩, HR⟩
  iapply (wp_store 𝒱₀ (c : Thread nD τ) none Set.univ (m := oM) (S := Finset.univ) (f := f) (Finset.subset_univ _)) $$ [Ho]
  · iexact Ho
  iintro Ho
  rw [out_written f a hi]
  iapply h
  isplitl [Ho]; · iexact Ho
  iexact HR

/-- Storing the sum. -/
theorem out_store {α : Type} {Q : α → sProp 𝕄} (c : Dev nD) (o : Option (FVec F S512x4096 .f32)) (a : FVec F S512x4096 .f32) (R : sProp 𝕄) {hi hx hm}
    {k : PUnit → Prog (TpuEff nD τ sig (Elt F) Λ₀ .tc) α}
    (h : iprop(outSt c (some a) ∗ R) ⊢ wp frame (wpE (defs₀ (F := F)) 𝒱₀ c none) Set.univ (k ⟨⟩) Q) :
    iprop(outSt c o ∗ R) ⊢ wp frame (wpE (defs₀ (F := F)) 𝒱₀ c none) Set.univ
      (.op (.store oM (Rect.unit (s := S512x4096) ![0, 0] S512x4096.size hi) a Finset.univ hx hm) k) Q := by
  cases o with
  | none => exact out_store_none c a R h
  | some b =>
    refine BIBase.Entails.trans ?_ (out_store_none c a R h)
    unfold outSt
    iintro ⟨Ho, HR⟩
    isplitl [Ho]; · iexists _; iexact Ho
    iexact HR

/-! ## The waits for copies -/

/-- Waiting for the block of the device at distance `j + 1` before: its slot comes filled, and the semaphore is done with. -/
theorem recv_wait {α : Type} {Q : α → sProp 𝕄} (c : Dev nD) (j : Fin 15) (R : sProp 𝕄) {sm : DmaSem sig} {b : Memref sig .tc .vmem S512x512 .bf16}
    {dw : Memref sig .tc .vmem S512x512 .bf16} {hsrc hdst} {k : PUnit → Prog (TpuEff nD τ sig (Elt F) Λ₀ .tc) α}
    (hs : sm = recvS j) (hN : dw.view.dmaCredit = NX)
    (h : iprop(Got X c j ∗ ow c 0 ∗ R) ⊢ wp frame (wpE (defs₀ (F := F)) 𝒱₀ c none) Set.univ (k ⟨⟩) Q) :
    iprop(Rcv X c j ∗ ow c 0 ∗ R) ⊢ wp frame (wpE (defs₀ (F := F)) 𝒱₀ c none) Set.univ (.op (.waitDma2 sm b dw hsrc hdst) k) Q := by
  subst hs
  unfold Rcv Got ow cinv at *
  iintro ⟨⟨⟨%κ, #HI⟩, Hc, Hat⟩, ⟨%W, HO⟩, HR⟩
  iapply (Rounds.wp_wait_rest_token 𝒱₀ ER (rd X) (c : Thread nD τ) none (κ := κ)
      (wpE_waitDma2_eq (src := b) (dst := dw) 𝒱₀ (c : Thread nD τ) none Set.univ) (Set.mem_univ _) () (O := 0) (W := W) (R := 0) (m := 0) (T := ∅)
      ((Nat.zero_add _).trans (hN.trans (expect_recv X c j).symm))) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hs := (Entails.of_eq (rest_recv X c j)) $$ Hpay
  imod (close X κ (recvCell c j)) $$ [Hat] with Hv
  · isplitr; · iexact HI
    iexact Hat
  iapply h
  isplitl [Hs Hv]
  · isplitl [Hs]; · iexact Hs
    iexact Hv
  isplitl [HO]; · iexists _; iexact HO
  iexact HR

/-- Waiting for the device's own copy `j`: the block of `x` comes back, and the semaphore is done with. -/
theorem step_send_wait {α : Type} {Q : α → sProp 𝕄} (c : Dev nD) (j : Fin 15) (R : sProp 𝕄) {sm : DmaSem sig} {b : Memref sig .tc .vmem S512x512 .bf16}
    {dw : Memref sig .tc .vmem S512x512 .bf16} {hsrc hdst} {k : PUnit → Prog (TpuEff nD τ sig (Elt F) Λ₀ .tc) α}
    (hs : sm = sendS j) (hN : dw.view.dmaCredit = NX)
    (h : StD X c (j.val + 1) R ⊢ wp frame (wpE (defs₀ (F := F)) 𝒱₀ c none) Set.univ (k ⟨⟩) Q) :
    StD X c j.val R ⊢ wp frame (wpE (defs₀ (F := F)) 𝒱₀ c none) Set.univ (.op (.waitDma2 sm b dw hsrc hdst) k) Q := by
  subst hs
  unfold StD ow at *
  iintro ⟨⟨%W, HO⟩, HL, HR⟩
  ihave H1 := (lad_step (Swt X c) (Swd X c) j) $$ HL
  unfold Swt SwtP Swd Sent cinv
  icases H1 with ⟨⟨⟨⟨%κ, #HI⟩, Hat⟩, Hc⟩, HL⟩
  iapply (Rounds.wp_wait_rest_token 𝒱₀ ER (rd X) (c : Thread nD τ) none (κ := κ)
      (wpE_waitDma2_eq (src := b) (dst := dw) 𝒱₀ (c : Thread nD τ) none Set.univ) (Set.mem_univ _) () (O := 0) (W := W) (R := 0) (m := 0) (T := ∅)
      ((Nat.zero_add _).trans (hN.trans (expect_send X c j).symm))) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hs := (Entails.of_eq (rest_send X c j)) $$ Hpay
  imod (close X κ (sendCell c j)) $$ [Hat] with Hv
  · isplitr; · iexact HI
    iexact Hat
  iapply h
  isplitl [HO]; · iexists _; iexact HO
  isplitr [HR]
  · iapply HL
    isplitl [Hs]; · iexact Hs
    iexact Hv
  iexact HR

/-- Reading a slot that has landed. -/
theorem slot_load {α : Type} {Q : α → sProp 𝕄} (c : Dev nD) (i : Fin 16) (R : sProp 𝕄) {off : Fin 3 → ℕ} {hi hl}
    {k : (S1x512x512.Idx → Elt F .bf16) → Prog (TpuEff nD τ sig (Elt F) Λ₀ .tc) α}
    (ho : off = ![i.val, 0, 0])
    (h : iprop(slotPts c i (RB X c) ∗ R) ⊢ wp frame (wpE (defs₀ (F := F)) 𝒱₀ c none) Set.univ (k (sv X c i)) Q) :
    iprop(slotPts c i (RB X c) ∗ R) ⊢ wp frame (wpE (defs₀ (F := F)) 𝒱₀ c none) Set.univ
      (.op (.load rM (Rect.unit (s := S16x512x512) off S1x512x512.size hi).toLoadRect hl) k) Q := by
  subst ho
  rw [← load_slot X c i] at h
  unfold slotPts at h ⊢
  iintro ⟨Hx, HR⟩
  iapply (wp_load 𝒱₀ (c : Thread nD τ) none Set.univ (m := rM) (r := (slotR i).toLoadRect) (S := (slotM i).view.set) (q := fullShare) (f := RB X c) (slot_on i)) $$ [Hx]
  · iexact Hx
  iintro Hx
  iapply h
  isplitl [Hx]; · iexact Hx
  iexact HR

end Cert.Exchange

end
-- ==== Proof.Facts.lean ====
/-
  The offsets, semaphores and side conditions the body computes from the device and the table, in closed form.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Offsets -/

/-- The block of `w` that goes with the word of the table: that of the device at that distance before. -/
theorem off_w (c : Dev nD) (n : Fin 15) : k0_off5 c (tw c n) = ![512 * (dn c (ord c n)).val, 0] := by revert c n; decide +kernel
/-- The slot that word names. -/
theorem off_s (c : Dev nD) (n : Fin 15) : k0_off11 (tw c n) = ![(ord c n).succ.val, 0, 0] := by revert c n; decide +kernel
theorem off_m (c : Dev nD) (n : Fin 15) : k0_off10 (tw c n) = ![(ord c n).succ.val] := by revert c n; decide +kernel
theorem off_r (c : Dev nD) (n : Fin 15) : k0_off12 c (tw c n) = ![512 * (up c (ord c n)).val, 0] := by revert c n; decide +kernel
/-- The rows of the device at distance `j + 1` ahead. -/
theorem off_x (c : Dev nD) (j : Fin 15) : k0_off1 c (BitVec.ofNat 32 (1 + j.val)) = ![512 * (up c j).val, 0] := by revert c j; decide +kernel

/-! ## Semaphores -/

theorem sem_slot (j : Fin 15) (hi : ∀ a, (![j.succ.val] : Fin 1 → ℕ) a + S1.size a ≤ S16.size a)
    (hq : (Rect.unit (s := S16) ![j.succ.val] S1.size hi).shape.Squeezes S_) :
    ((cc0_scratch3.slice (Rect.unit (s := S16) ![j.succ.val] S1.size hi)).squeeze S_ hq).sem = recvS j := by
  revert j hi hq; decide +kernel

theorem sem_recv (c : Dev nD) (n : Fin 15) {off : Fin 1 → ℕ} {hi} {hq} (ho : off = ![(ord c n).succ.val]) :
    ((cc0_scratch3.slice (Rect.unit (s := S16) off S1.size hi)).squeeze S_ hq).sem = recvS (ord c n) := by
  subst ho
  exact sem_slot (ord c n) hi hq

/-! ## Side conditions -/

theorem chk_w (c : Dev nD) (n : Fin 15) : k0_chk1 c (tw c n) := by
  unfold k0_chk1; rw [off_w]
  generalize dn c (ord c n) = d
  revert d; decide +kernel

theorem chk_s (c : Dev nD) (n : Fin 15) : k0_chk3 c (tw c n) := by
  unfold k0_chk3
  rw [off_m, off_s, off_r, show k0_off15 (tw c n) = k0_off11 (tw c n) from rfl, off_s]
  generalize ord c n = j
  generalize up c j = d
  refine ⟨?_, ?_, ?_, ?_, ?_, ?_⟩
  · revert j; decide +kernel
  · revert j; decide +kernel
  · revert d; decide +kernel
  · revert d; decide +kernel
  · revert j; decide +kernel
  · revert j; decide +kernel

end Cert.Exchange

end
-- ==== Proof.Stage.lean ====
/-
  The step rules over the stages of the body: each operation of the summing stage, from one state of the stage to
  the next.
-/
module

public import proofs.«01_k».proof.Proof.Facts

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (S8192x512.Idx → Elt F .bf16)) (Wm : Dev nD → (S8192x4096.Idx → Elt F .f32))

/-- Two assertions that entail each other are equal. -/
theorem eq_of_both {P Q : sProp 𝕄} (h1 : P ⊢ Q) (h2 : Q ⊢ P) : P = Q := Idealize.SL.BI.Entails.antisymm h1 h2

/-! ## The stage with one of its pieces in front -/

theorem stC_half0 (c : Dev nD) (n : ℕ) (s0 s1 : HSt) (o : Option (FVec F S512x4096 .f32)) (R : sProp 𝕄) :
    StC X Wm c n s0 s1 o R = iprop(Half Wm c 0 s0 ∗ ow c 0 ∗ slotPts c 0 (RB X c) ∗ lad (fun i => Rcv X c (ord c i)) (fun i => Got X c (ord c i)) n
      ∗ Half Wm c 1 s1 ∗ tPts c ∗ outSt c o ∗ R) := by
  unfold StC
  exact eq_of_both (by iintro ⟨H1, H2, H3, H4, H5, H6, H7, H8⟩; iframe) (by iintro ⟨H1, H2, H3, H4, H5, H6, H7, H8⟩; iframe)
theorem stC_half1 (c : Dev nD) (n : ℕ) (s0 s1 : HSt) (o : Option (FVec F S512x4096 .f32)) (R : sProp 𝕄) :
    StC X Wm c n s0 s1 o R = iprop(Half Wm c 1 s1 ∗ ow c 0 ∗ slotPts c 0 (RB X c) ∗ lad (fun i => Rcv X c (ord c i)) (fun i => Got X c (ord c i)) n
      ∗ Half Wm c 0 s0 ∗ tPts c ∗ outSt c o ∗ R) := by
  unfold StC
  exact eq_of_both (by iintro ⟨H1, H2, H3, H4, H5, H6, H7, H8⟩; iframe) (by iintro ⟨H1, H2, H3, H4, H5, H6, H7, H8⟩; iframe)
theorem stC_table (c : Dev nD) (n : ℕ) (s0 s1 : HSt) (o : Option (FVec F S512x4096 .f32)) (R : sProp 𝕄) :
    StC X Wm c n s0 s1 o R = iprop(tPts c ∗ ow c 0 ∗ slotPts c 0 (RB X c) ∗ lad (fun i => Rcv X c (ord c i)) (fun i => Got X c (ord c i)) n
      ∗ Half Wm c 0 s0 ∗ Half Wm c 1 s1 ∗ outSt c o ∗ R) := by
  unfold StC
  exact eq_of_both (by iintro ⟨H1, H2, H3, H4, H5, H6, H7, H8⟩; iframe) (by iintro ⟨H1, H2, H3, H4, H5, H6, H7, H8⟩; iframe)
theorem stC_out (c : Dev nD) (n : ℕ) (s0 s1 : HSt) (o : Option (FVec F S512x4096 .f32)) (R : sProp 𝕄) :
    StC X Wm c n s0 s1 o R = iprop(outSt c o ∗ ow c 0 ∗ slotPts c 0 (RB X c) ∗ lad (fun i => Rcv X c (ord c i)) (fun i => Got X c (ord c i)) n
      ∗ Half Wm c 0 s0 ∗ Half Wm c 1 s1 ∗ tPts c ∗ R) := by
  unfold StC
  exact eq_of_both (by iintro ⟨H1, H2, H3, H4, H5, H6, H7, H8⟩; iframe) (by iintro ⟨H1, H2, H3, H4, H5, H6, H7, H8⟩; iframe)
theorem stC_slot0 (c : Dev nD) (n : ℕ) (s0 s1 : HSt) (o : Option (FVec F S512x4096 .f32)) (R : sProp 𝕄) :
    StC X Wm c n s0 s1 o R = iprop(slotPts c 0 (RB X c) ∗ ow c 0 ∗ lad (fun i => Rcv X c (ord c i)) (fun i => Got X c (ord c i)) n
      ∗ Half Wm c 0 s0 ∗ Half Wm c 1 s1 ∗ tPts c ∗ outSt c o ∗ R) := by
  unfold StC
  exact eq_of_both (by iintro ⟨H1, H2, H3, H4, H5, H6, H7, H8⟩; iframe) (by iintro ⟨H1, H2, H3, H4, H5, H6, H7, H8⟩; iframe)

/-! ## The operations of the stage -/

section
variable {X Wm}
variable {c : Dev nD} {n : ℕ} {s0 s1 : HSt} {o : Option (FVec F S512x4096 .f32)}

/-- Starting the copy of a block of `w` into the first half, when nothing is there; -/
theorem c_start0 {α : Type} {Q : α → sProp 𝕄} {R : sProp 𝕄} {s : Fin 16} {off : Fin 2 → ℕ} {offp : Fin 3 → ℕ} {sm : DmaSem sig}
    {hi hi' h1 h2 hq hsrc hdst hsem} {k : PUnit → Prog (TpuEff nD τ sig (Elt F) Λ₀ .tc) α}
    (ho : off = ![512 * s.val, 0]) (hp : offp = ![(0 : Fin 2).val, 0, 0]) (hs : sm = wS 0)
    (h : StC X Wm c n (.fly s) s1 o R ⊢ wp frame (wpE (defs₀ (F := F)) 𝒱₀ c none) Set.univ (k ⟨⟩) Q) :
    StC X Wm c n .idle s1 o R ⊢ wp frame (wpE (defs₀ (F := F)) 𝒱₀ c none) Set.univ
      (.op (.enqueueDma (wM.slice (Rect.unit (s := S8192x4096) off S512x4096.size hi) h1)
        (.here ((bM.slice (Rect.unit (s := S2x512x4096) offp S1x512x4096.size hi') h2).squeeze S512x4096 hq)) (.dma sm) hsrc hdst hsem) k) Q := by
  rw [stC_half0] at h ⊢; exact half_start Wm c 0 s _ ho hp hs h
/-- into the second; -/
theorem c_start1 {α : Type} {Q : α → sProp 𝕄} {R : sProp 𝕄} {s : Fin 16} {off : Fin 2 → ℕ} {offp : Fin 3 → ℕ} {sm : DmaSem sig}
    {hi hi' h1 h2 hq hsrc hdst hsem} {k : PUnit → Prog (TpuEff nD τ sig (Elt F) Λ₀ .tc) α}
    (ho : off = ![512 * s.val, 0]) (hp : offp = ![(1 : Fin 2).val, 0, 0]) (hs : sm = wS 1)
    (h : StC X Wm c n s0 (.fly s) o R ⊢ wp frame (wpE (defs₀ (F := F)) 𝒱₀ c none) Set.univ (k ⟨⟩) Q) :
    StC X Wm c n s0 .idle o R ⊢ wp frame (wpE (defs₀ (F := F)) 𝒱₀ c none) Set.univ
      (.op (.enqueueDma (wM.slice (Rect.unit (s := S8192x4096) off S512x4096.size hi) h1)
        (.here ((bM.slice (Rect.unit (s := S2x512x4096) offp S1x512x4096.size hi') h2).squeeze S512x4096 hq)) (.dma sm) hsrc hdst hsem) k) Q := by
  rw [stC_half1] at h ⊢; exact half_start Wm c 1 s _ ho hp hs h
/-- into the first half when a block already used is there; -/
theorem c_again0 {α : Type} {Q : α → sProp 𝕄} {R : sProp 𝕄} {s s' : Fin 16} {off : Fin 2 → ℕ} {offp : Fin 3 → ℕ} {sm : DmaSem sig}
    {hi hi' h1 h2 hq hsrc hdst hsem} {k : PUnit → Prog (TpuEff nD τ sig (Elt F) Λ₀ .tc) α}
    (ho : off = ![512 * s.val, 0]) (hp : offp = ![(0 : Fin 2).val, 0, 0]) (hs : sm = wS 0)
    (h : StC X Wm c n (.fly s) s1 o R ⊢ wp frame (wpE (defs₀ (F := F)) 𝒱₀ c none) Set.univ (k ⟨⟩) Q) :
    StC X Wm c n (.full s') s1 o R ⊢ wp frame (wpE (defs₀ (F := F)) 𝒱₀ c none) Set.univ
      (.op (.enqueueDma (wM.slice (Rect.unit (s := S8192x4096) off S512x4096.size hi) h1)
        (.here ((bM.slice (Rect.unit (s := S2x512x4096) offp S1x512x4096.size hi') h2).squeeze S512x4096 hq)) (.dma sm) hsrc hdst hsem) k) Q := by
  rw [stC_half0] at h ⊢
  refine BIBase.Entails.trans ?_ (half_start Wm c 0 s _ ho hp hs h)
  iintro ⟨HH, HR⟩
  isplitl [HH]; · iapply (half_restart Wm c 0 s') $$ HH
  iexact HR
/-- into the second half when a block already used is there. -/
theorem c_again1 {α : Type} {Q : α → sProp 𝕄} {R : sProp 𝕄} {s s' : Fin 16} {off : Fin 2 → ℕ} {offp : Fin 3 → ℕ} {sm : DmaSem sig}
    {hi hi' h1 h2 hq hsrc hdst hsem} {k : PUnit → Prog (TpuEff nD τ sig (Elt F) Λ₀ .tc) α}
    (ho : off = ![512 * s.val, 0]) (hp : offp = ![(1 : Fin 2).val, 0, 0]) (hs : sm = wS 1)
    (h : StC X Wm c n s0 (.fly s) o R ⊢ wp frame (wpE (defs₀ (F := F)) 𝒱₀ c none) Set.univ (k ⟨⟩) Q) :
    StC X Wm c n s0 (.full s') o R ⊢ wp frame (wpE (defs₀ (F := F)) 𝒱₀ c none) Set.univ
      (.op (.enqueueDma (wM.slice (Rect.unit (s := S8192x4096) off S512x4096.size hi) h1)
        (.here ((bM.slice (Rect.unit (s := S2x512x4096) offp S1x512x4096.size hi') h2).squeeze S512x4096 hq)) (.dma sm) hsrc hdst hsem) k) Q := by
  rw [stC_half1] at h ⊢
  refine BIBase.Entails.trans ?_ (half_start Wm c 1 s _ ho hp hs h)
  iintro ⟨HH, HR⟩
  isplitl [HH]; · iapply (half_restart Wm c 1 s') $$ HH
  iexact HR

/-- Waiting for the copy into the first half; -/
theorem c_wait0 {α : Type} {Q : α → sProp 𝕄} {R : sProp 𝕄} {s : Fin 16} {b : Memref sig .tc .hbm S512x4096 .f32} {offp : Fin 3 → ℕ} {sm : DmaSem sig}
    {hi' h2 hq hsrc hdst} {k : PUnit → Prog (TpuEff nD τ sig (Elt F) Λ₀ .tc) α}
    (hp : offp = ![(0 : Fin 2).val, 0, 0]) (hs : sm = wS 0)
    (h : StC X Wm c n (.full s) s1 o R ⊢ wp frame (wpE (defs₀ (F := F)) 𝒱₀ c none) Set.univ (k ⟨⟩) Q) :
    StC X Wm c n (.fly s) s1 o R ⊢ wp frame (wpE (defs₀ (F := F)) 𝒱₀ c none) Set.univ
      (.op (.waitDma2 sm b ((bM.slice (Rect.unit (s := S2x512x4096) offp S1x512x4096.size hi') h2).squeeze S512x4096 hq) hsrc hdst) k) Q := by
  rw [stC_half0] at h ⊢; exact half_wait Wm c 0 s _ hp hs h
/-- into the second. -/
theorem c_wait1 {α : Type} {Q : α → sProp 𝕄} {R : sProp 𝕄} {s : Fin 16} {b : Memref sig .tc .hbm S512x4096 .f32} {offp : Fin 3 → ℕ} {sm : DmaSem sig}
    {hi' h2 hq hsrc hdst} {k : PUnit → Prog (TpuEff nD τ sig (Elt F) Λ₀ .tc) α}
    (hp : offp = ![(1 : Fin 2).val, 0, 0]) (hs : sm = wS 1)
    (h : StC X Wm c n s0 (.full s) o R ⊢ wp frame (wpE (defs₀ (F := F)) 𝒱₀ c none) Set.univ (k ⟨⟩) Q) :
    StC X Wm c n s0 (.fly s) o R ⊢ wp frame (wpE (defs₀ (F := F)) 𝒱₀ c none) Set.univ
      (.op (.waitDma2 sm b ((bM.slice (Rect.unit (s := S2x512x4096) offp S1x512x4096.size hi') h2).squeeze S512x4096 hq) hsrc hdst) k) Q := by
  rw [stC_half1] at h ⊢; exact half_wait Wm c 1 s _ hp hs h

/-- Reading the block in the first half; -/
theorem c_w0 {α : Type} {Q : α → sProp 𝕄} {R : sProp 𝕄} {s : Fin 16} {offp : Fin 3 → ℕ}
    {hi hl} {k : (S1x512x4096.Idx → Elt F .f32) → Prog (TpuEff nD τ sig (Elt F) Λ₀ .tc) α}
    (hp : offp = ![(0 : Fin 2).val, 0, 0])
    (h : StC X Wm c n (.full s) s1 o R ⊢ wp frame (wpE (defs₀ (F := F)) 𝒱₀ c none) Set.univ (k (wv Wm c s)) Q) :
    StC X Wm c n (.full s) s1 o R ⊢ wp frame (wpE (defs₀ (F := F)) 𝒱₀ c none) Set.univ
      (.op (.load bM (Rect.unit (s := S2x512x4096) offp S1x512x4096.size hi).toLoadRect hl) k) Q := by
  rw [stC_half0] at h ⊢; exact half_load Wm c 0 s _ hp h
/-- in the second. -/
theorem c_w1 {α : Type} {Q : α → sProp 𝕄} {R : sProp 𝕄} {s : Fin 16} {offp : Fin 3 → ℕ}
    {hi hl} {k : (S1x512x4096.Idx → Elt F .f32) → Prog (TpuEff nD τ sig (Elt F) Λ₀ .tc) α}
    (hp : offp = ![(1 : Fin 2).val, 0, 0])
    (h : StC X Wm c n s0 (.full s) o R ⊢ wp frame (wpE (defs₀ (F := F)) 𝒱₀ c none) Set.univ (k (wv Wm c s)) Q) :
    StC X Wm c n s0 (.full s) o R ⊢ wp frame (wpE (defs₀ (F := F)) 𝒱₀ c none) Set.univ
      (.op (.load bM (Rect.unit (s := S2x512x4096) offp S1x512x4096.size hi).toLoadRect hl) k) Q := by
  rw [stC_half1] at h ⊢; exact half_load Wm c 1 s _ hp h

/-- Reading column `i` of the device's row of the table. -/
theorem c_table {α : Type} {Q : α → sProp 𝕄} {R : sProp 𝕄} (i : Fin 15) {off : Fin 2 → ℕ} {hi hw} {k : Elt F .i32 → Prog (TpuEff nD τ sig (Elt F) Λ₀ .tc) α}
    {x : (Rect.unit (s := S16x15) off S1x1.size hi).shape.Idx}
    (ho : off = ![c.val, i.val])
    (h : StC X Wm c n s0 s1 o R ⊢ wp frame (wpE (defs₀ (F := F)) 𝒱₀ c none) Set.univ (k (tw c i)) Q) :
    StC X Wm c n s0 s1 o R ⊢ wp frame (wpE (defs₀ (F := F)) 𝒱₀ c none) Set.univ
      (smemLoadElt tM (Rect.unit (s := S16x15) off S1x1.size hi) hw x k) Q := by
  rw [stC_table] at h ⊢; exact table_load c i _ ho h

/-- A side condition that holds. -/
theorem c_assume {α : Type} {Q : α → sProp 𝕄} {S : sProp 𝕄} {P : Prop} {d : Decidable P} {k : PLift P → Prog (TpuEff nD τ sig (Elt F) Λ₀ .tc) α} (hP : P)
    (h : S ⊢ wp frame (wpE (defs₀ (F := F)) 𝒱₀ c none) Set.univ (k ⟨hP⟩) Q) :
    S ⊢ wp frame (wpE (defs₀ (F := F)) 𝒱₀ c none) Set.univ (.op (.assume P d) k) Q :=
  BIBase.Entails.trans h (wp_assume 𝒱₀ (c : Thread nD τ) none Set.univ hP)

/-- Waiting for the block of the next device in the row of the table. -/
theorem c_recv {α : Type} {Q : α → sProp 𝕄} {R : sProp 𝕄} (i : Fin 15) {sm : DmaSem sig} {b : Memref sig .tc .vmem S512x512 .bf16}
    {dw : Memref sig .tc .vmem S512x512 .bf16} {hsrc hdst} {k : PUnit → Prog (TpuEff nD τ sig (Elt F) Λ₀ .tc) α}
    (hs : sm = recvS (ord c i)) (hN : dw.view.dmaCredit = NX)
    (h : StC X Wm c (i.val + 1) s0 s1 o R ⊢ wp frame (wpE (defs₀ (F := F)) 𝒱₀ c none) Set.univ (k ⟨⟩) Q) :
    StC X Wm c i.val s0 s1 o R ⊢ wp frame (wpE (defs₀ (F := F)) 𝒱₀ c none) Set.univ (.op (.waitDma2 sm b dw hsrc hdst) k) Q := by
  refine BIBase.Entails.trans ?_ (recv_wait X c (ord c i)
    iprop((Got X c (ord c i) -∗ lad (fun i => Rcv X c (ord c i)) (fun i => Got X c (ord c i)) (i.val + 1)) ∗ slotPts c 0 (RB X c)
      ∗ Half Wm c 0 s0 ∗ Half Wm c 1 s1 ∗ tPts c ∗ outSt c o ∗ R) hs hN (BIBase.Entails.trans ?_ h))
  · unfold StC
    iintro ⟨HO, Hz, HL, H0, H1, Ht, Ho, HR⟩
    ihave HL := (lad_step (fun i => Rcv X c (ord c i)) (fun i => Got X c (ord c i)) i) $$ HL
    icases HL with ⟨Hr, HL⟩
    iframe
  · unfold StC
    iintro ⟨HG, HO, HL, Hz, H0, H1, Ht, Ho, HR⟩
    ihave HL := HL $$ HG
    iframe

/-- Reading slot 0; -/
theorem c_slot0 {α : Type} {Q : α → sProp 𝕄} {R : sProp 𝕄} {off : Fin 3 → ℕ} {hi hl}
    {k : (S1x512x512.Idx → Elt F .bf16) → Prog (TpuEff nD τ sig (Elt F) Λ₀ .tc) α}
    (ho : off = ![(0 : Fin 16).val, 0, 0])
    (h : StC X Wm c n s0 s1 o R ⊢ wp frame (wpE (defs₀ (F := F)) 𝒱₀ c none) Set.univ (k (sv X c 0)) Q) :
    StC X Wm c n s0 s1 o R ⊢ wp frame (wpE (defs₀ (F := F)) 𝒱₀ c none) Set.univ
      (.op (.load rM (Rect.unit (s := S16x512x512) off S1x512x512.size hi).toLoadRect hl) k) Q := by
  rw [stC_slot0] at h ⊢; exact slot_load X c 0 _ ho h
/-- reading the slot that column `i` of the table names, once it has been waited for. -/
theorem c_slot {α : Type} {Q : α → sProp 𝕄} {R : sProp 𝕄} (i : Fin 15) (hn : i.val < n) {off : Fin 3 → ℕ} {hi hl}
    {k : (S1x512x512.Idx → Elt F .bf16) → Prog (TpuEff nD τ sig (Elt F) Λ₀ .tc) α}
    (ho : off = ![(ord c i).succ.val, 0, 0])
    (h : StC X Wm c n s0 s1 o R ⊢ wp frame (wpE (defs₀ (F := F)) 𝒱₀ c none) Set.univ (k (sv X c (ord c i).succ)) Q) :
    StC X Wm c n s0 s1 o R ⊢ wp frame (wpE (defs₀ (F := F)) 𝒱₀ c none) Set.univ
      (.op (.load rM (Rect.unit (s := S16x512x512) off S1x512x512.size hi).toLoadRect hl) k) Q := by
  refine BIBase.Entails.trans ?_ (slot_load X c (ord c i).succ
    iprop((Got X c (ord c i) -∗ lad (fun i => Rcv X c (ord c i)) (fun i => Got X c (ord c i)) n) ∗ semVal (recvCell c (ord c i)) 0 ∗ ow c 0
      ∗ slotPts c 0 (RB X c) ∗ Half Wm c 0 s0 ∗ Half Wm c 1 s1 ∗ tPts c ∗ outSt c o ∗ R) ho (BIBase.Entails.trans ?_ h))
  · unfold StC
    iintro ⟨HO, Hz, HL, H0, H1, Ht, Ho, HR⟩
    ihave HL := (lad_look (fun i => Rcv X c (ord c i)) (fun i => Got X c (ord c i)) n i hn) $$ HL
    unfold Got
    icases HL with ⟨⟨Hs, Hv⟩, HL⟩
    iframe
  · unfold StC
    iintro ⟨Hs, HL, Hv, HO, Hz, H0, H1, Ht, Ho, HR⟩
    ihave HL := HL $$ [Hs Hv]
    · unfold Got; iframe
    iframe

/-- A read of the result whose value is not used; -/
theorem c_out_any {α : Type} {Q : α → sProp 𝕄} {R : sProp 𝕄} {r : LoadRect S512x4096} {hl}
    {k : (r.shape.Idx → Elt F .f32) → Prog (TpuEff nD τ sig (Elt F) Λ₀ .tc) α}
    (h : ∀ v, StC X Wm c n s0 s1 o R ⊢ wp frame (wpE (defs₀ (F := F)) 𝒱₀ c none) Set.univ (k v) Q) :
    StC X Wm c n s0 s1 o R ⊢ wp frame (wpE (defs₀ (F := F)) 𝒱₀ c none) Set.univ (.op (.load oM r hl) k) Q := by
  rw [stC_out] at h ⊢; exact out_load_any c o _ h
/-- reading the sum so far; -/
theorem c_out {α : Type} {Q : α → sProp 𝕄} {R : sProp 𝕄} {a : FVec F S512x4096 .f32} {hi hl}
    {k : (S512x4096.Idx → Elt F .f32) → Prog (TpuEff nD τ sig (Elt F) Λ₀ .tc) α}
    (h : StC X Wm c n s0 s1 (some a) R ⊢ wp frame (wpE (defs₀ (F := F)) 𝒱₀ c none) Set.univ (k a) Q) :
    StC X Wm c n s0 s1 (some a) R ⊢ wp frame (wpE (defs₀ (F := F)) 𝒱₀ c none) Set.univ
      (.op (.load oM (Rect.unit (s := S512x4096) ![0, 0] S512x4096.size hi).toLoadRect hl) k) Q := by
  rw [stC_out] at h ⊢; exact out_load c a _ h
/-- storing the sum. -/
theorem c_store {α : Type} {Q : α → sProp 𝕄} {R : sProp 𝕄} {a : FVec F S512x4096 .f32} {hi hx hm}
    {k : PUnit → Prog (TpuEff nD τ sig (Elt F) Λ₀ .tc) α}
    (h : StC X Wm c n s0 s1 (some a) R ⊢ wp frame (wpE (defs₀ (F := F)) 𝒱₀ c none) Set.univ (k ⟨⟩) Q) :
    StC X Wm c n s0 s1 o R ⊢ wp frame (wpE (defs₀ (F := F)) 𝒱₀ c none) Set.univ
      (.op (.store oM (Rect.unit (s := S512x4096) ![0, 0] S512x4096.size hi) a Finset.univ hx hm) k) Q := by
  rw [stC_out] at h ⊢; exact out_store c o a _ h

end

end Cert.Exchange

end
-- ==== Proof.Points.lean ====
/-
  The sum each device builds, and the rules of the stages in the form in which the parts of the body use them: the
  offsets and semaphores of each operation read as the device's own row of the table, its blocks and its slots.
-/
module

public import proofs.«01_k».proof.Proof.Stage

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The program `p`, run by the TensorCore of device `c`, ends in `Q`. -/
abbrev runs {α : Type} (c : Dev nD) (p : Prog (TpuEff nD τ sig (Elt F) Λ₀ .tc) α) (Q : α → sProp 𝕄) : sProp 𝕄 :=
  wp frame (wpE (defs₀ (F := F)) 𝒱₀ c none) Set.univ p Q

/-! ## Offsets and semaphores -/

theorem off_t (c : Dev nD) (n : Fin 15) :
    (![(Scalar.indexCast (Scalar.remsi (Scalar.divsi (Dev.word c) 1#32) 16#32)).toNat, n.val] : Fin 2 → ℕ) = ![c.val, n.val] := by
  have h : (Scalar.indexCast (Scalar.remsi (Scalar.divsi (Dev.word c) 1#32) 16#32)).toNat = c.val := by revert c; decide +kernel
  rw [h]

theorem sem_sent (j : Fin 15) (hi : ∀ a, (![j.succ.val] : Fin 1 → ℕ) a + S1.size a ≤ S16.size a)
    (hq : (Rect.unit (s := S16) ![j.succ.val] S1.size hi).shape.Squeezes S_) :
    ((cc0_scratch2.slice (Rect.unit (s := S16) ![j.succ.val] S1.size hi)).squeeze S_ hq).sem = sendS j := by
  revert j hi hq; decide +kernel

theorem sem_half (p : Fin 2) (hi : ∀ a, (![p.val] : Fin 1 → ℕ) a + S1.size a ≤ S2.size a)
    (hq : (Rect.unit (s := S2) ![p.val] S1.size hi).shape.Squeezes S_) :
    ((cc0_scratch4.slice (Rect.unit (s := S2) ![p.val] S1.size hi)).squeeze S_ hq).sem = wS p := by
  revert p hi hq; decide +kernel

variable (X : Dev nD → (S8192x512.Idx → Elt F .bf16)) (Wm : Dev nD → (S8192x4096.Idx → Elt F .f32))

/-! ## The sum -/

/-- What device `c` holds in its result after adding the first `t + 1` products: its own block, then the blocks in the
    order of its row of the table. -/
def acc (c : Dev nD) : ℕ → FVec F S512x4096 .f32
  | 0 => k0_pay2 (wv Wm c c) (sv X c 0)
  | t + 1 => if h : t < 15 then k0_pay3 (wv Wm c (dn c (ord c ⟨t, h⟩))) (sv X c (ord c ⟨t, h⟩).succ) (acc c t) else acc c t
/-- The result: the last product is added, and the sum cut off below at zero. -/
def res (c : Dev nD) : FVec F S512x4096 .f32 :=
  k0_pay20 (wv Wm c (dn c (ord c 14))) (sv X c (ord c 14).succ) (acc X Wm c 14)

theorem acc_step (c : Dev nD) (t : Fin 15) :
    k0_pay3 (wv Wm c (dn c (ord c t))) (sv X c (ord c t).succ) (acc X Wm c t.val) = acc X Wm c (t.val + 1) := by
  rw [acc, dif_pos t.isLt]

/-! ## The first stages -/

/-- What the device holds for the wait at the entry barrier and the copies after it, next to `R`. -/
def barPre (c : Dev nD) (R : sProp 𝕄) : sProp 𝕄 :=
  iprop((levAts L lv ∗ cinv X (barCell c) ∗ cred (tallyAt (barCell c) () 15) ∗ atPos ER (barCell c) 0 ∅ 0)
    ∗ bigSep Finset.univ (SndP X c) ∗ R)

theorem stB_row (c : Dev nD) (n : ℕ) (P S R : sProp 𝕄) :
    StB X c n iprop(P ∗ S ∗ R) = iprop(P ∗ S ∗ StB X c n R) := by
  unfold StB
  exact eq_of_both (by iintro ⟨H1, H2, H3, H4, H5⟩; iframe) (by iintro ⟨H1, H2, H3, H4, H5⟩; iframe)
theorem sep_swap (P S R : sProp 𝕄) : iprop(P ∗ S ∗ R) = iprop(S ∗ P ∗ R) :=
  eq_of_both (by iintro ⟨H1, H2, H3⟩; iframe) (by iintro ⟨H1, H2, H3⟩; iframe)

section
variable {X Wm}
variable {c : Dev nD} {n : ℕ} {s0 s1 : HSt} {o : Option (FVec F S512x4096 .f32)}

/-- The device reads its own rows of `x`; -/
theorem b_row {α : Type} {Q : α → sProp 𝕄} {R S : sProp 𝕄} {off : Fin 2 → ℕ} {hi hl} {k : (S512x512.Idx → Elt F .bf16) → Prog (TpuEff nD τ sig (Elt F) Λ₀ .tc) α}
    (ho : off = ![512 * c.val, 0])
    (h : StB X c n iprop(rowPts X c c ∗ S ∗ R) ⊢ runs c (k (xv X c c)) Q) :
    StB X c n iprop(rowPts X c c ∗ S ∗ R)
      ⊢ runs c (.op (.load xM (Rect.unit (s := S8192x512) off S512x512.size hi).toLoadRect hl) k) Q := by
  rw [stB_row] at h ⊢; exact step_load_row X c _ ho h
/-- it reads slot 0, to no purpose; -/
theorem b_slot0 {α : Type} {Q : α → sProp 𝕄} {R P : sProp 𝕄} {hi hl} {k : (S1x512x512.Idx → Elt F .bf16) → Prog (TpuEff nD τ sig (Elt F) Λ₀ .tc) α}
    (h : ∀ v, StB X c n iprop(P ∗ (∃ f, slotPts c 0 f) ∗ R) ⊢ runs c (k v) Q) :
    StB X c n iprop(P ∗ (∃ f, slotPts c 0 f) ∗ R)
      ⊢ runs c (.op (.load rM (Rect.unit (s := S16x512x512) ![0, 0, 0] S1x512x512.size hi).toLoadRect hl) k) Q := by
  rw [stB_row, sep_swap] at h ⊢; exact step_load_slot0 c _ h
/-- it puts its rows in slot 0. -/
theorem b_store0 {α : Type} {Q : α → sProp 𝕄} {R P : sProp 𝕄} {hi hx hm} {k : PUnit → Prog (TpuEff nD τ sig (Elt F) Λ₀ .tc) α}
    (h : StB X c n iprop(P ∗ slotPts c 0 (RB X c) ∗ R) ⊢ runs c (k ⟨⟩) Q) :
    StB X c n iprop(P ∗ (∃ f, slotPts c 0 f) ∗ R)
      ⊢ runs c (.op (.store rM (Rect.unit (s := S16x512x512) ![0, 0, 0] S1x512x512.size hi) (k0_pay1 (xv X c c)) Finset.univ hx hm) k) Q := by
  rw [stB_row, sep_swap] at h ⊢; exact step_store_slot0 X c _ h

/-! ## The summing stage -/

/-- Reading a word of the table. -/
theorem c_word {α : Type} {Q : α → sProp 𝕄} {R : sProp 𝕄} (i : Fin 15) {off : Fin 2 → ℕ} {hi hn hp} {k : Elt F .i32 → Prog (TpuEff nD τ sig (Elt F) Λ₀ .tc) α}
    (ho : off = ![c.val, i.val])
    (h : StC X Wm c n s0 s1 o R ⊢ runs c (k (tw c i)) Q) :
    StC X Wm c n s0 s1 o R ⊢ runs c (smemLoad tM (Rect.unit (s := S16x15) off S1x1.size hi) hn hp >>= k) Q :=
  c_table (hw := View.loads_smem_one hp hn) i ho h

/-- Storing the sum `a`. -/
theorem c_put {α : Type} {Q : α → sProp 𝕄} {R : sProp 𝕄} {a v : FVec F S512x4096 .f32} {hi hx hm}
    {k : PUnit → Prog (TpuEff nD τ sig (Elt F) Λ₀ .tc) α} (hv : v = a)
    (h : StC X Wm c n s0 s1 (some a) R ⊢ runs c (k ⟨⟩) Q) :
    StC X Wm c n s0 s1 o R ⊢ runs c
      (.op (.store oM (Rect.unit (s := S512x4096) ![0, 0] S512x4096.size hi) v Finset.univ hx hm) k) Q := by
  subst hv; exact c_store h

end

end Cert.Exchange

end
-- ==== Proof.PartsA.lean ====
/-
  The parts of the body up to the copies: the barrier, the sends, and the copy of the device's own rows.
-/
module

public import proofs.«01_k».proof.Proof.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (S8192x512.Idx → Elt F .bf16)) (Wm : Dev nD → (S8192x4096.Idx → Elt F .f32)) (c : Dev nD)

set_option maxHeartbeats 400000 in
theorem part1 {α : Type} {Q : α → sProp 𝕄} (R : sProp 𝕄) {g0 g1 g2 g3 g4 g5}
    {k : _ → Prog (TpuEff nD τ sig (Elt F) Λ₀ .tc) α}
    (h : ∀ (v2 : BitVec 32) (v24 : BitVec 32), StA X c 5 (barPre X c R) ⊢ runs c (k ⟨c, v2, SemArray.scalar (sig.barrier 0 rfl), v24, 16#32⟩) Q) :
    StA X c 0 (barPre X c R) ⊢ runs c
      ((k0_part1 (F := F) xM g0 wM g1 tM g2 oM g3 rM g4 bM g5 cc0_scratch2 cc0_scratch3 cc0_scratch4 ) >>= k) Q := by
  rw [k0_part1_eq_skeleton]; unfold k0_part1_skel
  simp only [semSignalWord, semWaitWord, Prog.lift, Prog.bind_op, Prog.bind_ret, Prog.pure_eq_ret, Prog.bind_assoc, wp_deviceId]
  refine step_signal X c 0 _ (Fin.ext (k0_dev1_eq c)) rfl ?_
  refine step_signal X c 1 _ (Fin.ext (k0_dev2_eq c)) rfl ?_
  refine step_signal X c 2 _ (Fin.ext (k0_dev3_eq c)) rfl ?_
  refine step_signal X c 3 _ (Fin.ext (k0_dev4_eq c)) rfl ?_
  refine step_signal X c 4 _ (Fin.ext (k0_dev5_eq c)) rfl ?_
  exact h _ _

set_option maxHeartbeats 400000 in
theorem part2 {α : Type} {Q : α → sProp 𝕄} (R : sProp 𝕄) {g0 g1 g2 g3 g4 g5} (v2 : BitVec 32) (v24 : BitVec 32) (c16_i32_20 : BitVec 32)
    {k : _ → Prog (TpuEff nD τ sig (Elt F) Λ₀ .tc) α}
    (h : ∀ (v48 : BitVec 32), StA X c 11 (barPre X c R) ⊢ runs c (k ⟨v48, 16#32⟩) Q) :
    StA X c 5 (barPre X c R) ⊢ runs c
      ((k0_part2 (F := F) xM g0 wM g1 tM g2 oM g3 rM g4 bM g5 cc0_scratch2 cc0_scratch3 cc0_scratch4 c v2 (SemArray.scalar (sig.barrier 0 rfl)) v24 c16_i32_20) >>= k) Q := by
  rw [k0_part2_eq_skeleton]; unfold k0_part2_skel
  simp only [semSignalWord, semWaitWord, Prog.lift, Prog.bind_op, Prog.bind_ret, Prog.pure_eq_ret, Prog.bind_assoc, wp_deviceId]
  refine step_signal X c 5 _ (Fin.ext (k0_dev6_eq c)) rfl ?_
  refine step_signal X c 6 _ (Fin.ext (k0_dev7_eq c)) rfl ?_
  refine step_signal X c 7 _ (Fin.ext (k0_dev8_eq c)) rfl ?_
  refine step_signal X c 8 _ (Fin.ext (k0_dev9_eq c)) rfl ?_
  refine step_signal X c 9 _ (Fin.ext (k0_dev10_eq c)) rfl ?_
  refine step_signal X c 10 _ (Fin.ext (k0_dev11_eq c)) rfl ?_
  exact h _

set_option maxHeartbeats 400000 in
theorem part3 {α : Type} {Q : α → sProp 𝕄} (R : sProp 𝕄) {g0 g1 g2 g3 g4 g5} (v2 : BitVec 32) (v48 : BitVec 32) (c16_i32_44 : BitVec 32)
    {k : _ → Prog (TpuEff nD τ sig (Elt F) Λ₀ .tc) α}
    (h : StB X c 0 iprop(semVal (barCell c) 0 ∗ R) ⊢ runs c (k ⟨⟩) Q) :
    StA X c 11 (barPre X c R) ⊢ runs c
      ((k0_part3 (F := F) xM g0 wM g1 tM g2 oM g3 rM g4 bM g5 cc0_scratch2 cc0_scratch3 cc0_scratch4 c v2 (SemArray.scalar (sig.barrier 0 rfl)) v48 c16_i32_44) >>= k) Q := by
  rw [k0_part3_eq_skeleton]; unfold k0_part3_skel
  simp only [semSignalWord, semWaitWord, Prog.lift, Prog.bind_op, Prog.bind_ret, Prog.pure_eq_ret, Prog.bind_assoc, wp_deviceId]
  refine step_signal X c 11 _ (Fin.ext (k0_dev12_eq c)) rfl ?_
  refine step_signal X c 12 _ (Fin.ext (k0_dev13_eq c)) rfl ?_
  refine step_signal X c 13 _ (Fin.ext (k0_dev14_eq c)) rfl ?_
  refine step_signal X c 14 _ (Fin.ext (k0_dev15_eq c)) rfl ?_
  refine step_barrier X c _ rfl ?_
  exact h

set_option maxHeartbeats 400000 in
theorem part4 {α : Type} {Q : α → sProp 𝕄} (R : sProp 𝕄) {g0 g1 g2 g3 g4 g5} (v2 : BitVec 32)
    {k : _ → Prog (TpuEff nD τ sig (Elt F) Λ₀ .tc) α}
    (h : ∀ (v101 : BitVec 32), StB X c 3 R ⊢ runs c (k v101) Q) :
    StB X c 0 R ⊢ runs c
      ((k0_part4 (F := F) xM g0 wM g1 tM g2 oM g3 rM g4 bM g5 cc0_scratch2 cc0_scratch3 cc0_scratch4 c v2) >>= k) Q := by
  rw [k0_part4_eq_skeleton]; unfold k0_part4_skel
  simp only [semSignalWord, semWaitWord, Prog.lift, Prog.bind_op, Prog.bind_ret, Prog.pure_eq_ret, Prog.bind_assoc, wp_deviceId]
  refine step_send X c 0 _ (Fin.ext (k0_dev16_eq c)) (off_x c 0) rfl (sem_sent 0 _ _) (sem_slot 0 _ _) ?_
  refine step_send X c 1 _ (Fin.ext (k0_dev17_eq c)) (off_x c 1) rfl (sem_sent 1 _ _) (sem_slot 1 _ _) ?_
  refine step_send X c 2 _ (Fin.ext (k0_dev18_eq c)) (off_x c 2) rfl (sem_sent 2 _ _) (sem_slot 2 _ _) ?_
  exact h _

set_option maxHeartbeats 400000 in
theorem part5 {α : Type} {Q : α → sProp 𝕄} (R : sProp 𝕄) {g0 g1 g2 g3 g4 g5} (v2 : BitVec 32) (v101 : BitVec 32)
    {k : _ → Prog (TpuEff nD τ sig (Elt F) Λ₀ .tc) α}
    (h : StB X c 5 R ⊢ runs c (k ⟨⟩) Q) :
    StB X c 3 R ⊢ runs c
      ((k0_part5 (F := F) xM g0 wM g1 tM g2 oM g3 rM g4 bM g5 cc0_scratch2 cc0_scratch3 cc0_scratch4 c v2 v101) >>= k) Q := by
  rw [k0_part5_eq_skeleton]; unfold k0_part5_skel
  simp only [semSignalWord, semWaitWord, Prog.lift, Prog.bind_op, Prog.bind_ret, Prog.pure_eq_ret, Prog.bind_assoc, wp_deviceId]
  refine step_send X c 3 _ (Fin.ext (k0_dev19_eq c)) (off_x c 3) rfl (sem_sent 3 _ _) (sem_slot 3 _ _) ?_
  refine step_send X c 4 _ (Fin.ext (k0_dev20_eq c)) (off_x c 4) rfl (sem_sent 4 _ _) (sem_slot 4 _ _) ?_
  exact h

set_option maxHeartbeats 400000 in
theorem part6 {α : Type} {Q : α → sProp 𝕄} (R : sProp 𝕄) {g0 g1 g2 g3 g4 g5} (v2 : BitVec 32)
    {k : _ → Prog (TpuEff nD τ sig (Elt F) Λ₀ .tc) α}
    (h : ∀ (v161 : BitVec 32), StB X c 8 R ⊢ runs c (k v161) Q) :
    StB X c 5 R ⊢ runs c
      ((k0_part6 (F := F) xM g0 wM g1 tM g2 oM g3 rM g4 bM g5 cc0_scratch2 cc0_scratch3 cc0_scratch4 c v2) >>= k) Q := by
  rw [k0_part6_eq_skeleton]; unfold k0_part6_skel
  simp only [semSignalWord, semWaitWord, Prog.lift, Prog.bind_op, Prog.bind_ret, Prog.pure_eq_ret, Prog.bind_assoc, wp_deviceId]
  refine step_send X c 5 _ (Fin.ext (k0_dev21_eq c)) (off_x c 5) rfl (sem_sent 5 _ _) (sem_slot 5 _ _) ?_
  refine step_send X c 6 _ (Fin.ext (k0_dev22_eq c)) (off_x c 6) rfl (sem_sent 6 _ _) (sem_slot 6 _ _) ?_
  refine step_send X c 7 _ (Fin.ext (k0_dev23_eq c)) (off_x c 7) rfl (sem_sent 7 _ _) (sem_slot 7 _ _) ?_
  exact h _

set_option maxHeartbeats 400000 in
theorem part7 {α : Type} {Q : α → sProp 𝕄} (R : sProp 𝕄) {g0 g1 g2 g3 g4 g5} (v2 : BitVec 32) (v161 : BitVec 32)
    {k : _ → Prog (TpuEff nD τ sig (Elt F) Λ₀ .tc) α}
    (h : StB X c 10 R ⊢ runs c (k ⟨⟩) Q) :
    StB X c 8 R ⊢ runs c
      ((k0_part7 (F := F) xM g0 wM g1 tM g2 oM g3 rM g4 bM g5 cc0_scratch2 cc0_scratch3 cc0_scratch4 c v2 v161) >>= k) Q := by
  rw [k0_part7_eq_skeleton]; unfold k0_part7_skel
  simp only [semSignalWord, semWaitWord, Prog.lift, Prog.bind_op, Prog.bind_ret, Prog.pure_eq_ret, Prog.bind_assoc, wp_deviceId]
  refine step_send X c 8 _ (Fin.ext (k0_dev24_eq c)) (off_x c 8) rfl (sem_sent 8 _ _) (sem_slot 8 _ _) ?_
  refine step_send X c 9 _ (Fin.ext (k0_dev25_eq c)) (off_x c 9) rfl (sem_sent 9 _ _) (sem_slot 9 _ _) ?_
  exact h

set_option maxHeartbeats 400000 in
theorem part8 {α : Type} {Q : α → sProp 𝕄} (R : sProp 𝕄) {g0 g1 g2 g3 g4 g5} (v2 : BitVec 32)
    {k : _ → Prog (TpuEff nD τ sig (Elt F) Λ₀ .tc) α}
    (h : ∀ (v221 : BitVec 32), StB X c 13 R ⊢ runs c (k v221) Q) :
    StB X c 10 R ⊢ runs c
      ((k0_part8 (F := F) xM g0 wM g1 tM g2 oM g3 rM g4 bM g5 cc0_scratch2 cc0_scratch3 cc0_scratch4 c v2) >>= k) Q := by
  rw [k0_part8_eq_skeleton]; unfold k0_part8_skel
  simp only [semSignalWord, semWaitWord, Prog.lift, Prog.bind_op, Prog.bind_ret, Prog.pure_eq_ret, Prog.bind_assoc, wp_deviceId]
  refine step_send X c 10 _ (Fin.ext (k0_dev26_eq c)) (off_x c 10) rfl (sem_sent 10 _ _) (sem_slot 10 _ _) ?_
  refine step_send X c 11 _ (Fin.ext (k0_dev27_eq c)) (off_x c 11) rfl (sem_sent 11 _ _) (sem_slot 11 _ _) ?_
  refine step_send X c 12 _ (Fin.ext (k0_dev28_eq c)) (off_x c 12) rfl (sem_sent 12 _ _) (sem_slot 12 _ _) ?_
  exact h _

set_option maxHeartbeats 400000 in
theorem part9 {α : Type} {Q : α → sProp 𝕄} (R : sProp 𝕄) {g0 g1 g2 g3 g4 g5} (v2 : BitVec 32) (v221 : BitVec 32)
    {k : _ → Prog (TpuEff nD τ sig (Elt F) Λ₀ .tc) α}
    (h : StB X c 15 iprop(rowPts X c c ∗ slotPts c 0 (RB X c) ∗ R) ⊢ runs c (k ⟨⟩) Q) :
    StB X c 13 iprop(rowPts X c c ∗ (∃ f, slotPts c 0 f) ∗ R) ⊢ runs c
      ((k0_part9 (F := F) xM g0 wM g1 tM g2 oM g3 rM g4 bM g5 cc0_scratch2 cc0_scratch3 cc0_scratch4 c v2 v221) >>= k) Q := by
  rw [k0_part9_eq_skeleton]; unfold k0_part9_skel
  simp only [semSignalWord, semWaitWord, Prog.lift, Prog.bind_op, Prog.bind_ret, Prog.pure_eq_ret, Prog.bind_assoc, wp_deviceId]
  refine step_send X c 13 _ (Fin.ext (k0_dev29_eq c)) (off_x c 13) rfl (sem_sent 13 _ _) (sem_slot 13 _ _) ?_
  refine step_send X c 14 _ (Fin.ext (k0_dev30_eq c)) (off_x c 14) rfl (sem_sent 14 _ _) (sem_slot 14 _ _) ?_
  refine b_row (k0_off2_eq c) ?_
  refine b_slot0 (fun _ => ?_)
  refine b_store0 ?_
  exact h

end Cert.Exchange

end
-- ==== Proof.PartsC.lean ====
/-
  The parts of the body that wait for the blocks and sum the products.
-/
module

public import proofs.«01_k».proof.Proof.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (S8192x512.Idx → Elt F .bf16)) (Wm : Dev nD → (S8192x4096.Idx → Elt F .f32)) (c : Dev nD)

set_option maxHeartbeats 400000 in
theorem part10 {α : Type} {Q : α → sProp 𝕄} (R : sProp 𝕄) {g0 g1 g2 g3 g4 g5} (v2 : BitVec 32)
    {k : _ → Prog (TpuEff nD τ sig (Elt F) Λ₀ .tc) α}
    (h : StC X Wm c 0 (.full c) (.fly (dn c (ord c 0))) (none) R ⊢ runs c (k (k0_pay2 (wv Wm c c) (sv X c 0))) Q) :
    StC X Wm c 0 (.idle) (.idle) (none) R ⊢ runs c
      ((k0_part10 (F := F) xM g0 wM g1 tM g2 oM g3 rM g4 bM g5 cc0_scratch2 cc0_scratch3 cc0_scratch4 c v2) >>= k) Q := by
  rw [k0_part10_eq_skeleton]; unfold k0_part10_skel
  simp only [semSignalWord, semWaitWord, Prog.lift, Prog.bind_op, Prog.bind_ret, Prog.pure_eq_ret, Prog.bind_assoc, wp_deviceId]
  refine c_start0 (s := c) (k0_off3_eq c) rfl (sem_half 0 _ _) ?_
  refine c_word 0 (off_t c 0) ?_
  refine c_assume (chk_w c 0) ?_
  refine c_start1 (s := (dn c (ord c 0))) (off_w c 0) rfl (sem_half 1 _ _) ?_
  refine c_wait0 rfl (sem_half 0 _ _) ?_
  refine c_w0 rfl ?_
  refine c_slot0 rfl ?_
  exact h

set_option maxHeartbeats 400000 in
theorem part11 {α : Type} {Q : α → sProp 𝕄} (R : sProp 𝕄) {g0 g1 g2 g3 g4 g5} (v2 : BitVec 32)
    {k : _ → Prog (TpuEff nD τ sig (Elt F) Λ₀ .tc) α}
    (h : ∀ (k0_hw3 : k0_chk3 c (tw c 0)) (k0_hw4 : k0_chk4 c (tw c 0)) (v312 : BitVec 32), StC X Wm c 1 (.fly (dn c (ord c 1))) (.fly (dn c (ord c 0))) (some (acc X Wm c 0)) R ⊢ runs c (k ⟨(tw c 0), k0_hw3, (tw c 0), k0_hw4, v312, 512#32⟩) Q) :
    StC X Wm c 0 (.full c) (.fly (dn c (ord c 0))) (none) R ⊢ runs c
      ((k0_part11 (F := F) xM g0 wM g1 tM g2 oM g3 rM g4 bM g5 cc0_scratch2 cc0_scratch3 cc0_scratch4 c v2 (k0_pay2 (wv Wm c c) (sv X c 0))) >>= k) Q := by
  rw [k0_part11_eq_skeleton]; unfold k0_part11_skel
  simp only [semSignalWord, semWaitWord, Prog.lift, Prog.bind_op, Prog.bind_ret, Prog.pure_eq_ret, Prog.bind_assoc, wp_deviceId]
  refine c_out_any (fun _ => ?_)
  refine c_put (a := acc X Wm c 0) rfl ?_
  refine c_word 1 (off_t c 1) ?_
  refine c_assume (chk_w c 1) ?_
  refine c_again0 (s := (dn c (ord c 1))) (off_w c 1) rfl (sem_half 0 _ _) ?_
  refine c_word 0 (off_t c 0) ?_
  refine c_assume (chk_s c 0) ?_
  refine c_recv 0 (sem_recv c 0 (off_m c 0)) rfl ?_
  refine c_word 0 (off_t c 0) ?_
  refine c_assume (chk_w c 0) ?_
  exact h _ _ _

set_option maxHeartbeats 400000 in
theorem part12 {α : Type} {Q : α → sProp 𝕄} (R : sProp 𝕄) {g0 g1 g2 g3 g4 g5} (v2 : BitVec 32) {k0_hw3 : k0_chk3 c (tw c 0)} {k0_hw4 : k0_chk4 c (tw c 0)} (v312 : BitVec 32) (c512_i32_281 : BitVec 32)
    {k : _ → Prog (TpuEff nD τ sig (Elt F) Λ₀ .tc) α}
    (h : StC X Wm c 1 (.fly (dn c (ord c 1))) (.fly (dn c (ord c 2))) (some (acc X Wm c 1)) R ⊢ runs c (k ⟨⟩) Q) :
    StC X Wm c 1 (.fly (dn c (ord c 1))) (.fly (dn c (ord c 0))) (some (acc X Wm c 0)) R ⊢ runs c
      ((k0_part12 (F := F) xM g0 wM g1 tM g2 oM g3 rM g4 bM g5 cc0_scratch2 cc0_scratch3 cc0_scratch4 c v2 (tw c 0) k0_hw3 (tw c 0) k0_hw4 v312 c512_i32_281) >>= k) Q := by
  rw [k0_part12_eq_skeleton]; unfold k0_part12_skel
  simp only [semSignalWord, semWaitWord, Prog.lift, Prog.bind_op, Prog.bind_ret, Prog.pure_eq_ret, Prog.bind_assoc, wp_deviceId]
  refine c_wait1 rfl (sem_half 1 _ _) ?_
  refine c_w1 rfl ?_
  refine c_slot 0 (by decide) (off_s c 0) ?_
  refine c_out ?_
  refine c_out_any (fun _ => ?_)
  refine c_put (a := acc X Wm c 1) (acc_step X Wm c 0) ?_
  refine c_word 2 (off_t c 2) ?_
  refine c_assume (chk_w c 2) ?_
  refine c_again1 (s := (dn c (ord c 2))) (off_w c 2) rfl (sem_half 1 _ _) ?_
  exact h

set_option maxHeartbeats 400000 in
theorem part13 {α : Type} {Q : α → sProp 𝕄} (R : sProp 𝕄) {g0 g1 g2 g3 g4 g5} (v2 : BitVec 32)
    {k : _ → Prog (TpuEff nD τ sig (Elt F) Λ₀ .tc) α}
    (h : StC X Wm c 2 (.full (dn c (ord c 1))) (.fly (dn c (ord c 2))) (some (acc X Wm c 1)) R ⊢ runs c (k (k0_pay4 (wv Wm c (dn c (ord c 1))) (sv X c (ord c 1).succ))) Q) :
    StC X Wm c 1 (.fly (dn c (ord c 1))) (.fly (dn c (ord c 2))) (some (acc X Wm c 1)) R ⊢ runs c
      ((k0_part13 (F := F) xM g0 wM g1 tM g2 oM g3 rM g4 bM g5 cc0_scratch2 cc0_scratch3 cc0_scratch4 c v2) >>= k) Q := by
  rw [k0_part13_eq_skeleton]; unfold k0_part13_skel
  simp only [semSignalWord, semWaitWord, Prog.lift, Prog.bind_op, Prog.bind_ret, Prog.pure_eq_ret, Prog.bind_assoc, wp_deviceId]
  refine c_word 1 (off_t c 1) ?_
  refine c_assume (chk_s c 1) ?_
  refine c_recv 1 (sem_recv c 1 (off_m c 1)) rfl ?_
  refine c_word 1 (off_t c 1) ?_
  refine c_assume (chk_w c 1) ?_
  refine c_wait0 rfl (sem_half 0 _ _) ?_
  refine c_w0 rfl ?_
  refine c_slot 1 (by decide) (off_s c 1) ?_
  exact h

set_option maxHeartbeats 400000 in
theorem part14 {α : Type} {Q : α → sProp 𝕄} (R : sProp 𝕄) {g0 g1 g2 g3 g4 g5} (v2 : BitVec 32)
    {k : _ → Prog (TpuEff nD τ sig (Elt F) Λ₀ .tc) α}
    (h : ∀ (k0_hw9 : k0_chk9 c (tw c 2)) (k0_hw10 : k0_chk10 c (tw c 2)) (v404 : BitVec 32), StC X Wm c 3 (.fly (dn c (ord c 3))) (.fly (dn c (ord c 2))) (some (acc X Wm c 2)) R ⊢ runs c (k ⟨(tw c 2), k0_hw9, (tw c 2), k0_hw10, v404, 16#32⟩) Q) :
    StC X Wm c 2 (.full (dn c (ord c 1))) (.fly (dn c (ord c 2))) (some (acc X Wm c 1)) R ⊢ runs c
      ((k0_part14 (F := F) xM g0 wM g1 tM g2 oM g3 rM g4 bM g5 cc0_scratch2 cc0_scratch3 cc0_scratch4 c v2 (k0_pay4 (wv Wm c (dn c (ord c 1))) (sv X c (ord c 1).succ))) >>= k) Q := by
  rw [k0_part14_eq_skeleton]; unfold k0_part14_skel
  simp only [semSignalWord, semWaitWord, Prog.lift, Prog.bind_op, Prog.bind_ret, Prog.pure_eq_ret, Prog.bind_assoc, wp_deviceId]
  refine c_out ?_
  refine c_out_any (fun _ => ?_)
  refine c_put (a := acc X Wm c 2) (acc_step X Wm c 1) ?_
  refine c_word 3 (off_t c 3) ?_
  refine c_assume (chk_w c 3) ?_
  refine c_again0 (s := (dn c (ord c 3))) (off_w c 3) rfl (sem_half 0 _ _) ?_
  refine c_word 2 (off_t c 2) ?_
  refine c_assume (chk_s c 2) ?_
  refine c_recv 2 (sem_recv c 2 (off_m c 2)) rfl ?_
  refine c_word 2 (off_t c 2) ?_
  refine c_assume (chk_w c 2) ?_
  exact h _ _ _

set_option maxHeartbeats 400000 in
theorem part15 {α : Type} {Q : α → sProp 𝕄} (R : sProp 𝕄) {g0 g1 g2 g3 g4 g5} (v2 : BitVec 32) {k0_hw9 : k0_chk9 c (tw c 2)} {k0_hw10 : k0_chk10 c (tw c 2)} (v404 : BitVec 32) (c16_i32_353 : BitVec 32)
    {k : _ → Prog (TpuEff nD τ sig (Elt F) Λ₀ .tc) α}
    (h : ∀ (k0_hw11 : k0_chk11 c (tw c 4)), StC X Wm c 3 (.fly (dn c (ord c 3))) (.full (dn c (ord c 2))) (some (acc X Wm c 3)) R ⊢ runs c (k ⟨(tw c 4), k0_hw11⟩) Q) :
    StC X Wm c 3 (.fly (dn c (ord c 3))) (.fly (dn c (ord c 2))) (some (acc X Wm c 2)) R ⊢ runs c
      ((k0_part15 (F := F) xM g0 wM g1 tM g2 oM g3 rM g4 bM g5 cc0_scratch2 cc0_scratch3 cc0_scratch4 c v2 (tw c 2) k0_hw9 (tw c 2) k0_hw10 v404 c16_i32_353) >>= k) Q := by
  rw [k0_part15_eq_skeleton]; unfold k0_part15_skel
  simp only [semSignalWord, semWaitWord, Prog.lift, Prog.bind_op, Prog.bind_ret, Prog.pure_eq_ret, Prog.bind_assoc, wp_deviceId]
  refine c_wait1 rfl (sem_half 1 _ _) ?_
  refine c_w1 rfl ?_
  refine c_slot 2 (by decide) (off_s c 2) ?_
  refine c_out ?_
  refine c_out_any (fun _ => ?_)
  refine c_put (a := acc X Wm c 3) (acc_step X Wm c 2) ?_
  refine c_word 4 (off_t c 4) ?_
  refine c_assume (chk_w c 4) ?_
  exact h _

set_option maxHeartbeats 400000 in
theorem part16 {α : Type} {Q : α → sProp 𝕄} (R : sProp 𝕄) {g0 g1 g2 g3 g4 g5} (v2 : BitVec 32) {k0_hw11 : k0_chk11 c (tw c 4)}
    {k : _ → Prog (TpuEff nD τ sig (Elt F) Λ₀ .tc) α}
    (h : StC X Wm c 4 (.full (dn c (ord c 3))) (.fly (dn c (ord c 4))) (some (acc X Wm c 3)) R ⊢ runs c (k ⟨(k0_pay7 (wv Wm c (dn c (ord c 3)))), (sv X c (ord c 3).succ)⟩) Q) :
    StC X Wm c 3 (.fly (dn c (ord c 3))) (.full (dn c (ord c 2))) (some (acc X Wm c 3)) R ⊢ runs c
      ((k0_part16 (F := F) xM g0 wM g1 tM g2 oM g3 rM g4 bM g5 cc0_scratch2 cc0_scratch3 cc0_scratch4 c v2 (tw c 4) k0_hw11) >>= k) Q := by
  rw [k0_part16_eq_skeleton]; unfold k0_part16_skel
  simp only [semSignalWord, semWaitWord, Prog.lift, Prog.bind_op, Prog.bind_ret, Prog.pure_eq_ret, Prog.bind_assoc, wp_deviceId]
  refine c_again1 (s := (dn c (ord c 4))) (off_w c 4) rfl (sem_half 1 _ _) ?_
  refine c_word 3 (off_t c 3) ?_
  refine c_assume (chk_s c 3) ?_
  refine c_recv 3 (sem_recv c 3 (off_m c 3)) rfl ?_
  refine c_word 3 (off_t c 3) ?_
  refine c_assume (chk_w c 3) ?_
  refine c_wait0 rfl (sem_half 0 _ _) ?_
  refine c_w0 rfl ?_
  refine c_slot 3 (by decide) (off_s c 3) ?_
  exact h

set_option maxHeartbeats 400000 in
theorem part17 {α : Type} {Q : α → sProp 𝕄} (R : sProp 𝕄) {g0 g1 g2 g3 g4 g5} (v2 : BitVec 32)
    {k : _ → Prog (TpuEff nD τ sig (Elt F) Λ₀ .tc) α}
    (h : ∀ (k0_hw15 : k0_chk15 c (tw c 4)), StC X Wm c 5 (.fly (dn c (ord c 5))) (.fly (dn c (ord c 4))) (some (acc X Wm c 4)) R ⊢ runs c (k ⟨(tw c 4), k0_hw15⟩) Q) :
    StC X Wm c 4 (.full (dn c (ord c 3))) (.fly (dn c (ord c 4))) (some (acc X Wm c 3)) R ⊢ runs c
      ((k0_part17 (F := F) xM g0 wM g1 tM g2 oM g3 rM g4 bM g5 cc0_scratch2 cc0_scratch3 cc0_scratch4 c v2 (k0_pay7 (wv Wm c (dn c (ord c 3)))) (sv X c (ord c 3).succ)) >>= k) Q := by
  rw [k0_part17_eq_skeleton]; unfold k0_part17_skel
  simp only [semSignalWord, semWaitWord, Prog.lift, Prog.bind_op, Prog.bind_ret, Prog.pure_eq_ret, Prog.bind_assoc, wp_deviceId]
  refine c_out ?_
  refine c_out_any (fun _ => ?_)
  refine c_put (a := acc X Wm c 4) (acc_step X Wm c 3) ?_
  refine c_word 5 (off_t c 5) ?_
  refine c_assume (chk_w c 5) ?_
  refine c_again0 (s := (dn c (ord c 5))) (off_w c 5) rfl (sem_half 0 _ _) ?_
  refine c_word 4 (off_t c 4) ?_
  refine c_assume (chk_s c 4) ?_
  refine c_recv 4 (sem_recv c 4 (off_m c 4)) rfl ?_
  exact h _

set_option maxHeartbeats 400000 in
theorem part18 {α : Type} {Q : α → sProp 𝕄} (R : sProp 𝕄) {g0 g1 g2 g3 g4 g5} (v2 : BitVec 32) {k0_hw15 : k0_chk15 c (tw c 4)}
    {k : _ → Prog (TpuEff nD τ sig (Elt F) Λ₀ .tc) α}
    (h : ∀ (k0_hw17 : k0_chk17 c (tw c 6)), StC X Wm c 5 (.fly (dn c (ord c 5))) (.full (dn c (ord c 4))) (some (acc X Wm c 5)) R ⊢ runs c (k ⟨(tw c 6), k0_hw17⟩) Q) :
    StC X Wm c 5 (.fly (dn c (ord c 5))) (.fly (dn c (ord c 4))) (some (acc X Wm c 4)) R ⊢ runs c
      ((k0_part18 (F := F) xM g0 wM g1 tM g2 oM g3 rM g4 bM g5 cc0_scratch2 cc0_scratch3 cc0_scratch4 c v2 (tw c 4) k0_hw15) >>= k) Q := by
  rw [k0_part18_eq_skeleton]; unfold k0_part18_skel
  simp only [semSignalWord, semWaitWord, Prog.lift, Prog.bind_op, Prog.bind_ret, Prog.pure_eq_ret, Prog.bind_assoc, wp_deviceId]
  refine c_word 4 (off_t c 4) ?_
  refine c_assume (chk_w c 4) ?_
  refine c_wait1 rfl (sem_half 1 _ _) ?_
  refine c_w1 rfl ?_
  refine c_slot 4 (by decide) (off_s c 4) ?_
  refine c_out ?_
  refine c_out_any (fun _ => ?_)
  refine c_put (a := acc X Wm c 5) (acc_step X Wm c 4) ?_
  refine c_word 6 (off_t c 6) ?_
  refine c_assume (chk_w c 6) ?_
  exact h _

set_option maxHeartbeats 400000 in
theorem part19 {α : Type} {Q : α → sProp 𝕄} (R : sProp 𝕄) {g0 g1 g2 g3 g4 g5} (v2 : BitVec 32) {k0_hw17 : k0_chk17 c (tw c 6)}
    {k : _ → Prog (TpuEff nD τ sig (Elt F) Λ₀ .tc) α}
    (h : ∀ (k0_hw18 : k0_chk18 c (tw c 5)), StC X Wm c 6 (.full (dn c (ord c 5))) (.fly (dn c (ord c 6))) (some (acc X Wm c 5)) R ⊢ runs c (k ⟨(tw c 5), k0_hw18, (k0_pay10 (wv Wm c (dn c (ord c 5))))⟩) Q) :
    StC X Wm c 5 (.fly (dn c (ord c 5))) (.full (dn c (ord c 4))) (some (acc X Wm c 5)) R ⊢ runs c
      ((k0_part19 (F := F) xM g0 wM g1 tM g2 oM g3 rM g4 bM g5 cc0_scratch2 cc0_scratch3 cc0_scratch4 c v2 (tw c 6) k0_hw17) >>= k) Q := by
  rw [k0_part19_eq_skeleton]; unfold k0_part19_skel
  simp only [semSignalWord, semWaitWord, Prog.lift, Prog.bind_op, Prog.bind_ret, Prog.pure_eq_ret, Prog.bind_assoc, wp_deviceId]
  refine c_again1 (s := (dn c (ord c 6))) (off_w c 6) rfl (sem_half 1 _ _) ?_
  refine c_word 5 (off_t c 5) ?_
  refine c_assume (chk_s c 5) ?_
  refine c_recv 5 (sem_recv c 5 (off_m c 5)) rfl ?_
  refine c_word 5 (off_t c 5) ?_
  refine c_assume (chk_w c 5) ?_
  refine c_wait0 rfl (sem_half 0 _ _) ?_
  refine c_w0 rfl ?_
  exact h _

set_option maxHeartbeats 400000 in
theorem part20 {α : Type} {Q : α → sProp 𝕄} (R : sProp 𝕄) {g0 g1 g2 g3 g4 g5} (v2 : BitVec 32) {k0_hw18 : k0_chk18 c (tw c 5)}
    {k : _ → Prog (TpuEff nD τ sig (Elt F) Λ₀ .tc) α}
    (h : ∀ (k0_hw21 : k0_chk21 c (tw c 6)), StC X Wm c 6 (.fly (dn c (ord c 7))) (.fly (dn c (ord c 6))) (some (acc X Wm c 6)) R ⊢ runs c (k ⟨(tw c 6), k0_hw21⟩) Q) :
    StC X Wm c 6 (.full (dn c (ord c 5))) (.fly (dn c (ord c 6))) (some (acc X Wm c 5)) R ⊢ runs c
      ((k0_part20 (F := F) xM g0 wM g1 tM g2 oM g3 rM g4 bM g5 cc0_scratch2 cc0_scratch3 cc0_scratch4 c v2 (tw c 5) k0_hw18 (k0_pay10 (wv Wm c (dn c (ord c 5))))) >>= k) Q := by
  rw [k0_part20_eq_skeleton]; unfold k0_part20_skel
  simp only [semSignalWord, semWaitWord, Prog.lift, Prog.bind_op, Prog.bind_ret, Prog.pure_eq_ret, Prog.bind_assoc, wp_deviceId]
  refine c_slot 5 (by decide) (off_s c 5) ?_
  refine c_out ?_
  refine c_out_any (fun _ => ?_)
  refine c_put (a := acc X Wm c 6) (acc_step X Wm c 5) ?_
  refine c_word 7 (off_t c 7) ?_
  refine c_assume (chk_w c 7) ?_
  refine c_again0 (s := (dn c (ord c 7))) (off_w c 7) rfl (sem_half 0 _ _) ?_
  refine c_word 6 (off_t c 6) ?_
  refine c_assume (chk_s c 6) ?_
  exact h _

set_option maxHeartbeats 400000 in
theorem part21 {α : Type} {Q : α → sProp 𝕄} (R : sProp 𝕄) {g0 g1 g2 g3 g4 g5} (v2 : BitVec 32) {k0_hw21 : k0_chk21 c (tw c 6)}
    {k : _ → Prog (TpuEff nD τ sig (Elt F) Λ₀ .tc) α}
    (h : ∀ (k0_hw23 : k0_chk23 c (tw c 8)) (v618 : BitVec 32), StC X Wm c 7 (.fly (dn c (ord c 7))) (.full (dn c (ord c 6))) (some (acc X Wm c 7)) R ⊢ runs c (k ⟨(tw c 8), k0_hw23, v618, 0#32⟩) Q) :
    StC X Wm c 6 (.fly (dn c (ord c 7))) (.fly (dn c (ord c 6))) (some (acc X Wm c 6)) R ⊢ runs c
      ((k0_part21 (F := F) xM g0 wM g1 tM g2 oM g3 rM g4 bM g5 cc0_scratch2 cc0_scratch3 cc0_scratch4 c v2 (tw c 6) k0_hw21) >>= k) Q := by
  rw [k0_part21_eq_skeleton]; unfold k0_part21_skel
  simp only [semSignalWord, semWaitWord, Prog.lift, Prog.bind_op, Prog.bind_ret, Prog.pure_eq_ret, Prog.bind_assoc, wp_deviceId]
  refine c_recv 6 (sem_recv c 6 (off_m c 6)) rfl ?_
  refine c_word 6 (off_t c 6) ?_
  refine c_assume (chk_w c 6) ?_
  refine c_wait1 rfl (sem_half 1 _ _) ?_
  refine c_w1 rfl ?_
  refine c_slot 6 (by decide) (off_s c 6) ?_
  refine c_out ?_
  refine c_out_any (fun _ => ?_)
  refine c_put (a := acc X Wm c 7) (acc_step X Wm c 6) ?_
  refine c_word 8 (off_t c 8) ?_
  refine c_assume (chk_w c 8) ?_
  exact h _ _

set_option maxHeartbeats 400000 in
theorem part22 {α : Type} {Q : α → sProp 𝕄} (R : sProp 𝕄) {g0 g1 g2 g3 g4 g5} (v2 : BitVec 32) {k0_hw23 : k0_chk23 c (tw c 8)} (v618 : BitVec 32) (c0_i32_523 : BitVec 32)
    {k : _ → Prog (TpuEff nD τ sig (Elt F) Λ₀ .tc) α}
    (h : ∀ (k0_hw24 : k0_chk24 c (tw c 7)), StC X Wm c 8 (.full (dn c (ord c 7))) (.fly (dn c (ord c 8))) (some (acc X Wm c 7)) R ⊢ runs c (k ⟨(tw c 7), k0_hw24⟩) Q) :
    StC X Wm c 7 (.fly (dn c (ord c 7))) (.full (dn c (ord c 6))) (some (acc X Wm c 7)) R ⊢ runs c
      ((k0_part22 (F := F) xM g0 wM g1 tM g2 oM g3 rM g4 bM g5 cc0_scratch2 cc0_scratch3 cc0_scratch4 c v2 (tw c 8) k0_hw23 v618 c0_i32_523) >>= k) Q := by
  rw [k0_part22_eq_skeleton]; unfold k0_part22_skel
  simp only [semSignalWord, semWaitWord, Prog.lift, Prog.bind_op, Prog.bind_ret, Prog.pure_eq_ret, Prog.bind_assoc, wp_deviceId]
  refine c_again1 (s := (dn c (ord c 8))) (off_w c 8) rfl (sem_half 1 _ _) ?_
  refine c_word 7 (off_t c 7) ?_
  refine c_assume (chk_s c 7) ?_
  refine c_recv 7 (sem_recv c 7 (off_m c 7)) rfl ?_
  refine c_word 7 (off_t c 7) ?_
  refine c_assume (chk_w c 7) ?_
  refine c_wait0 rfl (sem_half 0 _ _) ?_
  exact h _

set_option maxHeartbeats 400000 in
theorem part23 {α : Type} {Q : α → sProp 𝕄} (R : sProp 𝕄) {g0 g1 g2 g3 g4 g5} (v2 : BitVec 32) {k0_hw24 : k0_chk24 c (tw c 7)}
    {k : _ → Prog (TpuEff nD τ sig (Elt F) Λ₀ .tc) α}
    (h : ∀ (k0_hw27 : k0_chk27 c (tw c 8)), StC X Wm c 8 (.fly (dn c (ord c 9))) (.fly (dn c (ord c 8))) (some (acc X Wm c 8)) R ⊢ runs c (k ⟨(tw c 8), k0_hw27⟩) Q) :
    StC X Wm c 8 (.full (dn c (ord c 7))) (.fly (dn c (ord c 8))) (some (acc X Wm c 7)) R ⊢ runs c
      ((k0_part23 (F := F) xM g0 wM g1 tM g2 oM g3 rM g4 bM g5 cc0_scratch2 cc0_scratch3 cc0_scratch4 c v2 (tw c 7) k0_hw24) >>= k) Q := by
  rw [k0_part23_eq_skeleton]; unfold k0_part23_skel
  simp only [semSignalWord, semWaitWord, Prog.lift, Prog.bind_op, Prog.bind_ret, Prog.pure_eq_ret, Prog.bind_assoc, wp_deviceId]
  refine c_w0 rfl ?_
  refine c_slot 7 (by decide) (off_s c 7) ?_
  refine c_out ?_
  refine c_out_any (fun _ => ?_)
  refine c_put (a := acc X Wm c 8) (acc_step X Wm c 7) ?_
  refine c_word 9 (off_t c 9) ?_
  refine c_assume (chk_w c 9) ?_
  refine c_again0 (s := (dn c (ord c 9))) (off_w c 9) rfl (sem_half 0 _ _) ?_
  refine c_word 8 (off_t c 8) ?_
  refine c_assume (chk_s c 8) ?_
  exact h _

set_option maxHeartbeats 400000 in
theorem part24 {α : Type} {Q : α → sProp 𝕄} (R : sProp 𝕄) {g0 g1 g2 g3 g4 g5} (v2 : BitVec 32) {k0_hw27 : k0_chk27 c (tw c 8)}
    {k : _ → Prog (TpuEff nD τ sig (Elt F) Λ₀ .tc) α}
    (h : ∀ (k0_hw29 : k0_chk29 c (tw c 10)) (v710 : BitVec 32), StC X Wm c 9 (.fly (dn c (ord c 9))) (.full (dn c (ord c 8))) (some (acc X Wm c 9)) R ⊢ runs c (k ⟨(tw c 10), k0_hw29, v710, 16#32⟩) Q) :
    StC X Wm c 8 (.fly (dn c (ord c 9))) (.fly (dn c (ord c 8))) (some (acc X Wm c 8)) R ⊢ runs c
      ((k0_part24 (F := F) xM g0 wM g1 tM g2 oM g3 rM g4 bM g5 cc0_scratch2 cc0_scratch3 cc0_scratch4 c v2 (tw c 8) k0_hw27) >>= k) Q := by
  rw [k0_part24_eq_skeleton]; unfold k0_part24_skel
  simp only [semSignalWord, semWaitWord, Prog.lift, Prog.bind_op, Prog.bind_ret, Prog.pure_eq_ret, Prog.bind_assoc, wp_deviceId]
  refine c_recv 8 (sem_recv c 8 (off_m c 8)) rfl ?_
  refine c_word 8 (off_t c 8) ?_
  refine c_assume (chk_w c 8) ?_
  refine c_wait1 rfl (sem_half 1 _ _) ?_
  refine c_w1 rfl ?_
  refine c_slot 8 (by decide) (off_s c 8) ?_
  refine c_out ?_
  refine c_out_any (fun _ => ?_)
  refine c_put (a := acc X Wm c 9) (acc_step X Wm c 8) ?_
  refine c_word 10 (off_t c 10) ?_
  refine c_assume (chk_w c 10) ?_
  exact h _ _

set_option maxHeartbeats 400000 in
theorem part25 {α : Type} {Q : α → sProp 𝕄} (R : sProp 𝕄) {g0 g1 g2 g3 g4 g5} (v2 : BitVec 32) {k0_hw29 : k0_chk29 c (tw c 10)} (v710 : BitVec 32) (c16_i32_595 : BitVec 32)
    {k : _ → Prog (TpuEff nD τ sig (Elt F) Λ₀ .tc) α}
    (h : ∀ (k0_hw30 : k0_chk30 c (tw c 9)) (k0_hw31 : k0_chk31 c (tw c 9)), StC X Wm c 10 (.fly (dn c (ord c 9))) (.fly (dn c (ord c 10))) (some (acc X Wm c 9)) R ⊢ runs c (k ⟨(tw c 9), k0_hw30, (tw c 9), k0_hw31⟩) Q) :
    StC X Wm c 9 (.fly (dn c (ord c 9))) (.full (dn c (ord c 8))) (some (acc X Wm c 9)) R ⊢ runs c
      ((k0_part25 (F := F) xM g0 wM g1 tM g2 oM g3 rM g4 bM g5 cc0_scratch2 cc0_scratch3 cc0_scratch4 c v2 (tw c 10) k0_hw29 v710 c16_i32_595) >>= k) Q := by
  rw [k0_part25_eq_skeleton]; unfold k0_part25_skel
  simp only [semSignalWord, semWaitWord, Prog.lift, Prog.bind_op, Prog.bind_ret, Prog.pure_eq_ret, Prog.bind_assoc, wp_deviceId]
  refine c_again1 (s := (dn c (ord c 10))) (off_w c 10) rfl (sem_half 1 _ _) ?_
  refine c_word 9 (off_t c 9) ?_
  refine c_assume (chk_s c 9) ?_
  refine c_recv 9 (sem_recv c 9 (off_m c 9)) rfl ?_
  refine c_word 9 (off_t c 9) ?_
  refine c_assume (chk_w c 9) ?_
  exact h _ _

set_option maxHeartbeats 400000 in
theorem part26 {α : Type} {Q : α → sProp 𝕄} (R : sProp 𝕄) {g0 g1 g2 g3 g4 g5} (v2 : BitVec 32) {k0_hw30 : k0_chk30 c (tw c 9)} {k0_hw31 : k0_chk31 c (tw c 9)}
    {k : _ → Prog (TpuEff nD τ sig (Elt F) Λ₀ .tc) α}
    (h : ∀ (k0_hw33 : k0_chk33 c (tw c 10)) (v771 : BitVec 32), StC X Wm c 10 (.fly (dn c (ord c 11))) (.fly (dn c (ord c 10))) (some (acc X Wm c 10)) R ⊢ runs c (k ⟨(tw c 10), k0_hw33, v771, 0#32⟩) Q) :
    StC X Wm c 10 (.fly (dn c (ord c 9))) (.fly (dn c (ord c 10))) (some (acc X Wm c 9)) R ⊢ runs c
      ((k0_part26 (F := F) xM g0 wM g1 tM g2 oM g3 rM g4 bM g5 cc0_scratch2 cc0_scratch3 cc0_scratch4 c v2 (tw c 9) k0_hw30 (tw c 9) k0_hw31) >>= k) Q := by
  rw [k0_part26_eq_skeleton]; unfold k0_part26_skel
  simp only [semSignalWord, semWaitWord, Prog.lift, Prog.bind_op, Prog.bind_ret, Prog.pure_eq_ret, Prog.bind_assoc, wp_deviceId]
  refine c_wait0 rfl (sem_half 0 _ _) ?_
  refine c_w0 rfl ?_
  refine c_slot 9 (by decide) (off_s c 9) ?_
  refine c_out ?_
  refine c_out_any (fun _ => ?_)
  refine c_put (a := acc X Wm c 10) (acc_step X Wm c 9) ?_
  refine c_word 11 (off_t c 11) ?_
  refine c_assume (chk_w c 11) ?_
  refine c_again0 (s := (dn c (ord c 11))) (off_w c 11) rfl (sem_half 0 _ _) ?_
  refine c_word 10 (off_t c 10) ?_
  refine c_assume (chk_s c 10) ?_
  exact h _ _

set_option maxHeartbeats 400000 in
theorem part27 {α : Type} {Q : α → sProp 𝕄} (R : sProp 𝕄) {g0 g1 g2 g3 g4 g5} (v2 : BitVec 32) {k0_hw33 : k0_chk33 c (tw c 10)} (v771 : BitVec 32) (c0_i32_644 : BitVec 32)
    {k : _ → Prog (TpuEff nD τ sig (Elt F) Λ₀ .tc) α}
    (h : ∀ (k0_hw35 : k0_chk35 c (tw c 12)), StC X Wm c 11 (.fly (dn c (ord c 11))) (.full (dn c (ord c 10))) (some (acc X Wm c 11)) R ⊢ runs c (k ⟨(tw c 12), k0_hw35⟩) Q) :
    StC X Wm c 10 (.fly (dn c (ord c 11))) (.fly (dn c (ord c 10))) (some (acc X Wm c 10)) R ⊢ runs c
      ((k0_part27 (F := F) xM g0 wM g1 tM g2 oM g3 rM g4 bM g5 cc0_scratch2 cc0_scratch3 cc0_scratch4 c v2 (tw c 10) k0_hw33 v771 c0_i32_644) >>= k) Q := by
  rw [k0_part27_eq_skeleton]; unfold k0_part27_skel
  simp only [semSignalWord, semWaitWord, Prog.lift, Prog.bind_op, Prog.bind_ret, Prog.pure_eq_ret, Prog.bind_assoc, wp_deviceId]
  refine c_recv 10 (sem_recv c 10 (off_m c 10)) rfl ?_
  refine c_word 10 (off_t c 10) ?_
  refine c_assume (chk_w c 10) ?_
  refine c_wait1 rfl (sem_half 1 _ _) ?_
  refine c_w1 rfl ?_
  refine c_slot 10 (by decide) (off_s c 10) ?_
  refine c_out ?_
  refine c_out_any (fun _ => ?_)
  refine c_put (a := acc X Wm c 11) (acc_step X Wm c 10) ?_
  refine c_word 12 (off_t c 12) ?_
  refine c_assume (chk_w c 12) ?_
  exact h _

set_option maxHeartbeats 400000 in
theorem part28 {α : Type} {Q : α → sProp 𝕄} (R : sProp 𝕄) {g0 g1 g2 g3 g4 g5} (v2 : BitVec 32) {k0_hw35 : k0_chk35 c (tw c 12)}
    {k : _ → Prog (TpuEff nD τ sig (Elt F) Λ₀ .tc) α}
    (h : ∀ (k0_hw36 : k0_chk36 c (tw c 11)) (k0_hw37 : k0_chk37 c (tw c 11)), StC X Wm c 12 (.fly (dn c (ord c 11))) (.fly (dn c (ord c 12))) (some (acc X Wm c 11)) R ⊢ runs c (k ⟨(tw c 11), k0_hw36, (tw c 11), k0_hw37⟩) Q) :
    StC X Wm c 11 (.fly (dn c (ord c 11))) (.full (dn c (ord c 10))) (some (acc X Wm c 11)) R ⊢ runs c
      ((k0_part28 (F := F) xM g0 wM g1 tM g2 oM g3 rM g4 bM g5 cc0_scratch2 cc0_scratch3 cc0_scratch4 c v2 (tw c 12) k0_hw35) >>= k) Q := by
  rw [k0_part28_eq_skeleton]; unfold k0_part28_skel
  simp only [semSignalWord, semWaitWord, Prog.lift, Prog.bind_op, Prog.bind_ret, Prog.pure_eq_ret, Prog.bind_assoc, wp_deviceId]
  refine c_again1 (s := (dn c (ord c 12))) (off_w c 12) rfl (sem_half 1 _ _) ?_
  refine c_word 11 (off_t c 11) ?_
  refine c_assume (chk_s c 11) ?_
  refine c_recv 11 (sem_recv c 11 (off_m c 11)) rfl ?_
  refine c_word 11 (off_t c 11) ?_
  refine c_assume (chk_w c 11) ?_
  exact h _ _

set_option maxHeartbeats 400000 in
theorem part29 {α : Type} {Q : α → sProp 𝕄} (R : sProp 𝕄) {g0 g1 g2 g3 g4 g5} (v2 : BitVec 32) {k0_hw36 : k0_chk36 c (tw c 11)} {k0_hw37 : k0_chk37 c (tw c 11)}
    {k : _ → Prog (TpuEff nD τ sig (Elt F) Λ₀ .tc) α}
    (h : ∀ (k0_hw39 : k0_chk39 c (tw c 12)) (v863 : BitVec 32), StC X Wm c 12 (.fly (dn c (ord c 13))) (.fly (dn c (ord c 12))) (some (acc X Wm c 12)) R ⊢ runs c (k ⟨(tw c 12), k0_hw39, v863, 512#32⟩) Q) :
    StC X Wm c 12 (.fly (dn c (ord c 11))) (.fly (dn c (ord c 12))) (some (acc X Wm c 11)) R ⊢ runs c
      ((k0_part29 (F := F) xM g0 wM g1 tM g2 oM g3 rM g4 bM g5 cc0_scratch2 cc0_scratch3 cc0_scratch4 c v2 (tw c 11) k0_hw36 (tw c 11) k0_hw37) >>= k) Q := by
  rw [k0_part29_eq_skeleton]; unfold k0_part29_skel
  simp only [semSignalWord, semWaitWord, Prog.lift, Prog.bind_op, Prog.bind_ret, Prog.pure_eq_ret, Prog.bind_assoc, wp_deviceId]
  refine c_wait0 rfl (sem_half 0 _ _) ?_
  refine c_w0 rfl ?_
  refine c_slot 11 (by decide) (off_s c 11) ?_
  refine c_out ?_
  refine c_out_any (fun _ => ?_)
  refine c_put (a := acc X Wm c 12) (acc_step X Wm c 11) ?_
  refine c_word 13 (off_t c 13) ?_
  refine c_assume (chk_w c 13) ?_
  refine c_again0 (s := (dn c (ord c 13))) (off_w c 13) rfl (sem_half 0 _ _) ?_
  refine c_word 12 (off_t c 12) ?_
  refine c_assume (chk_s c 12) ?_
  exact h _ _

set_option maxHeartbeats 400000 in
theorem part30 {α : Type} {Q : α → sProp 𝕄} (R : sProp 𝕄) {g0 g1 g2 g3 g4 g5} (v2 : BitVec 32) {k0_hw39 : k0_chk39 c (tw c 12)} (v863 : BitVec 32) (c512_i32_716 : BitVec 32)
    {k : _ → Prog (TpuEff nD τ sig (Elt F) Λ₀ .tc) α}
    (h : StC X Wm c 13 (.fly (dn c (ord c 13))) (.full (dn c (ord c 12))) (some (acc X Wm c 13)) R ⊢ runs c (k ⟨⟩) Q) :
    StC X Wm c 12 (.fly (dn c (ord c 13))) (.fly (dn c (ord c 12))) (some (acc X Wm c 12)) R ⊢ runs c
      ((k0_part30 (F := F) xM g0 wM g1 tM g2 oM g3 rM g4 bM g5 cc0_scratch2 cc0_scratch3 cc0_scratch4 c v2 (tw c 12) k0_hw39 v863 c512_i32_716) >>= k) Q := by
  rw [k0_part30_eq_skeleton]; unfold k0_part30_skel
  simp only [semSignalWord, semWaitWord, Prog.lift, Prog.bind_op, Prog.bind_ret, Prog.pure_eq_ret, Prog.bind_assoc, wp_deviceId]
  refine c_recv 12 (sem_recv c 12 (off_m c 12)) rfl ?_
  refine c_word 12 (off_t c 12) ?_
  refine c_assume (chk_w c 12) ?_
  refine c_wait1 rfl (sem_half 1 _ _) ?_
  refine c_w1 rfl ?_
  refine c_slot 12 (by decide) (off_s c 12) ?_
  refine c_out ?_
  refine c_out_any (fun _ => ?_)
  refine c_put (a := acc X Wm c 13) (acc_step X Wm c 12) ?_
  exact h

set_option maxHeartbeats 400000 in
theorem part31 {α : Type} {Q : α → sProp 𝕄} (R : sProp 𝕄) {g0 g1 g2 g3 g4 g5} (v2 : BitVec 32)
    {k : _ → Prog (TpuEff nD τ sig (Elt F) Λ₀ .tc) α}
    (h : ∀ (k0_hw42 : k0_chk42 c (tw c 13)) (k0_hw43 : k0_chk43 c (tw c 13)), StC X Wm c 14 (.fly (dn c (ord c 13))) (.fly (dn c (ord c 14))) (some (acc X Wm c 13)) R ⊢ runs c (k ⟨(tw c 13), k0_hw42, (tw c 13), k0_hw43⟩) Q) :
    StC X Wm c 13 (.fly (dn c (ord c 13))) (.full (dn c (ord c 12))) (some (acc X Wm c 13)) R ⊢ runs c
      ((k0_part31 (F := F) xM g0 wM g1 tM g2 oM g3 rM g4 bM g5 cc0_scratch2 cc0_scratch3 cc0_scratch4 c v2) >>= k) Q := by
  rw [k0_part31_eq_skeleton]; unfold k0_part31_skel
  simp only [semSignalWord, semWaitWord, Prog.lift, Prog.bind_op, Prog.bind_ret, Prog.pure_eq_ret, Prog.bind_assoc, wp_deviceId]
  refine c_word 14 (off_t c 14) ?_
  refine c_assume (chk_w c 14) ?_
  refine c_again1 (s := (dn c (ord c 14))) (off_w c 14) rfl (sem_half 1 _ _) ?_
  refine c_word 13 (off_t c 13) ?_
  refine c_assume (chk_s c 13) ?_
  refine c_recv 13 (sem_recv c 13 (off_m c 13)) rfl ?_
  refine c_word 13 (off_t c 13) ?_
  refine c_assume (chk_w c 13) ?_
  exact h _ _

set_option maxHeartbeats 400000 in
theorem part32 {α : Type} {Q : α → sProp 𝕄} (R : sProp 𝕄) {g0 g1 g2 g3 g4 g5} (v2 : BitVec 32) {k0_hw42 : k0_chk42 c (tw c 13)} {k0_hw43 : k0_chk43 c (tw c 13)}
    {k : _ → Prog (TpuEff nD τ sig (Elt F) Λ₀ .tc) α}
    (h : ∀ (k0_hw44 : k0_chk44 c (tw c 14)) (k0_hw45 : k0_chk45 c (tw c 14)) (v956 : BitVec 32), StC X Wm c 15 (.full (dn c (ord c 13))) (.fly (dn c (ord c 14))) (some (acc X Wm c 14)) R ⊢ runs c (k ⟨(tw c 14), k0_hw44, (tw c 14), k0_hw45, v956, 16#32⟩) Q) :
    StC X Wm c 14 (.fly (dn c (ord c 13))) (.fly (dn c (ord c 14))) (some (acc X Wm c 13)) R ⊢ runs c
      ((k0_part32 (F := F) xM g0 wM g1 tM g2 oM g3 rM g4 bM g5 cc0_scratch2 cc0_scratch3 cc0_scratch4 c v2 (tw c 13) k0_hw42 (tw c 13) k0_hw43) >>= k) Q := by
  rw [k0_part32_eq_skeleton]; unfold k0_part32_skel
  simp only [semSignalWord, semWaitWord, Prog.lift, Prog.bind_op, Prog.bind_ret, Prog.pure_eq_ret, Prog.bind_assoc, wp_deviceId]
  refine c_wait0 rfl (sem_half 0 _ _) ?_
  refine c_w0 rfl ?_
  refine c_slot 13 (by decide) (off_s c 13) ?_
  refine c_out ?_
  refine c_out_any (fun _ => ?_)
  refine c_put (a := acc X Wm c 14) (acc_step X Wm c 13) ?_
  refine c_word 14 (off_t c 14) ?_
  refine c_assume (chk_s c 14) ?_
  refine c_recv 14 (sem_recv c 14 (off_m c 14)) rfl ?_
  refine c_word 14 (off_t c 14) ?_
  refine c_assume (chk_w c 14) ?_
  exact h _ _ _

set_option maxHeartbeats 400000 in
theorem part33 {α : Type} {Q : α → sProp 𝕄} (R : sProp 𝕄) {g0 g1 g2 g3 g4 g5} (v2 : BitVec 32) {k0_hw44 : k0_chk44 c (tw c 14)} {k0_hw45 : k0_chk45 c (tw c 14)} (v956 : BitVec 32) (c16_i32_788 : BitVec 32)
    {k : _ → Prog (TpuEff nD τ sig (Elt F) Λ₀ .tc) α}
    (h : StC X Wm c 15 (.full (dn c (ord c 13))) (.full (dn c (ord c 14))) (some (res X Wm c)) R ⊢ runs c (k ⟨⟩) Q) :
    StC X Wm c 15 (.full (dn c (ord c 13))) (.fly (dn c (ord c 14))) (some (acc X Wm c 14)) R ⊢ runs c
      ((k0_part33 (F := F) xM g0 wM g1 tM g2 oM g3 rM g4 bM g5 cc0_scratch2 cc0_scratch3 cc0_scratch4 c v2 (tw c 14) k0_hw44 (tw c 14) k0_hw45 v956 c16_i32_788) >>= k) Q := by
  rw [k0_part33_eq_skeleton]; unfold k0_part33_skel
  simp only [semSignalWord, semWaitWord, Prog.lift, Prog.bind_op, Prog.bind_ret, Prog.pure_eq_ret, Prog.bind_assoc, wp_deviceId]
  refine c_wait1 rfl (sem_half 1 _ _) ?_
  refine c_w1 rfl ?_
  refine c_slot 14 (by decide) (off_s c 14) ?_
  refine c_out ?_
  refine c_out_any (fun _ => ?_)
  refine c_put (a := res X Wm c) rfl ?_
  exact h

end Cert.Exchange

end
-- ==== Proof.PartsD.lean ====
/-
  The parts of the body that wait for the device's own copies to be done.
-/
module

public import proofs.«01_k».proof.Proof.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (S8192x512.Idx → Elt F .bf16)) (Wm : Dev nD → (S8192x4096.Idx → Elt F .f32)) (c : Dev nD)

set_option maxHeartbeats 400000 in
theorem part34 {α : Type} {Q : α → sProp 𝕄} (R : sProp 𝕄) {g0 g1 g2 g3 g4 g5} (v2 : BitVec 32)
    {k : _ → Prog (TpuEff nD τ sig (Elt F) Λ₀ .tc) α}
    (h : StD X c 4 R ⊢ runs c (k 5#32) Q) :
    StD X c 0 R ⊢ runs c
      ((k0_part34 (F := F) xM g0 wM g1 tM g2 oM g3 rM g4 bM g5 cc0_scratch2 cc0_scratch3 cc0_scratch4 c v2) >>= k) Q := by
  rw [k0_part34_eq_skeleton]; unfold k0_part34_skel
  simp only [semSignalWord, semWaitWord, Prog.lift, Prog.bind_op, Prog.bind_ret, Prog.pure_eq_ret, Prog.bind_assoc, wp_deviceId]
  refine step_send_wait X c 0 _ (sem_sent 0 _ _) rfl ?_
  refine step_send_wait X c 1 _ (sem_sent 1 _ _) rfl ?_
  refine step_send_wait X c 2 _ (sem_sent 2 _ _) rfl ?_
  refine step_send_wait X c 3 _ (sem_sent 3 _ _) rfl ?_
  exact h

set_option maxHeartbeats 400000 in
theorem part35 {α : Type} {Q : α → sProp 𝕄} (R : sProp 𝕄) {g0 g1 g2 g3 g4 g5} (v2 : BitVec 32)
    {k : _ → Prog (TpuEff nD τ sig (Elt F) Λ₀ .tc) α}
    (h : ∀ (v1036 : BitVec 32), StD X c 7 R ⊢ runs c (k v1036) Q) :
    StD X c 4 R ⊢ runs c
      ((k0_part35 (F := F) xM g0 wM g1 tM g2 oM g3 rM g4 bM g5 cc0_scratch2 cc0_scratch3 cc0_scratch4 c v2 5#32) >>= k) Q := by
  rw [k0_part35_eq_skeleton]; unfold k0_part35_skel
  simp only [semSignalWord, semWaitWord, Prog.lift, Prog.bind_op, Prog.bind_ret, Prog.pure_eq_ret, Prog.bind_assoc, wp_deviceId]
  refine step_send_wait X c 4 _ (sem_sent 4 _ _) rfl ?_
  refine step_send_wait X c 5 _ (sem_sent 5 _ _) rfl ?_
  refine step_send_wait X c 6 _ (sem_sent 6 _ _) rfl ?_
  exact h _

set_option maxHeartbeats 400000 in
theorem part36 {α : Type} {Q : α → sProp 𝕄} (R : sProp 𝕄) {g0 g1 g2 g3 g4 g5} (v2 : BitVec 32) (v1036 : BitVec 32)
    {k : _ → Prog (TpuEff nD τ sig (Elt F) Λ₀ .tc) α}
    (h : StD X c 10 R ⊢ runs c (k ⟨⟩) Q) :
    StD X c 7 R ⊢ runs c
      ((k0_part36 (F := F) xM g0 wM g1 tM g2 oM g3 rM g4 bM g5 cc0_scratch2 cc0_scratch3 cc0_scratch4 c v2 v1036) >>= k) Q := by
  rw [k0_part36_eq_skeleton]; unfold k0_part36_skel
  simp only [semSignalWord, semWaitWord, Prog.lift, Prog.bind_op, Prog.bind_ret, Prog.pure_eq_ret, Prog.bind_assoc, wp_deviceId]
  refine step_send_wait X c 7 _ (sem_sent 7 _ _) rfl ?_
  refine step_send_wait X c 8 _ (sem_sent 8 _ _) rfl ?_
  refine step_send_wait X c 9 _ (sem_sent 9 _ _) rfl ?_
  exact h

set_option maxHeartbeats 400000 in
theorem part37 {α : Type} {Q : α → sProp 𝕄} (R : sProp 𝕄) {g0 g1 g2 g3 g4 g5} (v2 : BitVec 32)
    {k : _ → Prog (TpuEff nD τ sig (Elt F) Λ₀ .tc) α}
    (h : StD X c 13 R ⊢ runs c (k ⟨⟩) Q) :
    StD X c 10 R ⊢ runs c
      ((k0_part37 (F := F) xM g0 wM g1 tM g2 oM g3 rM g4 bM g5 cc0_scratch2 cc0_scratch3 cc0_scratch4 c v2) >>= k) Q := by
  rw [k0_part37_eq_skeleton]; unfold k0_part37_skel
  simp only [semSignalWord, semWaitWord, Prog.lift, Prog.bind_op, Prog.bind_ret, Prog.pure_eq_ret, Prog.bind_assoc, wp_deviceId]
  refine step_send_wait X c 10 _ (sem_sent 10 _ _) rfl ?_
  refine step_send_wait X c 11 _ (sem_sent 11 _ _) rfl ?_
  refine step_send_wait X c 12 _ (sem_sent 12 _ _) rfl ?_
  exact h

end Cert.Exchange

end
-- ==== Proof.Body.lean ====
/-
  The body of the kernel, run whole on one device.
-/
module

public import proofs.«01_k».proof.Proof.PartsA
public import proofs.«01_k».proof.Proof.PartsC
public import proofs.«01_k».proof.Proof.PartsD

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (S8192x512.Idx → Elt F .bf16)) (Wm : Dev nD → (S8192x4096.Idx → Elt F .f32)) (c : Dev nD)

/-- What the body starts from: the duties, what the barrier and the copies need, the device's own rows, the slots, the
    two idle halves of the buffer for `w`, the table, and a result nobody has written. -/
def bodyPre : sProp 𝕄 :=
  iprop(ow c (O₀ c) ∗ bigSep Finset.univ (Sig X c)
    ∗ (levAts L lv ∗ cinv X (barCell c) ∗ cred (tallyAt (barCell c) () 15) ∗ atPos ER (barCell c) 0 ∅ 0)
    ∗ bigSep Finset.univ (SndP X c) ∗ bigSep Finset.univ (Rcv X c) ∗ bigSep Finset.univ (SwtP X c)
    ∗ rowPts X c c ∗ (∃ f, slotPts (F := F) c 0 f) ∗ Half Wm c 0 .idle ∗ Half Wm c 1 .idle ∗ tPts c ∗ outSt c none)

/-- What it ends with: no duty, every row of `x` and every slot again, the counters at zero, and the result. -/
def bodyPost : sProp 𝕄 :=
  iprop(ow c 0 ∗ semVal (barCell c) 0 ∗ bigSep Finset.univ (Swd X c) ∗ bigSep Finset.univ (Got X c)
    ∗ rowPts X c c ∗ slotPts c 0 (RB X c) ∗ Half Wm c 0 (.full (dn c (ord c 13))) ∗ Half Wm c 1 (.full (dn c (ord c 14)))
    ∗ tPts c ∗ outSt c (some (res X Wm c)))

/-- What the device holds aside until it sums. -/
def aside : sProp 𝕄 :=
  iprop(bigSep Finset.univ (Rcv X c) ∗ bigSep Finset.univ (SwtP X c) ∗ Half Wm c 0 .idle ∗ Half Wm c 1 .idle ∗ tPts c ∗ outSt c none)
/-- What it holds aside while it sums. -/
def aside' : sProp 𝕄 :=
  iprop(rowPts X c c ∗ semVal (barCell c) 0 ∗ bigSep Finset.univ (Sent (F := F) c) ∗ bigSep Finset.univ (SwtP X c))
/-- What it holds aside while it waits for its own copies. -/
def aside'' : sProp 𝕄 :=
  iprop(semVal (barCell c) 0 ∗ bigSep Finset.univ (Got X c)
    ∗ rowPts X c c ∗ slotPts c 0 (RB X c) ∗ Half Wm c 0 (.full (dn c (ord c 13))) ∗ Half Wm c 1 (.full (dn c (ord c 14)))
    ∗ tPts c ∗ outSt c (some (res X Wm c)))

/-- The start of the body is the stage before the first signal; -/
theorem body_start : bodyPre X Wm c ⊢ StA X c 0 (barPre X c iprop(rowPts X c c ∗ (∃ f, slotPts (F := F) c 0 f) ∗ aside X Wm c)) := by
  unfold bodyPre StA barPre aside O₀
  rw [lad_zero]
  iintro ⟨H1, H2, H3, H4, H5, H6, H7, H8, H9, H10, H11, H12⟩
  iframe

/-- the barrier's counter is put aside; -/
theorem bar_aside (n : ℕ) (V P S R : sProp 𝕄) : StB X c n iprop(V ∗ P ∗ S ∗ R) = StB X c n iprop(P ∗ S ∗ V ∗ R) := by
  rw [show iprop(V ∗ P ∗ S ∗ R) = iprop(P ∗ S ∗ V ∗ R) from
    eq_of_both (by iintro ⟨H1, H2, H3, H4⟩; iframe) (by iintro ⟨H1, H2, H3, H4⟩; iframe)]

/-- once every copy is on its way the device begins to sum; -/
theorem sum_start : StB X c 15 iprop(rowPts X c c ∗ slotPts c 0 (RB X c) ∗ semVal (barCell c) 0 ∗ aside X Wm c)
    ⊢ StC X Wm c 0 .idle .idle none (aside' X c) := by
  unfold StB StC aside aside'
  rw [lad_last, lad_zero, owR_last, bigSep_univ_equiv (ordE c) (Rcv X c)]
  iintro ⟨H1, H2, H3, H4, H5, H6, H7, H8, H9, H10, H11⟩
  simp only [ordE_apply]
  iframe

/-- once it has summed, it waits for its own copies; -/
theorem sum_end : StC X Wm c 15 (.full (dn c (ord c 13))) (.full (dn c (ord c 14))) (some (res X Wm c)) (aside' X c)
    ⊢ StD X c 0 (aside'' X Wm c) := by
  unfold StC StD aside' aside''
  rw [lad_last, lad_zero, bigSep_univ_equiv (ordE c) (Got X c),
    show bigSep Finset.univ (Swt X c) = iprop(bigSep Finset.univ (SwtP X c) ∗ bigSep Finset.univ (Sent (F := F) c)) from by
      unfold Swt; exact bigSep_sep _ _ _]
  simp only [ordE_apply]
  iintro ⟨H1, H2, H3, H4, H5, H6, H7, H8, H9, H10, H11⟩
  iframe

/-- and that is the end. -/
theorem body_end : StD X c 15 (aside'' X Wm c) ⊢ bodyPost X Wm c := by
  unfold StD aside'' bodyPost
  rw [lad_last]
  iintro ⟨H1, H2, H3, H4, H5, H6, H7, H8, H9, H10⟩
  iframe

set_option maxHeartbeats 4000000 in
/-- The body takes its start to its end. -/
theorem body_run {g0 g1 g2 g3 g4 g5} :
    bodyPre X Wm c ⊢ runs c (cc0_body (F := F) xM g0 wM g1 tM g2 oM g3 rM g4 bM g5 cc0_scratch2 cc0_scratch3 cc0_scratch4)
      (fun _ => bodyPost X Wm c) := by
  refine (body_start X Wm c).trans ?_
  rw [cc0_body_eq_skeleton]; unfold cc0_body_skel
  rw [k0_part38_eq_skeleton]; unfold k0_part38_skel
  simp only [Prog.lift, Prog.bind_op, Prog.bind_ret, Prog.pure_eq_ret, Prog.bind_assoc]
  refine part1 X c _ ?_
  intro _ _
  refine part2 X c _ _ _ _ ?_
  intro _
  refine part3 X c _ _ _ _ ?_
  refine part4 X c _ _ ?_
  intro _
  refine part5 X c _ _ _ ?_
  refine part6 X c _ _ ?_
  intro _
  refine part7 X c _ _ _ ?_
  refine part8 X c _ _ ?_
  intro _
  rw [bar_aside]
  refine part9 X c _ _ _ ?_
  refine (sum_start X Wm c).trans ?_
  refine part10 X Wm c _ _ ?_
  refine part11 X Wm c _ _ ?_
  intro _ _ _
  refine part12 X Wm c _ _ _ _ ?_
  refine part13 X Wm c _ _ ?_
  refine part14 X Wm c _ _ ?_
  intro _ _ _
  refine part15 X Wm c _ _ _ _ ?_
  intro _
  refine part16 X Wm c _ _ ?_
  refine part17 X Wm c _ _ ?_
  intro _
  refine part18 X Wm c _ _ ?_
  intro _
  refine part19 X Wm c _ _ ?_
  intro _
  refine part20 X Wm c _ _ ?_
  intro _
  refine part21 X Wm c _ _ ?_
  intro _ _
  refine part22 X Wm c _ _ _ _ ?_
  intro _
  refine part23 X Wm c _ _ ?_
  intro _
  refine part24 X Wm c _ _ ?_
  intro _ _
  refine part25 X Wm c _ _ _ _ ?_
  intro _ _
  refine part26 X Wm c _ _ ?_
  intro _ _
  refine part27 X Wm c _ _ _ _ ?_
  intro _
  refine part28 X Wm c _ _ ?_
  intro _ _
  refine part29 X Wm c _ _ ?_
  intro _ _
  refine part30 X Wm c _ _ _ _ ?_
  refine part31 X Wm c _ _ ?_
  intro _ _
  refine part32 X Wm c _ _ ?_
  intro _ _ _
  refine part33 X Wm c _ _ _ _ ?_
  refine (sum_end X Wm c).trans ?_
  refine part34 X c _ _ ?_
  refine part35 X c _ _ ?_
  intro _
  refine part36 X c _ _ _ ?_
  refine part37 X c _ _ ?_
  refine step_send_wait X c 13 _ (sem_sent 13 _ _) rfl ?_
  refine step_send_wait X c 14 _ (sem_sent 14 _ _) rfl ?_
  rw [wp_ret]
  exact (body_end X Wm c).trans fupd_intro

end Cert.Exchange

end
-- ==== Proof.Buffers.lean ====
/-
  The buffers of a device, held whole and held piece by piece.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sixteen as one and fifteen -/

/-- Sixteen resources are the one at `c` and those at the fifteen devices ahead of it; -/
theorem around (Φ : Dev nD → sProp 𝕄) (c : Dev nD) :
    bigSep Finset.univ Φ = iprop(Φ c ∗ bigSep Finset.univ fun j : Fin 15 => Φ (up c j)) := by
  rw [bigSep_univ_at Φ c, show (Finset.univ : Finset (Dev nD)).erase c
    = Finset.univ.map ⟨fun j : Fin 15 => up c j, fun i j h => up_inj c i j h⟩ from by revert c; decide +kernel, bigSep_map]
  rfl
/-- and the first and the fifteen after it. -/
theorem first_rest (Φ : Fin 16 → sProp 𝕄) : bigSep Finset.univ Φ = iprop(Φ 0 ∗ bigSep Finset.univ fun j : Fin 15 => Φ j.succ) := by
  rw [bigSep_univ_at Φ 0, show (Finset.univ : Finset (Fin 16)).erase 0 = Finset.univ.map (Fin.succEmb 15) from by decide +kernel, bigSep_map]
  rfl

theorem bigSep_two (Φ : Fin 2 → sProp 𝕄) : bigSep Finset.univ Φ = iprop(Φ 0 ∗ Φ 1) := BI.bigSep_fin_two Φ

/-! ## The rows, the slots and the halves cut their buffers -/

theorem rows_disjoint (d d' : Fin 16) (h : d ≠ d') : Disjoint (rowM d).view.set (rowM d').view.set := by
  rw [row_set, row_set]
  refine Rect.unit_disjoint 0 ?_
  have : d.val ≠ d'.val := fun e => h (Fin.ext e)
  show 512 * d.val + 512 ≤ 512 * d'.val ∨ 512 * d'.val + 512 ≤ 512 * d.val
  omega
theorem rows_cover : Finset.biUnion (β := S8192x512.Idx) (Finset.univ : Finset (Fin 16)) (fun d => (rowM d).view.set) = Finset.univ := by
  ext i
  simp only [Finset.mem_biUnion, Finset.mem_univ, true_and, iff_true]
  have h0 : (i 0).val < 8192 := (i 0).isLt
  have h1 : (i 1).val < 512 := (i 1).isLt
  refine ⟨⟨(i 0).val / 512, by omega⟩, ?_⟩
  rw [row_set, Rect.mem_set_unit]
  intro a
  match a with
  | 0 => show 512 * ((i 0).val / 512) ≤ (i 0).val ∧ (i 0).val < 512 * ((i 0).val / 512) + 512; omega
  | 1 => show 0 ≤ (i 1).val ∧ (i 1).val < 0 + 512; omega

theorem slots_disjoint (k k' : Fin 16) (h : k ≠ k') : Disjoint (slotM k).view.set (slotM k').view.set := by
  rw [slot_set, slot_set]
  refine Rect.unit_disjoint 0 ?_
  have : k.val ≠ k'.val := fun e => h (Fin.ext e)
  show k.val + 1 ≤ k'.val ∨ k'.val + 1 ≤ k.val
  omega
theorem slots_cover : Finset.biUnion (β := S16x512x512.Idx) (Finset.univ : Finset (Fin 16)) (fun k => (slotM k).view.set) = Finset.univ := by
  ext i
  simp only [Finset.mem_biUnion, Finset.mem_univ, true_and, iff_true]
  have h1 : (i 1).val < 512 := (i 1).isLt
  have h2 : (i 2).val < 512 := (i 2).isLt
  refine ⟨(⟨(i 0).val, (i 0).isLt⟩ : Fin 16), ?_⟩
  rw [slot_set, Rect.mem_set_unit]
  intro a
  match a with
  | 0 => show (i 0).val ≤ (i 0).val ∧ (i 0).val < (i 0).val + 1; omega
  | 1 => show 0 ≤ (i 1).val ∧ (i 1).val < 0 + 512; omega
  | 2 => show 0 ≤ (i 2).val ∧ (i 2).val < 0 + 512; omega

theorem halves_disjoint (p p' : Fin 2) (h : p ≠ p') : Disjoint (halfM p).view.set (halfM p').view.set := by
  rw [half_set, half_set]
  refine Rect.unit_disjoint 0 ?_
  have : p.val ≠ p'.val := fun e => h (Fin.ext e)
  show p.val + 1 ≤ p'.val ∨ p'.val + 1 ≤ p.val
  omega
theorem halves_cover : Finset.biUnion (β := S2x512x4096.Idx) (Finset.univ : Finset (Fin 2)) (fun p => (halfM p).view.set) = Finset.univ := by
  ext i
  simp only [Finset.mem_biUnion, Finset.mem_univ, true_and, iff_true]
  have h1 : (i 1).val < 512 := (i 1).isLt
  have h2 : (i 2).val < 4096 := (i 2).isLt
  refine ⟨(⟨(i 0).val, (i 0).isLt⟩ : Fin 2), ?_⟩
  rw [half_set, Rect.mem_set_unit]
  intro a
  match a with
  | 0 => show (i 0).val ≤ (i 0).val ∧ (i 0).val < (i 0).val + 1; omega
  | 1 => show 0 ≤ (i 1).val ∧ (i 1).val < 0 + 512; omega
  | 2 => show 0 ≤ (i 2).val ∧ (i 2).val < 0 + 4096; omega

/-! ## Whole buffers and their pieces -/

variable (X : Dev nD → (S8192x512.Idx → Elt F .bf16)) (Wm : Dev nD → (S8192x4096.Idx → Elt F .f32)) (c : Dev nD)

/-- The device's `x`, staged whole. -/
def xPts : sProp 𝕄 := xM.view.loc (c : Thread nD τ) ↦{fullShare} X c
/-- The receive buffer, whole, at contents nobody chose. -/
def rAny : sProp 𝕄 := iprop(∃ f : S16x512x512.Idx → Elt F .bf16, rM.view.loc (c : Thread nD τ) ↦{fullShare} f)
/-- The buffer for the blocks of `w`, whole, at contents nobody chose. -/
def bAny : sProp 𝕄 := iprop(∃ f : S2x512x4096.Idx → Elt F .f32, bM.view.loc (c : Thread nD τ) ↦{fullShare} f)
/-- The device's `w`, whole. -/
def wAll : sProp 𝕄 := wM.view.loc (c : Thread nD τ) ↦{fullShare} Wm c

/-- `x` staged whole is the device's own rows and the rows for the fifteen others. -/
theorem x_cut : xPts X c = iprop(rowPts X c c ∗ bigSep Finset.univ fun j : Fin 15 => rowPts X c (up c j)) := by
  unfold xPts
  rw [show (xM.view.loc (c : Thread nD τ) ↦{fullShare} X c : sProp 𝕄) = bigSep Finset.univ (fun d : Dev nD => rowPts X c d) from
    Ring.pointsTo_blocks (ℓ := xM.view.loc (c : Thread nD τ)) (fun d : Dev nD => (rowM d).view.set) rows_disjoint rows_cover (X c), around _ c]

/-- The receive buffer is the slot of the device's own rows and the fifteen slots the others fill; -/
theorem r_cut : rAny (F := F) c ⊢ iprop((∃ f, slotPts (F := F) c 0 f) ∗ bigSep Finset.univ fun j : Fin 15 => iprop(∃ f, slotPts (F := F) c j.succ f)) := by
  unfold rAny
  iintro ⟨%f, H⟩
  ihave H := (Entails.of_eq ((show (rM.view.loc (c : Thread nD τ) ↦{fullShare} f : sProp 𝕄) = bigSep Finset.univ (fun k : Fin 16 => slotPts c k f) from
    Ring.pointsTo_blocks (ℓ := rM.view.loc (c : Thread nD τ)) (fun k : Fin 16 => (slotM k).view.set) slots_disjoint slots_cover f).trans (first_rest _))) $$ H
  icases H with ⟨H0, HR⟩
  isplitl [H0]; · iexists f; iexact H0
  iapply (show bigSep Finset.univ (fun j : Fin 15 => slotPts c j.succ f) ⊢ bigSep Finset.univ fun j : Fin 15 => iprop(∃ f, slotPts (F := F) c j.succ f) from
    bigSep_mono fun j _ => (show slotPts c j.succ f ⊢ iprop(∃ f, slotPts (F := F) c j.succ f) from by iintro H; iexists f; iexact H))
  iexact HR
/-- and is whole again once they are filled. -/
theorem r_join : iprop(slotPts c 0 (RB X c) ∗ bigSep Finset.univ fun j : Fin 15 => slotPts c j.succ (RB X c)) ⊢ rAny (F := F) c := by
  rw [← first_rest (fun k => slotPts c k (RB X c)), ← show (rM.view.loc (c : Thread nD τ) ↦{fullShare} RB X c : sProp 𝕄) = bigSep Finset.univ (fun k : Fin 16 => slotPts c k (RB X c)) from
    Ring.pointsTo_blocks (ℓ := rM.view.loc (c : Thread nD τ)) (fun k : Fin 16 => (slotM k).view.set) slots_disjoint slots_cover (RB X c)]
  unfold rAny
  iintro H; iexists RB X c; iexact H

/-- The buffer for the blocks of `w` is its two halves; -/
theorem b_cut : bAny (F := F) c ⊢ iprop((∃ f, halfPts (F := F) c 0 f) ∗ ∃ f, halfPts (F := F) c 1 f) := by
  unfold bAny
  iintro ⟨%f, H⟩
  ihave H := (Entails.of_eq ((show (bM.view.loc (c : Thread nD τ) ↦{fullShare} f : sProp 𝕄) = bigSep Finset.univ (fun p : Fin 2 => halfPts c p f) from
    Ring.pointsTo_blocks (ℓ := bM.view.loc (c : Thread nD τ)) (fun p : Fin 2 => (halfM p).view.set) halves_disjoint halves_cover f).trans (bigSep_two _))) $$ H
  icases H with ⟨H0, H1⟩
  isplitl [H0]; · iexists f; iexact H0
  iexists f; iexact H1
/-- and is whole again whatever they hold. -/
theorem b_join (f g : S2x512x4096.Idx → Elt F .f32) : iprop(halfPts c 0 f ∗ halfPts c 1 g) ⊢ bAny (F := F) c := by
  have h := Ring.pointsTo_blocks_join_exists (Val := Elt F) (Ix := Unit) (Name := ℕ) (U := UU) (Lvl := ℕ) (ℓ := bM.view.loc (c : Thread nD τ)) (q := fullShare)
    (fun p : Fin 2 => (halfM p).view.set) halves_disjoint halves_cover f
  rw [bigSep_two] at h
  refine BIBase.Entails.trans ?_ h
  unfold halfPts
  iintro ⟨H0, H1⟩
  isplitl [H0]; · iexists f; iexact H0
  iexists g; iexact H1

/-- `w` is shared by the two halves. -/
theorem w_cut : wAll Wm c = iprop(wPts Wm c (qh 0) Finset.univ ∗ wPts Wm c (qh 1) Finset.univ) := by
  unfold wAll wPts qh
  rw [if_pos rfl, if_neg (by decide)]
  exact eq_of_both (pointsTo_share (PosShare.mem_left_op_right _)).1 (pointsTo_share (PosShare.mem_left_op_right _)).2

end Cert.Exchange

end
-- ==== Proof.Opening.lean ====
/-
  What a device brings into the kernel call, how its copy cells are opened there, and how what it holds then
  is what the body starts from; what the body ends with, put together again.
-/
module

public import proofs.«01_k».proof.Proof.Buffers

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (S8192x512.Idx → Elt F .bf16)) (Wm : Dev nD → (S8192x4096.Idx → Elt F .f32)) (c : Dev nD)

/-! ## The semaphores the call opens -/

/-- The semaphores of the copies, of both kinds, and of the two halves. -/
abbrev OwnK : Type := Fin 15 ⊕ Fin 15 ⊕ Fin 2
abbrev osem : OwnK → SemLoc sig
  | .inl j => .dma (sendS j)
  | .inr (.inl j) => .dma (recvS j)
  | .inr (.inr p) => .dma (wS p)

/-- Resources over a sum are those over either side. -/
theorem bigSep_either {A B : Type} [Fintype A] [Fintype B] (Φ : A ⊕ B → sProp 𝕄) :
    bigSep Finset.univ Φ = iprop((bigSep Finset.univ fun a => Φ (.inl a)) ∗ bigSep Finset.univ fun b => Φ (.inr b)) := by
  classical
  rw [show (Finset.univ : Finset (A ⊕ B)) = Finset.univ.map .inl ∪ Finset.univ.map .inr from by ext x; cases x <;> simp,
    bigSep_union (by rw [Finset.disjoint_left]; rintro x h1 h2; obtain ⟨a, -, rfl⟩ := Finset.mem_map.mp h1; obtain ⟨b, -, h⟩ := Finset.mem_map.mp h2; cases h),
    bigSep_map, bigSep_map]
  rfl

/-- The counters of those semaphores, at zero. -/
def ownZero : sProp 𝕄 :=
  iprop((bigSep Finset.univ fun j => semVal (sendCell c j) 0) ∗ (bigSep Finset.univ fun j => semVal (recvCell c j) 0)
    ∗ semVal (wCell c 0) 0 ∗ semVal (wCell c 1) 0)
theorem ownSems0_eq : (Pipeline.ownSems0 osem c : sProp 𝕄) = ownZero (F := F) c := by
  unfold Pipeline.ownSems0 ownZero
  rw [bigSep_either, bigSep_either, bigSep_two]

/-! ## From the launch to the call -/

/-- For the signal to the device ahead: its barrier's invariant, the right to pay it, and that it is open; -/
def PayB (j : Fin 15) : sProp 𝕄 := iprop(cinv X (barCell (up c j)) ∗ dutyTok ER (barCell (up c j)) 0 j ∗ reached ER (barCell (up c j)) 0)
/-- for the copy to it: both cells' invariants and the rights to pay them; -/
def PayC (j : Fin 15) : sProp 𝕄 :=
  iprop(cinv X (sendCell c j) ∗ cinv X (recvCell (up c j) j) ∗ dutyTok ER (sendCell c j) 0 0 ∗ dutyTok ER (recvCell (up c j) j) 0 0)
/-- for the copy from the device behind: the own cell's invariant, the right to open it, and the credit to wait with; -/
def DorR (j : Fin 15) : sProp 𝕄 := iprop(cinv X (recvCell c j) ∗ openTok ER (recvCell c j) ∗ cred (tallyAt (recvCell c j) () NX))
/-- for the end of the own copy: the right to open its cell. -/
def DorS (j : Fin 15) : sProp 𝕄 := iprop(cinv X (sendCell c j) ∗ openTok ER (sendCell c j))

/-- What a device brings from the launch. -/
def Tk : sProp 𝕄 :=
  iprop((cinv X (barCell c) ∗ cred (tallyAt (barCell c) () 15) ∗ atPos ER (barCell c) 0 ∅ 0)
    ∗ bigSep Finset.univ (PayB X c) ∗ bigSep Finset.univ (PayC X c) ∗ bigSep Finset.univ (DorR X c) ∗ bigSep Finset.univ (DorS X c))

/-- What it holds once its copy cells are open. -/
def Xk : sProp 𝕄 :=
  iprop((levAts L lv ∗ cinv X (barCell c) ∗ cred (tallyAt (barCell c) () 15) ∗ atPos ER (barCell c) 0 ∅ 0)
    ∗ bigSep Finset.univ (PayB X c) ∗ bigSep Finset.univ (PayC X c)
    ∗ (bigSep Finset.univ (Rcv X c) ∗ bigSep Finset.univ fun j => reached ER (recvCell c j) 0)
    ∗ (bigSep Finset.univ (SwtP X c) ∗ bigSep Finset.univ fun j => reached ER (sendCell c j) 0)
    ∗ semVal (wCell c 0) 0 ∗ semVal (wCell c 1) 0)

theorem open_recv (j : Fin 15) : iprop(DorR X c j ∗ semVal (recvCell c j) 0) ⊢ |={Set.univ}=> iprop(Rcv X c j ∗ reached ER (recvCell c j) 0) := by
  unfold DorR Rcv cinv
  iintro ⟨⟨⟨%κ, #HI⟩, Ho, Hc⟩, Hv⟩
  imod (Rounds.cell_open ER (rd X) (g := recvCell c j) (Set.mem_univ κ)) $$ [Ho Hv] with ⟨Hat, #Hr⟩
  · isplitr; · iexact HI
    isplitl [Ho] <;> iassumption
  imodintro
  isplitl [Hc Hat]
  · isplitr; · iexists κ; iexact HI
    isplitl [Hc] <;> iassumption
  iexact Hr

theorem open_send (j : Fin 15) : iprop(DorS X c j ∗ semVal (sendCell c j) 0) ⊢ |={Set.univ}=> iprop(SwtP X c j ∗ reached ER (sendCell c j) 0) := by
  unfold DorS SwtP cinv
  iintro ⟨⟨⟨%κ, #HI⟩, Ho⟩, Hv⟩
  imod (Rounds.cell_open ER (rd X) (g := sendCell c j) (Set.mem_univ κ)) $$ [Ho Hv] with ⟨Hat, #Hr⟩
  · isplitr; · iexact HI
    isplitl [Ho] <;> iassumption
  imodintro
  isplitl [Hat]
  · isplitr; · iexists κ; iexact HI
    iexact Hat
  iexact Hr

/-- Fifteen cells opened together. -/
theorem open_all {P Q R S : Fin 15 → sProp 𝕄} (h : ∀ j, iprop(P j ∗ Q j) ⊢ |={Set.univ}=> iprop(R j ∗ S j)) :
    iprop(bigSep Finset.univ P ∗ bigSep Finset.univ Q) ⊢ |={Set.univ}=> iprop(bigSep Finset.univ R ∗ bigSep Finset.univ S) := by
  rw [← bigSep_sep', ← bigSep_sep']
  exact (bigSep_mono fun j _ => h j).trans (bigSep_fupd _ _)

/-- At the call every copy cell opens. -/
theorem hopen : iprop(Tk X c ∗ Pipeline.ownSems0 osem c ∗ levAts L lv) ⊢ (|={Set.univ}=> Xk X c : sProp 𝕄) := by
  rw [ownSems0_eq]
  unfold Tk Xk ownZero
  iintro ⟨⟨⟨Hb1, Hb2, Hb3⟩, HB, HC, HR, HS⟩, ⟨Hs, Hr, Hw0, Hw1⟩, #Hlev⟩
  imod (open_all (open_recv X c)) $$ [HR Hr] with ⟨HR1, HR2⟩
  · isplitl [HR] <;> iassumption
  imod (open_all (open_send X c)) $$ [HS Hs] with ⟨HS1, HS2⟩
  · isplitl [HS] <;> iassumption
  imodintro
  iframe
  iexact Hlev

/-! ## Into the body -/

/-- The signals' needs, put together: each takes the slot at the complementary distance. -/
theorem sig_all : iprop(bigSep Finset.univ (PayB X c) ∗ (bigSep Finset.univ fun j : Fin 15 => iprop(∃ f, slotPts (F := F) c j.succ f))
      ∗ bigSep Finset.univ fun j => reached ER (recvCell c j) 0) ⊢ bigSep Finset.univ (Sig X c) := by
  rw [bigSep_univ_equiv flipE (fun j : Fin 15 => iprop(∃ f, slotPts (F := F) c j.succ f)),
    bigSep_univ_equiv flipE (fun j : Fin 15 => (reached ER (recvCell c j) 0 : sProp 𝕄)), ← bigSep_sep', ← bigSep_sep']
  refine bigSep_mono fun j _ => ?_
  show iprop(PayB X c j ∗ (∃ f, slotPts (F := F) c (flip j).succ f) ∗ reached ER (recvCell c (flip j)) 0) ⊢ Sig X c j
  unfold PayB Sig
  iintro ⟨⟨H1, H2, H3⟩, H4, H5⟩
  iframe

/-- The copies' needs, put together. -/
theorem snd_all : iprop(bigSep Finset.univ (PayC X c) ∗ (bigSep Finset.univ fun j : Fin 15 => rowPts X c (up c j))
      ∗ bigSep Finset.univ fun j => reached ER (sendCell c j) 0) ⊢ bigSep Finset.univ (SndP X c) := by
  rw [← bigSep_sep', ← bigSep_sep']
  refine bigSep_mono fun j _ => ?_
  show iprop(PayC X c j ∗ rowPts X c (up c j) ∗ reached ER (sendCell c j) 0) ⊢ SndP X c j
  unfold PayC SndP
  iintro ⟨⟨H1, H2, H3, H4⟩, H5, H6⟩
  iframe

/-- What the device holds at the body is what the body starts from. -/
theorem into_body : iprop((Xk X c ∗ wAll Wm c ∗ rAny (F := F) c ∗ bAny (F := F) c) ∗ ow c (O₀ c) ∗ xPts X c ∗ tPts c ∗ outSt c none) ⊢ bodyPre X Wm c := by
  rw [x_cut, w_cut]
  unfold Xk bodyPre Half
  dsimp only
  iintro ⟨⟨⟨Hbar, HB, HC, ⟨HR1, HR2⟩, ⟨HS1, HS2⟩, Hv0, Hv1⟩, ⟨Hw0, Hw1⟩, Hr, Hb⟩, HO, ⟨Hx0, Hx⟩, Ht, Ho⟩
  ihave Hr := (r_cut (F := F) c) $$ Hr
  icases Hr with ⟨Hr0, Hrs⟩
  ihave Hb := (b_cut (F := F) c) $$ Hb
  icases Hb with ⟨Hb0, Hb1⟩
  ihave Hsig := (sig_all X c) $$ [HB Hrs HR2]
  · isplitl [HB]; · iexact HB
    isplitl [Hrs] <;> iassumption
  ihave Hsnd := (snd_all X c) $$ [HC Hx HS2]
  · isplitl [HC]; · iexact HC
    isplitl [Hx] <;> iassumption
  iframe

/-! ## Out of the body -/

/-- What the body ends with, put together: every counter at zero, the buffers whole, the result. -/
theorem out_of_body : bodyPost X Wm c ⊢ iprop((semVal (barCell c) 0 ∗ ownZero (F := F) c ∗ wAll Wm c ∗ rAny (F := F) c ∗ bAny (F := F) c)
      ∗ ow c 0 ∗ xPts X c ∗ tPts c ∗ outSt c (some (res X Wm c))) := by
  rw [x_cut, w_cut]
  unfold bodyPost Half ownZero Swd Got
  dsimp only
  rw [bigSep_sep', bigSep_sep']
  iintro ⟨HO, Hbar, ⟨Hx, Hsv⟩, ⟨Hrs, Hrv⟩, Hx0, Hr0, ⟨Hb0, Hv0, Hw0⟩, ⟨Hb1, Hv1, Hw1⟩, Ht, Ho⟩
  ihave Hr := (r_join X c) $$ [Hr0 Hrs]
  · isplitl [Hr0] <;> iassumption
  ihave Hb := (b_join c _ _) $$ [Hb0 Hb1]
  · isplitl [Hb0] <;> iassumption
  iframe

end Cert.Exchange

end
-- ==== Proof.Deal.lean ====
/-
  The launch dealt out: every cell with its invariant, each duty's token to the device that pays it, and the credits.
-/
module

public import proofs.«01_k».proof.Proof.Opening

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (S8192x512.Idx → Elt F .bf16))

/-! ## The cells and the tokens -/

/-- The copy semaphores of a device: one of each kind at each distance. -/
abbrev csem : Fin 15 ⊕ Fin 15 → SemLoc sig
  | .inl j => .dma (sendS j)
  | .inr j => .dma (recvS j)
theorem csem_inj : Function.Injective csem := by decide +kernel
theorem csem_ne_bar : ∀ k, csem k ≠ .reg barS := by decide +kernel

/-- A cell knows its device. -/
theorem dev_of_cell {c d : Dev nD} {s t : SemLoc sig} (h : ((c : Thread nD τ), s) = ((d : Thread nD τ), t)) : c = d :=
  congrArg (fun g : GSem nD τ sig => g.1.1) h

def barEmb : Dev nD ↪ GSem nD τ sig := ⟨fun c => barCell c, fun _ _ h => dev_of_cell h⟩
def copyEmb : Dev nD × (Fin 15 ⊕ Fin 15) ↪ GSem nD τ sig :=
  ⟨fun ck => ((ck.1 : Thread nD τ), csem ck.2), fun _ _ h => Prod.ext (dev_of_cell h) (csem_inj (congrArg Prod.snd h))⟩

/-- The barriers' cells, and the copies'. -/
abbrev barCells : Finset (GSem nD τ sig) := Finset.univ.map barEmb
abbrev copyCells : Finset (GSem nD τ sig) := Finset.univ.map copyEmb

/-- A device's duties: fifteen on its barrier, one on each copy cell. -/
abbrev duty : Fin 15 ⊕ Fin 15 ⊕ Fin 15 → SemLoc sig × Fin 15
  | .inl j => (.reg barS, j)
  | .inr (.inl j) => (.dma (sendS j), 0)
  | .inr (.inr j) => (.dma (recvS j), 0)
theorem duty_inj : Function.Injective duty := by decide +kernel

def tokEmb : Dev nD × (Fin 15 ⊕ Fin 15 ⊕ Fin 15) ↪ GSem nD τ sig × ℕ × Fin 15 :=
  ⟨fun ck => (((ck.1 : Thread nD τ), (duty ck.2).1), 0, (duty ck.2).2), fun _ _ h =>
    Prod.ext (dev_of_cell (congrArg Prod.fst h))
      (duty_inj (Prod.ext (congrArg (fun t : GSem nD τ sig × ℕ × Fin 15 => t.1.2) h) (congrArg (fun t : GSem nD τ sig × ℕ × Fin 15 => t.2.2) h)))⟩
def allToks : Finset (GSem nD τ sig × ℕ × Fin 15) := Finset.univ.map tokEmb

theorem disjoint_cells : Disjoint (barCells : Finset (GSem nD τ sig)) copyCells := by
  refine Finset.disjoint_left.mpr fun g h1 h2 => ?_
  obtain ⟨c, -, rfl⟩ := Finset.mem_map.mp h1
  obtain ⟨k, -, h⟩ := Finset.mem_map.mp h2
  exact csem_ne_bar k.2 (congrArg Prod.snd h)

theorem bar_mem (c : Dev nD) : barCell c ∈ (barCells ∪ copyCells : Finset (GSem nD τ sig)) :=
  Finset.mem_union_left _ (Finset.mem_map_of_mem barEmb (Finset.mem_univ c))
theorem send_mem (c : Dev nD) (j : Fin 15) : sendCell c j ∈ (barCells ∪ copyCells : Finset (GSem nD τ sig)) :=
  Finset.mem_union_right _ (Finset.mem_map_of_mem copyEmb (Finset.mem_univ (c, (Sum.inl j : Fin 15 ⊕ Fin 15))))
theorem recv_mem (c : Dev nD) (j : Fin 15) : recvCell c j ∈ (barCells ∪ copyCells : Finset (GSem nD τ sig)) :=
  Finset.mem_union_right _ (Finset.mem_map_of_mem copyEmb (Finset.mem_univ (c, (Sum.inr j : Fin 15 ⊕ Fin 15))))

/-! ## What every device may consult, and what is one device's -/

/-- All the invariants, under one map of names, and that every barrier's round is open. -/
def records (κ : GSem nD τ sig → ℕ) : sProp 𝕄 :=
  iprop((bigSep (barCells ∪ copyCells) fun g => cellInv ER (rd X) (κ g) g) ∗ bigSep barCells fun g => reached ER g 0)

instance records_persistent (κ : GSem nD τ sig → ℕ) : BI.Persistent (records X κ) := by unfold records; infer_instance

theorem records_inv (κ : GSem nD τ sig → ℕ) {g : GSem nD τ sig} (hg : g ∈ (barCells ∪ copyCells : Finset (GSem nD τ sig))) :
    records X κ ⊢ cinv X g := by
  unfold records cinv
  iintro ⟨#H, -⟩
  iexists κ g
  iapply (show (bigSep (barCells ∪ copyCells) fun g => (cellInv ER (rd X) (κ g) g : sProp 𝕄)) ⊢ cellInv ER (rd X) (κ g) g from bigSep_elim hg); iexact H
theorem records_open (κ : GSem nD τ sig → ℕ) (c : Dev nD) : records X κ ⊢ reached ER (barCell c) 0 := by
  unfold records
  iintro ⟨-, #H⟩
  iapply (show (bigSep barCells fun g => (reached ER g 0 : sProp 𝕄)) ⊢ reached ER (barCell c) 0 from bigSep_elim (Finset.mem_map_of_mem barEmb (Finset.mem_univ c))); iexact H

/-- The rights to pay that device `c` holds: those of the duties it pays. -/
def payToks (c : Dev nD) : sProp 𝕄 :=
  iprop((bigSep Finset.univ fun j => dutyTok ER (barCell (up c j)) 0 j) ∗ (bigSep Finset.univ fun j => dutyTok ER (sendCell c j) 0 0)
    ∗ bigSep Finset.univ fun j => dutyTok ER (recvCell (up c j) j) 0 0)
/-- The rights to open, of its own copy cells. -/
def openToks (c : Dev nD) : sProp 𝕄 :=
  iprop((bigSep Finset.univ fun j => openTok ER (sendCell c j)) ∗ bigSep Finset.univ fun j => openTok ER (recvCell c j))
/-- What the devices ahead and behind will have paid it. -/
def creds (c : Dev nD) : sProp 𝕄 :=
  iprop(cred (tallyAt (barCell c) () 15) ∗ bigSep Finset.univ fun j => cred (tallyAt (recvCell c j) () NX))

/-- Two families over the distances, as one of pairs. -/
theorem pair {P Q : Fin 15 → sProp 𝕄} : iprop(bigSep Finset.univ P ∗ bigSep Finset.univ Q) ⊢ bigSep Finset.univ fun j => iprop(P j ∗ Q j) :=
  Entails.of_eq (bigSep_sep' ..).symm

/-- Together they are what a device brings to the call. -/
theorem tk_intro (κ : GSem nD τ sig → ℕ) (c : Dev nD) :
    iprop(records X κ ∗ atPos ER (barCell c) 0 ∅ 0 ∗ openToks (F := F) c ∗ payToks (F := F) c ∗ creds (F := F) c) ⊢ Tk X c := by
  unfold openToks payToks creds Tk
  iintro ⟨#HR, Hat, ⟨HoS, HoR⟩, ⟨HtB, HtS, HtR⟩, HcB, HcR⟩
  isplitl [Hat HcB]
  · isplitr; · iapply (records_inv X κ (bar_mem c)); iexact HR
    isplitl [HcB] <;> iassumption
  isplitl [HtB]
  · iapply (bigSep_with_persistent (R := records X κ) (Φ := fun j => (dutyTok ER (barCell (up c j)) 0 j : sProp 𝕄)) fun j _ => by
      unfold PayB
      iintro ⟨#HR, Ht⟩
      isplitr; · iapply (records_inv X κ (bar_mem (up c j))); iexact HR
      isplitl [Ht]; · iexact Ht
      iapply (records_open X κ (up c j)); iexact HR)
    isplitr; · iexact HR
    iexact HtB
  isplitl [HtS HtR]
  · iapply (bigSep_with_persistent (R := records X κ) (Φ := fun j => iprop(dutyTok ER (sendCell c j) 0 0 ∗ dutyTok ER (recvCell (up c j) j) 0 0)) fun j _ => by
      unfold PayC
      iintro ⟨#HR, Ht, Hu⟩
      isplitr; · iapply (records_inv X κ (send_mem c j)); iexact HR
      isplitr; · iapply (records_inv X κ (recv_mem (up c j) j)); iexact HR
      isplitl [Ht] <;> iassumption)
    isplitr; · iexact HR
    iapply pair; isplitl [HtS] <;> iassumption
  isplitl [HoR HcR]
  · iapply (bigSep_with_persistent (R := records X κ) (Φ := fun j => iprop(openTok ER (recvCell c j) ∗ cred (tallyAt (recvCell c j) () NX))) fun j _ => by
      unfold DorR
      iintro ⟨#HR, Ht, Hu⟩
      isplitr; · iapply (records_inv X κ (recv_mem c j)); iexact HR
      isplitl [Ht] <;> iassumption)
    isplitr; · iexact HR
    iapply pair; isplitl [HoR] <;> iassumption
  iapply (bigSep_with_persistent (R := records X κ) (Φ := fun j => (openTok ER (sendCell c j) : sProp 𝕄)) fun j _ => by
    unfold DorS
    iintro ⟨#HR, Ht⟩
    isplitr; · iapply (records_inv X κ (send_mem c j)); iexact HR
    iexact Ht)
  isplitr; · iexact HR
  iexact HoS

/-! ## The tokens, each handed to its payer -/

/-- A family over devices and distances, each member moved to the device behind it at that distance. -/
theorem to_payer (Φ : Dev nD → Fin 15 → sProp 𝕄) :
    (bigSep Finset.univ fun c => bigSep Finset.univ fun j => Φ c j) = bigSep Finset.univ fun c => bigSep Finset.univ fun j => Φ (up c j) j := by
  rw [Pipeline.bigSep_univ_comm, Pipeline.bigSep_univ_comm (fun c j => Φ (up c j) j)]
  exact bigSep_congr fun j _ => bigSep_univ_equiv (rot j) (fun c => Φ c j)

theorem toks_dealt : bigSep allToks (fun x => (dutyTok ER x.1 x.2.1 x.2.2 : sProp 𝕄)) = bigSep Finset.univ (payToks (F := F)) := by
  unfold allToks payToks
  rw [bigSep_map, bigSep_univ_prod, bigSep_sep', bigSep_sep', ← to_payer (fun c j => (dutyTok ER (barCell c) 0 j : sProp 𝕄)),
    ← to_payer (fun c j => (dutyTok ER (recvCell c j) 0 0 : sProp 𝕄)), ← bigSep_sep', ← bigSep_sep']
  refine bigSep_congr fun c _ => ?_
  rw [bigSep_either, bigSep_either]
  rfl
theorem opens_dealt : bigSep copyCells (fun g => (openTok ER g : sProp 𝕄)) = bigSep Finset.univ (openToks (F := F)) := by
  unfold openToks
  rw [bigSep_map, bigSep_univ_prod]
  refine bigSep_congr fun c _ => ?_
  rw [bigSep_either]
  rfl

/-! ## The launch credit -/

theorem owR_all (d : Dev nD) (g : GSem nD τ sig) : owR d 0 g () = ∑ j : Fin 15, if g = recvCell (up d j) j then NX else 0 := by
  unfold owR
  rw [Finset.filter_true_of_mem (fun _ _ => Nat.zero_le _), Finset.sum_apply, Finsupp.finset_sum_apply]
  exact Finset.sum_congr rfl fun j _ => by rw [tallyAt_apply]; simp
theorem owB_all (d : Dev nD) (g : GSem nD τ sig) : owB d 0 g () = ∑ j : Fin 15, if g = barCell (up d j) then 1 else 0 := by
  unfold owB
  rw [Finset.filter_true_of_mem (fun _ _ => Nat.zero_le _), Finset.sum_apply, Finsupp.finset_sum_apply]
  exact Finset.sum_congr rfl fun j _ => by rw [tallyAt_apply]; simp

/-- One device of all is behind `c` at each distance. -/
theorem sum_behind (c : Dev nD) (j : Fin 15) (n : ℕ) (P : Dev nD → Prop) [DecidablePred P] (h : ∀ d, P d ↔ d = dn c j) :
    (∑ d : Dev nD, if P d then n else 0) = n := by
  rw [Finset.sum_congr rfl fun d _ => if_congr (h d) rfl rfl, Finset.sum_ite_eq' Finset.univ (dn c j) fun _ => n, if_pos (Finset.mem_univ _)]
theorem behind_iff (c d : Dev nD) (j : Fin 15) : c = up d j ↔ d = dn c j :=
  ⟨fun h => by rw [h, dn_up], fun h => by rw [h, up_dn]⟩

theorem owed_bar (c : Dev nD) : ∑ d : Dev nD, O₀ d (barCell c) () = 15 := by
  rw [Finset.sum_congr rfl fun d _ => show O₀ d (barCell c) () = ∑ j : Fin 15, (if barCell c = barCell (up d j) then 1 else 0) from by
    show owR d 0 (barCell c) () + owB d 0 (barCell c) () = _
    rw [owR_all, owB_all, Finset.sum_eq_zero fun j _ => if_neg fun h => (by cases congrArg Prod.snd h), Nat.zero_add], Finset.sum_comm,
    Finset.sum_congr rfl fun j _ => sum_behind c j 1 _ fun d => Iff.trans ⟨fun h => dev_of_cell h, fun h => by rw [← h]⟩ (behind_iff c d j)]
  rfl
theorem owed_recv (c : Dev nD) (i : Fin 15) : ∑ d : Dev nD, O₀ d (recvCell c i) () = NX := by
  rw [Finset.sum_congr rfl fun d _ => show O₀ d (recvCell c i) () = if c = up d i then NX else 0 from by
    show owR d 0 (recvCell c i) () + owB d 0 (recvCell c i) () = _
    rw [owR_all, owB_all, Finset.sum_eq_zero (f := fun j => if recvCell c i = barCell (up d j) then 1 else 0) fun j _ => if_neg fun h => (by cases congrArg Prod.snd h), Nat.add_zero,
      Finset.sum_eq_single i (fun j _ hj => if_neg fun h => hj (recvS_inj (by have := congrArg Prod.snd h; injection this)).symm) (fun h => absurd (Finset.mem_univ _) h)]
    exact if_congr ⟨fun h => dev_of_cell h, fun h => by rw [← h]⟩ rfl rfl]
  exact sum_behind c i NX _ fun d => behind_iff c d i

theorem launch_cell (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

def recvEmb : Fin 15 ↪ SemLoc sig := ⟨fun j => .dma (recvS j), fun _ _ h => recvS_inj (by injection h)⟩

/-- A device's launch credit holds its barrier's and its receive cells'. -/
theorem creds_dealt (c : Dev nD) : (Pipeline.launchCred O₀ c : sProp 𝕄) ⊢ creds (F := F) c := by
  unfold Pipeline.launchCred creds
  rw [bigSep_univ_at _ (SemLoc.reg barS), launch_cell (barCell c) 15 (owed_bar c)]
  refine sep_mono_right ?_
  refine (bigSep_subset (t := Finset.univ.map recvEmb) fun s h => ?_).trans ?_
  · obtain ⟨j, -, rfl⟩ := Finset.mem_map.mp h
    exact Finset.mem_erase.mpr ⟨(fun h => by cases h), Finset.mem_univ _⟩
  · rw [bigSep_map]
    exact bigSep_mono fun j _ => Entails.of_eq (congrArg cred (launch_cell (recvCell c j) NX (owed_recv c j)))

end Cert.Exchange

end
-- ==== Proof.Region.lean ====
/-
  The kernel call as one region of the program: what its windows hold, its one point, and what goes in and comes out.
-/
module

public import proofs.«01_k».proof.Proof.Opening
public import proofs.«01_k».proof.Proof.Gen.KernelIdeal.Frame
public import Idealize.ShloMosaic.Lib.Pipeline.RegionTalk
public import Idealize.ShloMosaic.Lib.Pipeline.ValueKit.Geometry

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
open Idealize.ShloMosaic.Pipeline (Dat BodyObligation)

variable (m : (ℓ : Loc nD τ sig) → Buf (Elt F) ℓ)

/-! ## Contents -/

/-- Every device's `x` and `w` as launched. -/
def X₀ (c : Dev nD) : S8192x512.Idx → Elt F .bf16 := m ((c : Thread nD τ).loc main_arg0)
def W₀ (c : Dev nD) : S8192x4096.Idx → Elt F .f32 := m ((c : Thread nD τ).loc main_arg1)

/-- A device's buffers at launch, when the call is entered, and when it returns. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v1) (res (X₀ m) (W₀ m) c)

theorem V₁_x (c : Dev nD) : V₁ m c (Proc.devRef .tc main_arg0) = X₀ m c := V_main_arg0 m c
theorem V₁_w (c : Dev nD) : V₁ m c (Proc.devRef .tc main_arg1) = W₀ m c := V_main_arg1 m c
theorem V₁_t (c : Dev nD) : V₁ m c (Proc.devRef .tc main_c) = tbl (F := F) := by
  show StableHlo.after hostOps0 (V₀ m c) (Proc.devRef .tc main_c) = _
  rw [StableHlo.after_cons, StableHlo.after_nil]
  exact StableHlo.nullary_result ..
theorem V₂_x (c : Dev nD) : V₂ m c (Proc.devRef .tc main_arg0) = X₀ m c := (Function.update_of_ne (by decide) ..).trans (V₁_x m c)
theorem V₂_w (c : Dev nD) : V₂ m c (Proc.devRef .tc main_arg1) = W₀ m c := (Function.update_of_ne (by decide) ..).trans (V₁_w m c)
theorem V₂_t (c : Dev nD) : V₂ m c (Proc.devRef .tc main_c) = tbl (F := F) := (Function.update_of_ne (by decide) ..).trans (V₁_t m c)
theorem V₂_o (c : Dev nD) : V₂ m c (Proc.devRef .tc main_v1) = res (X₀ m) (W₀ m) c := Function.update_self ..

/-! ## The proof data of the region -/

/-- What the device holds beside the windows before the body; -/
def Φ₀ (c : Dev nD) : sProp 𝕄 :=
  iprop((Xk (X₀ m) c ∗ wAll (W₀ m) c ∗ rAny (F := F) c ∗ bAny (F := F) c) ∗ ∃ r, prngReg c r)
/-- and after it. -/
def Φ₁ (c : Dev nD) : sProp 𝕄 :=
  iprop((semVal (barCell c) 0 ∗ ownZero (F := F) c ∗ wAll (W₀ m) c ∗ rAny (F := F) c ∗ bAny (F := F) c) ∗ ∃ r, prngReg c r)

/-- The windows: `x` and the table as the region finds them, left as they are, and the result as the body writes it. -/
def dat (c : Dev nD) : Dat τ (Elt F) Unit ℕ UU ℕ cfg0 c where
  A w := V₁ m c (Proc.devRef .tc (Pipeline.arrRef spec0 w))
  after w _ := match w with
    | ⟨0, _⟩ => X₀ m c
    | ⟨1, _⟩ => tbl (F := F)
    | ⟨2, _⟩ => res (X₀ m) (W₀ m) c
    | ⟨_ + 3, h⟩ => absurd h (Nat.not_lt.2 (Nat.le_add_left _ _))
  Φ t := if t.val = 0 then Φ₀ m c else Φ₁ m c
  q _ := fullShare
  owed t := if t.val = 0 then O₀ c else 0

abbrev adm : (p : Fin 1) → (pcfgs (F := F) p).Adm := fun p => (cfgs p).toPCfg_adm
def pdats (_ : Fin 1) (c : Dev nD) : Dat τ (Elt F) Unit ℕ UU ℕ cfg0 c := dat m c

theorem owed_zero (c : Dev nD) : (dat m c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]
theorem phi_zero (c : Dev nD) : (dat m c).Φ 0 = Φ₀ m c := by
  show (if ((0 : Fin (cfg0.N + 1)).val = 0) then Φ₀ m c else Φ₁ m c) = Φ₀ m c; exact if_pos rfl
theorem phi_first (c : Dev nD) : (dat m c).Φ t0_0.castSucc = Φ₀ m c := by
  show (if (t0_0.castSucc : Fin (cfg0.N + 1)).val = 0 then Φ₀ m c else Φ₁ m c) = Φ₀ m c; exact if_pos rfl
theorem phi_last (c : Dev nD) : (dat m c).Φ (Fin.last _) = Φ₁ m c := by
  show (if (Fin.last cfg0.N).val = 0 then Φ₀ m c else Φ₁ m c) = Φ₁ m c
  rw [Fin.val_last, if_neg (by rw [show cfg0.N = 1 from N_0]; decide)]
theorem phi_succ (c : Dev nD) : (dat m c).Φ t0_0.succ = Φ₁ m c := phi_last m c
theorem owed_succ (c : Dev nD) : (dat m c).owed t0_0.succ = 0 := owed_last m c

theorem owesAt_of (c : Dev nD) (t : Fin (cfg0.N + 1)) (O : CellTallies nD τ sig Unit) (h : (dat m c).owed t = O) :
    ow c O ⊢ ((dat m c).owesAt () t : sProp 𝕄) := by
  unfold ow Dat.owesAt Pipeline.owesWithin Dat.bound; rw [h]
  iintro ⟨%W, HO⟩; iexists W; isplitr; · ipureintro; exact fun _ _ => Or.inl trivial
  iexact HO
theorem owesAt_to (c : Dev nD) (t : Fin (cfg0.N + 1)) (O : CellTallies nD τ sig Unit) (h : (dat m c).owed t = O) :
    ((dat m c).owesAt () t : sProp 𝕄) ⊢ ow c O := by
  unfold ow Dat.owesAt Pipeline.owesWithin; rw [h]
  iintro ⟨%W, -, HO⟩; iexists W; iexact HO

/-! ## What the windows hold -/

/-- The staged `x` is the device's `x`, -/
theorem before_x (c : Dev nD) (d) : (dat m c).before (0 : Fin 3) t0_0 d = X₀ m c := by
  unfold Dat.before
  rw [if_pos (fetch0_0 _)]
  funext i
  show V₁ m c (Proc.devRef .tc main_arg0) _ = _
  rw [V₁_x]
  refine congrArg (X₀ m c) (funext fun a => ?_)
  match a with
  | 0 => exact Fin.ext (by show 0 * 8192 + 1 * (i 0).val = (i 0).val; omega)
  | 1 => exact Fin.ext (by show 0 * 512 + 1 * (i 1).val = (i 1).val; omega)
/-- the staged table the table, -/
theorem before_t (c : Dev nD) (d) : (dat m c).before (1 : Fin 3) t0_0 d = tbl (F := F) := by
  unfold Dat.before
  rw [if_pos (fetch0_1 _)]
  funext i
  show V₁ m c (Proc.devRef .tc main_c) _ = _
  rw [V₁_t]
  refine congrArg (tbl (F := F)) (funext fun a => ?_)
  match a with
  | 0 => exact Fin.ext (by show 0 * 16 + 1 * (i 0).val = (i 0).val; omega)
  | 1 => exact Fin.ext (by show 0 * 15 + 1 * (i 1).val = (i 1).val; omega)
/-- and the written result is the body's. -/
theorem arr_out (c : Dev nD) : (dat m c).arrAt (2 : Fin 3) cfg0.N = res (X₀ m) (W₀ m) c := by
  refine (dat m c).arrAt_eq_of_after_last (2 : Fin 3) t0_0 (by decide +kernel) _ fun j => ?_
  rfl

/-- A whole buffer owned is its points-to. -/
theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = ((Memref.whole b).view.loc (c : Thread nD τ) ↦{fullShare} f) := by
  unfold owns; simp only [Memref.view_whole, View.read_whole, View.set_whole]
  refine eq_of_both ?_ ?_
  · iintro ⟨%g, %h, H⟩; subst h; iexact H
  · iintro H; iexists f; isplitr; · ipureintro; rfl
    iexact H

/-! ## The one point -/

/-- The windows and what is held beside them are what the body starts from; -/
theorem point_pre (c : Dev nD) :
    iprop(Φ₀ m c ∗ (dat m c).owesAt () t0_0.castSucc
      ∗ (∃ d, owns (c : Thread nD τ) xM fullShare ((dat m c).before (0 : Fin 3) t0_0 d))
      ∗ (∃ d, owns (c : Thread nD τ) tM fullShare ((dat m c).before (1 : Fin 3) t0_0 d))
      ∗ (∃ d, owns (c : Thread nD τ) oM fullShare ((dat m c).before (2 : Fin 3) t0_0 d)))
      ⊢ iprop(bodyPre (X₀ m) (W₀ m) c ∗ ∃ r, prngReg c r) := by
  unfold Φ₀
  iintro ⟨⟨HX, Hp⟩, HO, ⟨%d0, Hx⟩, ⟨%d1, Ht⟩, ⟨%d2, Ho⟩⟩
  ihave Hx := (Entails.of_eq ((congrArg _ (before_x m c d0)).trans (owns_whole c cc0_stg0_0 (X₀ m c)))) $$ Hx
  ihave Ht := (Entails.of_eq ((congrArg _ (before_t m c d1)).trans (owns_whole c cc0_stg1_0 (tbl (F := F))))) $$ Ht
  ihave Ho := (Entails.of_eq (owns_whole c cc0_stg2_0 _)) $$ Ho
  ihave HO := (owesAt_to m c _ _ (owed_first m c)) $$ HO
  isplitr [Hp]
  · iapply (into_body (X₀ m) (W₀ m) c)
    isplitl [HX]; · iexact HX
    isplitl [HO]; · iexact HO
    isplitl [Hx]; · unfold xPts; iexact Hx
    isplitl [Ht]; · unfold tPts; iexact Ht
    unfold outSt; iexists _; iexact Ho
  iexact Hp
/-- and what it ends with is what they hold after it. -/
theorem point_post (c : Dev nD) :
    iprop(bodyPost (X₀ m) (W₀ m) c ∗ ∃ r, prngReg c r)
      ⊢ iprop(Φ₁ m c ∗ (dat m c).owesAt () t0_0.succ
        ∗ owns (c : Thread nD τ) xM fullShare (X₀ m c)
        ∗ owns (c : Thread nD τ) tM fullShare (tbl (F := F))
        ∗ owns (c : Thread nD τ) oM fullShare (res (X₀ m) (W₀ m) c)) := by
  rw [owns_whole, owns_whole, owns_whole]
  unfold Φ₁
  iintro ⟨H, Hp⟩
  ihave H := (out_of_body (X₀ m) (W₀ m) c) $$ H
  icases H with ⟨H, HO, Hx, Ht, Ho⟩
  ihave HO := (owesAt_of m c _ _ (owed_succ m c)) $$ HO
  isplitl [H Hp]
  · isplitl [H] <;> iassumption
  isplitl [HO]; · iexact HO
  unfold xPts tPts outSt
  isplitl [Hx]; · iexact Hx
  isplitl [Ht]; · iexact Ht
  iexact Ho

/-- What the windows and the device hold after the point. -/
def after (c : Dev nD) : sProp 𝕄 :=
  iprop(Φ₁ m c ∗ (dat m c).owesAt () t0_0.succ
    ∗ owns (c : Thread nD τ) xM fullShare (X₀ m c)
    ∗ owns (c : Thread nD τ) tM fullShare (tbl (F := F))
    ∗ owns (c : Thread nD τ) oM fullShare (res (X₀ m) (W₀ m) c))

/-- The body run between the two. -/
theorem point_run (c : Dev nD) {g0 g1 g2 g3 g4 g5} :
    iprop(bodyPre (X₀ m) (W₀ m) c ∗ ∃ r, prngReg c r)
      ⊢ runs c (cc0_body (F := F) xM g0 wM g1 tM g2 oM g3 rM g4 bM g5 cc0_scratch2 cc0_scratch3 cc0_scratch4) (fun _ => after m c) := by
  unfold after
  iintro ⟨H, Hp⟩
  iapply (wp_mono _ _ _ fun _ => point_post m c)
  iapply (wp_frame_r _ _ _)
  isplitl [H]
  · iapply (body_run (X₀ m) (W₀ m) c); iexact H
  iexact Hp

/-- The point's program is the body at the three windows' buffers. -/
theorem body_at (c : Dev nD) (P : sProp 𝕄) {g0 g1 g2 g3 g4 g5} :
    runs c (cc0_body (F := F) xM g0 wM g1 tM g2 oM g3 rM g4 bM g5 cc0_scratch2 cc0_scratch3 cc0_scratch4) (fun _ => P)
      = runs c (bodyAt0 t0_0) (fun _ => P) := by
  refine congrArg (fun p => runs c p (fun _ => P)) ?_
  unfold bodyAt0
  rfl

/-- A run to a weaker end. -/
theorem runs_mono (c : Dev nD) (p : Prog (TpuEff nD τ sig (Elt F) Λ₀ .tc) PUnit) {P Q R : sProp 𝕄}
    (h : R ⊢ runs c p (fun _ => P)) (k : P ⊢ Q) : R ⊢ runs c p (fun _ => Q) :=
  h.trans (wp_mono _ _ _ fun _ => k)

/-- The point's run. -/
theorem point_at (c : Dev nD) : iprop(bodyPre (X₀ m) (W₀ m) c ∗ ∃ r, prngReg c r) ⊢ runs c (bodyAt0 t0_0) (fun _ => after m c) := by
  have h := point_run m c (g0 := hstage0_0 0) (g1 := Memref.isWhole_whole _) (g2 := hstage0_1 0) (g3 := hstage0_2 0) (g4 := Memref.isWhole_whole _) (g5 := Memref.isWhole_whole _)
  generalize after m c = P at h ⊢
  rw [body_at] at h
  exact h

set_option maxRecDepth 4000 in
/-- The body of the region's one point. -/
theorem body_ob (c : Dev nD) : BodyObligation (dat m c) defs₀ 𝒱₀ () Set.univ := fun t => by
  obtain rfl := fin_N0 t
  rw [bigSep_W0, bigSep_W0, phi_first, phi_succ]
  refine (point_pre m c).trans ?_
  have hb : defs₀ (F := F) .tc cfg0.body (cfg0.bodyArgs t0_0 (cfg0.slots t0_0)) = bodyAt0 t0_0 := rfl
  rw [hb]
  have h1 := point_at m c
  clear hb
  generalize bodyAt0 (F := F) t0_0 = p at h1 ⊢
  refine runs_mono c p h1 ?_
  unfold after
  refine sep_mono .rfl (sep_mono .rfl ?_)
  exact sep_mono .rfl (sep_mono .rfl .rfl)

/-! ## The region -/

abbrev Hs : Finset (DevRef τ sig) := {Proc.devRef .tc main_arg1}

theorem held_w (c : Dev nD) (W : Valuation τ sig (Elt F)) (h : W (Proc.devRef .tc main_arg1) = W₀ m c) :
    (StableHlo.held (c : Thread nD τ) Hs W : sProp 𝕄) = wAll (W₀ m) c := by
  unfold StableHlo.held wAll
  rw [bigSep_singleton, ← h]

theorem scopedRest_eq (c : Dev nD) : (Pipeline.scopedRest (Ix := Unit) (Name := ℕ) (U := UU) (Lvl := ℕ) (Val := Elt F) (Pipeline.pin (pcfgs (F := F)) adm 0).spec c : sProp 𝕄)
    = iprop(rAny (F := F) c ∗ bAny (F := F) c) := scopedRest0_eq c

theorem hin (c : Dev nD) : iprop(Pipeline.scopedRest (Pipeline.pin (pcfgs (F := F)) adm 0).spec c ∗ (∃ r, prngReg c r)
      ∗ StableHlo.held (c.tc : Thread nD τ) Hs (V₁ m c) ∗ Xk (X₀ m) c) ⊢ (pdats m 0 c).Φ 0 := by
  rw [show (pdats m 0 c).Φ 0 = Φ₀ m c from phi_zero m c, scopedRest_eq, held_w m c (V₁ m c) (V₁_w m c)]
  unfold Φ₀
  iintro ⟨⟨Hr, Hb⟩, Hp, Hw, HX⟩
  iframe

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) Hs (V₂ m c) ∗ Pipeline.ownSems0 osem c ∗ semVal (barCell c) 0) := by
  rw [show (pdats m 0 c).Φ (Fin.last _) = Φ₁ m c from phi_last m c, scopedRest_eq, held_w m c (V₂ m c) (V₂_w m c), ownSems0_eq]
  unfold Φ₁
  iintro ⟨⟨Hv, Ho, Hw, Hr, Hb⟩, Hp⟩
  iframe

theorem share_eq (c : Dev nD) (w : Fin cfg0.W) : (pdats m 0 c).share w = fullShare := by unfold Dat.share; split <;> rfl

theorem O₀_pos {c : Dev nD} {g : GSem nD τ sig} {u : Unit} (h : 0 < O₀ c g u) : (∃ j, g = recvCell (up c j) j) ∨ ∃ j, g = barCell (up c j) := by
  by_cases hr : 0 < owR c 0 g u
  · exact Or.inl (owR_pos hr)
  · refine Or.inr (owB_pos (n := 0) (u := u) ?_)
    have : O₀ c g u = owR c 0 g u + owB c 0 g u := rfl
    omega

/-- What is owed is owed above the level of the staging. -/
theorem cut (c : Dev nD) (t : Fin (cfg0.N + 1)) (g : GSem nD τ sig) (i : Unit) (h : 0 < (dat m c).owed t g i) : i ∈ L g ∧ (0 : ℕ) < lv g i := by
  rw [show (dat m c).owed t = if t.val = 0 then O₀ c else 0 from rfl] at h
  split at h
  · rcases O₀_pos h with ⟨j, rfl⟩ | ⟨j, rfl⟩
    · exact ⟨by rw [L_tc]; exact Finset.mem_singleton_self _, by rw [lv_recv]; decide⟩
    · exact ⟨by rw [L_tc]; exact Finset.mem_singleton_self _, Nat.one_pos⟩
  · exact absurd h (Nat.lt_irrefl 0)

theorem stage_low (c : Dev nD) (w : Fin 3) (s) : lv ((c : Thread nD τ), .dma ((spec0 w).sem s)) () ≤ 0 := by
  show (if 20 ≤ ((spec0 w).sem s).val ∧ ((spec0 w).sem s).val < 35 then 2 else 0) ≤ 0
  rw [if_neg (by revert w s; decide)]

theorem arr_end (c : Dev nD) (w : Fin 3) : (dat m c).arrAt w cfg0.N = V₂ m c (Proc.devRef .tc (Pipeline.arrRef spec0 w)) := by
  match w with
  | 0 => exact ((dat m c).arrAt_in (0 : Fin 3) rfl _).trans ((V₁_x m c).trans (V₂_x m c).symm)
  | 1 => exact ((dat m c).arrAt_in (1 : Fin 3) rfl _).trans ((V₁_t m c).trans (V₂_t m c).symm)
  | 2 => exact (arr_out m c).trans (V₂_o m c).symm

set_option backward.isDefEq.respectTransparency.types false in
/-- The call as a region whose devices talk. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    Hs Hs (Finset.Subset.refl _) launch0.toP rfl (fun c => (body_ob m c).loose)
    (fun _ => 0) O₀ (fun c => (owed_zero m c).trans (zero_add _).symm) (owed_last m) (fun _ => rfl) (share_eq m)
    (V₁ m) (V₂ m) (fun _ b hb => absurd hb (by rw [Finset.sdiff_self]; exact Finset.notMem_empty b))
    (Tk (X₀ m)) (fun c => semVal (barCell c) 0) (Xk (X₀ m)) (fun c => semVal (barCell c) 0) (hopen (X₀ m)) (hin m) (hout m)
    (fun c => by iintro H; imodintro; iexact H)
    (fun _ => 0)
    ⟨fun c w s => by rw [L_tc]; exact Finset.mem_singleton_self _, fun c w s => stage_low c w s, fun c t g i h => cut m c t g i h⟩
    (fun _ => iprop(emp))
    (fun _ _ => rfl) (arr_end m)

end Cert.Exchange

end
-- ==== Proof.Launch.lean ====
/-
  The run of the whole program: the host part, the call, and what the memory holds at the end.
-/
module

public import proofs.«01_k».proof.Proof.Deal
public import proofs.«01_k».proof.Proof.Region

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The buffers a device holds -/

/-- The four arrays of the program. -/
abbrev bufs : Finset (DevRef τ sig) := (StableHlo.tcRefs τ sig).filter fun b => ¬ b.isScoped

theorem held_launch (c : Dev nD) (W : Valuation τ sig (Elt F)) :
    (unscopedBufs c (fun b => W (Proc.devRef .tc b)) : sProp 𝕄) = StableHlo.held (c : Thread nD τ) bufs W := by
  unfold unscopedBufs StableHlo.held bufs StableHlo.tcRefs
  rw [Finset.filter_map, BI.bigSep_map]
  rfl

theorem held_each (c : Dev nD) (W : Valuation τ sig (Elt F)) :
    (StableHlo.held (c : Thread nD τ) bufs W : sProp 𝕄) =
      iprop(((Memref.whole main_arg0).view.loc (c : Thread nD τ) ↦{fullShare} W (Proc.devRef .tc main_arg0))
        ∗ ((Memref.whole main_arg1).view.loc (c : Thread nD τ) ↦{fullShare} W (Proc.devRef .tc main_arg1))
        ∗ ((Memref.whole main_c).view.loc (c : Thread nD τ) ↦{fullShare} W (Proc.devRef .tc main_c))
        ∗ ((Memref.whole main_v1).view.loc (c : Thread nD τ) ↦{fullShare} W (Proc.devRef .tc main_v1))) := by
  unfold StableHlo.held
  rw [bigSep_eq_bigSepL_of_eq [Proc.devRef .tc main_arg0, Proc.devRef .tc main_arg1, Proc.devRef .tc main_c, Proc.devRef .tc main_v1]
    (by decide +kernel) (by decide +kernel)]
  rfl

theorem arr_refs : Pipeline.arrRefs (τ := τ) (pcfgs (F := F) 0).spec = {Proc.devRef .tc main_arg0, Proc.devRef .tc main_c, Proc.devRef .tc main_v1} := by
  show Pipeline.arrRefs (τ := τ) spec0 = _
  decide +kernel

/-- They are the call's windows' arrays and the one the body reads itself. -/
theorem held_split (c : Dev nD) (W : Valuation τ sig (Elt F)) :
    (StableHlo.held (c : Thread nD τ) bufs W : sProp 𝕄)
      = iprop(StableHlo.held (c : Thread nD τ) (Pipeline.arrRefs (τ := τ) (pcfgs (F := F) 0).spec) W ∗ StableHlo.held (c : Thread nD τ) Hs W) := by
  rw [arr_refs]
  unfold StableHlo.held
  rw [show (bufs : Finset (DevRef τ sig)) = {Proc.devRef .tc main_arg0, Proc.devRef .tc main_c, Proc.devRef .tc main_v1} ∪ Hs from by decide +kernel,
    bigSep_union (by decide +kernel)]
  rfl

theorem held_bar (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-! ## The segments -/

/-- What a device holds beside its buffers until the call. -/
def start (c : Dev nD) : sProp 𝕄 := iprop((Tk (X₀ m) c ∗ ∃ r, prngReg c r) ∗ ∃ W, owes (c : Thread nD τ) (O₀ c) W)

theorem ops_in : ∀ op ∈ (hostOps0 : List (HloOp τ sig (Elt F))), op.bufs ⊆ bufs := fun op h => by
  simp only [hostOps0, List.mem_singleton] at h; subst h
  show ({Proc.devRef .tc main_c} : Finset (DevRef τ sig)) ⊆ bufs
  decide +kernel
theorem ops_new : ∀ op ∈ (hostOps0 : List (HloOp τ sig (Elt F))), op.fresh = ∅ := List.forall_iff_forall_mem.mp hostOps0_fresh

/-- The host part: the table. -/
def host : Pipeline.HostSeg (Name := ℕ) (U := UU) (pcfgs (F := F)) defs₀ 𝒱₀ L lv :=
  Pipeline.HostSeg.ofOps _ _ _ _ _ bufs hostOps0 ops_in ops_new (V₀ m) (start m)

theorem host_to_call (c : Dev nD) : iprop(StableHlo.held (c : Thread nD τ) bufs (V₁ m c) ∗ start m c) ⊢ (reg m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) Hs (V₁ m c) ∗ emp) ∗ Tk (X₀ m) c ∗ ∃ Wd, owes (c : Thread nD τ) (0 + O₀ c) Wd)
  rw [held_split, zero_add]
  unfold start
  iintro ⟨⟨Ha, Hw⟩, ⟨HT, Hp⟩, HO⟩
  isplitl [Ha]; · iexact Ha
  isplitl [Hp]; · iexact Hp
  isplitl [Hw]
  · isplitl [Hw]; · iexact Hw
    iempintro
  isplitl [HT] <;> iassumption

/-- What a device ends with. -/
def final (c : Dev nD) : sProp 𝕄 := iprop(StableHlo.held (c : Thread nD τ) bufs (V₂ m c) ∗ semVal (barCell c) 0)

theorem call_to_end (c : Dev nD) : (reg m).post c ⊢ iprop(final m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) Hs (V₂ m c) ∗ emp) ∗ semVal (barCell c) 0 ∗ ∃ Wd, owes (c : Thread nD τ) (0 : CellTallies nD τ sig Unit) Wd) ⊢ _
  unfold final
  rw [held_split]
  iintro ⟨Ha, -, ⟨Hw, -⟩, Hb, HO⟩
  isplitr [HO]
  · isplitr [Hb]
    · isplitl [Ha] <;> iassumption
    iexact Hb
  iexact HO

def segs : List (Pipeline.Seg (pcfgs (F := F)) adm (pdats m) () defs₀ 𝒱₀ L lv) := [.host (host m), .region (reg m)]

/-- The program is the host part, then the call. -/
theorem main_eq (c : Dev nD) : main (F := F) c = Pipeline.Seg.run (segs m) :=
  main_segs adm (pdats m) () 𝒱₀ L lv (host m) (reg m) rfl c

/-! ## The launch -/

/-- The launch's ghost state: the staging's, the protocol's, and no counter yet. -/
def u₀ : UU :=
  (initOf (Pipeline.cells (Pipeline.pin (pcfgs (F := F)) adm) cellOf_inj) (Pipeline.launchToks (Pipeline.pin (pcfgs (F := F)) adm) cellOf_inj),
    (launchOf barCells copyCells allToks, (1 : Counters)))

/-- The protocol's part, which the first device holds until it is dealt. -/
abbrev pool : sProp 𝕄 := BI.own (ER (launchOf barCells copyCells allToks))
def G (c : Dev nD) : sProp 𝕄 := if c = 0 then pool (F := F) else iprop(emp)
theorem G_all : bigSep Finset.univ (G (F := F)) = pool (F := F) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-- A device's part of the launch that is not dealt. -/
def own₀ (c : Dev nD) : sProp 𝕄 :=
  iprop(StableHlo.held (c : Thread nD τ) bufs (V₀ m c) ∗ creds (F := F) c ∗ owes (c : Thread nD τ) (O₀ c) ∅ ∗ ∃ r, prngReg c r)

abbrev first (c : Dev nD) : sProp 𝕄 := iprop(StableHlo.held (c : Thread nD τ) bufs (V₀ m c) ∗ start m c)

theorem first_intro (κ : GSem nD τ sig → ℕ) (c : Dev nD) :
    iprop(records (X₀ m) κ ∗ (atPos ER (barCell c) 0 ∅ 0 ∗ openToks (F := F) c ∗ payToks (F := F) c) ∗ own₀ m c) ⊢ first m c := by
  unfold own₀ first start
  iintro ⟨#HR, ⟨Hat, Ho, Ht⟩, Hh, Hc, HO, Hp⟩
  isplitl [Hh]; · iexact Hh
  isplitr [HO]
  · isplitr [Hp]
    · iapply (tk_intro (X₀ m) κ c)
      isplitr; · iexact HR
      isplitl [Hat]; · iexact Hat
      isplitl [Ho]; · iexact Ho
      isplitl [Ht] <;> iassumption
    iexact Hp
  iexists ∅; iexact HO

/-- What the launch gives one device. -/
abbrev given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G (F := F) c)

theorem given_split (c : Dev nD) : given m ρ c ⊢ iprop(own₀ m c ∗ semVal (barCell c) 0 ∗ G (F := F) c) := by
  unfold given own₀
  rw [show unscopedBufs c (fun b => m ((c : Thread nD τ).loc b)) = StableHlo.held (c : Thread nD τ) bufs (V₀ m c) from held_launch c (V₀ m c), held_bar]
  iintro ⟨Hh, Hb, HO, Hc, Hp, HG⟩
  ihave Hc := (creds_dealt (F := F) c) $$ Hc
  isplitr [Hb HG]
  · isplitl [Hh]; · iexact Hh
    isplitl [Hc]; · iexact Hc
    isplitl [HO]; · iexact HO
    iexists (ρ c); iexact Hp
  isplitl [Hb] <;> iassumption

/-- The launch funds every cell and deals everything out. -/
theorem init : iprop((bigSep Finset.univ fun c : Dev nD => given m ρ c) ∗ levAts L lv) ⊢ (|={Set.univ}=> bigSep Finset.univ (first m) : sProp 𝕄) := by
  iintro ⟨H, -⟩
  ihave H := (show (bigSep Finset.univ fun c : Dev nD => given m ρ c)
      ⊢ iprop(bigSep Finset.univ (own₀ m) ∗ (bigSep Finset.univ fun c => semVal (barCell c) 0) ∗ bigSep Finset.univ (G (F := F))) from by
    rw [← bigSep_sep', ← bigSep_sep']; exact bigSep_mono fun c _ => given_split m ρ c) $$ H
  icases H with ⟨HB, Hv, HG⟩
  ihave Hu := (Entails.of_eq (G_all (F := F))) $$ HG
  ihave Hv := (show (bigSep Finset.univ fun c : Dev nD => (semVal (barCell c) 0 : sProp 𝕄)) ⊢ bigSep barCells fun g => semVal g 0 from
    Entails.of_eq (bigSep_map (s := Finset.univ) barEmb (Φ := fun g : GSem nD τ sig => (semVal g 0 : sProp 𝕄))).symm) $$ Hv
  imod (Rounds.fund_launch ER (rd (X₀ m)) disjoint_cells (fun g _ h => h) allToks) $$ [Hv Hu] with ⟨%κ, -, #Hinv, #Hr, Hat, Hopen, Htok⟩
  · isplitl [Hv]; · iexact Hv
    iexact Hu
  imodintro
  ihave Hat := (show (bigSep barCells fun g => (atPos ER g 0 ∅ 0 : sProp 𝕄)) ⊢ bigSep Finset.univ fun c : Dev nD => atPos ER (barCell c) 0 ∅ 0 from
    Entails.of_eq (bigSep_map (s := Finset.univ) barEmb (Φ := fun g : GSem nD τ sig => (atPos ER g 0 ∅ 0 : sProp 𝕄)))) $$ Hat
  ihave Hopen := (Entails.of_eq (opens_dealt (F := F))) $$ Hopen
  ihave Htok := (Entails.of_eq (toks_dealt (F := F))) $$ Htok
  iapply (bigSep_with_persistent (R := records (X₀ m) κ)
    (Φ := fun c => iprop((atPos ER (barCell c) 0 ∅ 0 ∗ openToks (F := F) c ∗ payToks (F := F) c) ∗ own₀ m c)) fun c _ => first_intro m κ c)
  isplitr
  · unfold records
    isplitr; · iexact Hinv
    iexact Hr
  rw [bigSep_sep', bigSep_sep', bigSep_sep']
  isplitr [HB]
  · isplitl [Hat]; · iexact Hat
    isplitl [Hopen] <;> iassumption
  iexact HB

/-! ## The run -/

theorem unscoped_eq : ∀ sm : SemLoc sig, sm.isScoped .tc = false → sm = .reg barS := by decide +kernel

set_option backward.isDefEq.respectTransparency.types false in
/-- From any memory with every counter at zero the program ends on all sixteen devices, with `x` and `w` as they were, every
    device's result the one of its body, and every counter at zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = res (X₀ m) (W₀ m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]
      ihave HX := (own_pair_emb _ _ _) $$ HX
      icases HX with ⟨HX, -⟩
      iexact HX)
    (T₀ := first m) (Tₙ := final m)
    (hch := ⟨fun c => .rfl, fun c => host_to_call m c, fun c => call_to_end m c⟩)
    (hinit := init m ρ)
    (QY := fun c s => (s.mem ((Memref.whole main_arg0).view.loc (c : Thread nD τ)) = X₀ m c
        ∧ s.mem ((Memref.whole main_arg1).view.loc (c : Thread nD τ)) = W₀ m c
        ∧ s.mem ((Memref.whole main_v1).view.loc (c : Thread nD τ)) = res (X₀ m) (W₀ m) c) ∧ s.sem (barCell c) = 0)
    (hfin := fun c s' => by
      unfold final; rw [held_each, V₂_x, V₂_w, V₂_o]
      iintro ⟨⟨⟨Hx, Hw, -, Ho⟩, Hb⟩, HSI⟩
      icombine HSI Hx gives %hx
      icombine HSI Hw gives %hw
      icombine HSI Ho gives %ho
      icombine HSI Hb gives %hb
      imodintro
      isplitr
      · ipureintro
        exact ⟨⟨Buf.eq_of_forall_mem_univ hx, Buf.eq_of_forall_mem_univ hw, Buf.eq_of_forall_mem_univ ho⟩, by simpa using hb⟩
      iexact HSI)
    (hQ := fun s h hs => ⟨fun c => (h c).1,
      sem_eq_zero hs fun c sm hsm => by
        obtain rfl := unscoped_eq sm hsm
        exact (h c).2⟩)

end Cert.Exchange

end
-- ==== Proof.Value.lean ====
/-
  At the exact values: every device's result is its block of the whole product cut off below at zero.
-/
module

public import proofs.«01_k».proof.Proof.Launch
public import proofs.«01_k».proof.Proof.Gen.ReferenceIdeal.Run
public import Idealize.ShloMosaic.Lib.ValueIdx
public import Idealize.ShloMosaic.Lib.MatmulPlain
public import Idealize.ShloMosaic.Lib.StackMember
public import Idealize.ShloMosaic.Lib.Layout

@[expose] public section

noncomputable section

namespace Cert.Exchange

open Cert.KernelIdeal Cert.KernelIdeal.Gen
open Idealize.ShloMosaic Idealize.ShloMosaic.TcCoe Idealize.SL.Sem

variable (X : Dev nD → (S8192x512.Idx → Elt Ideal .bf16)) (Wm : Dev nD → (S8192x4096.Idx → Elt Ideal .f32)) (c : Dev nD)

/-! ## One block product -/

/-- Row `r` of device `s`'s block for `c`, times column `n` of block `s` of `w`. -/
def term (s : Fin 16) (r : Fin 512) (n : Fin 4096) : EReal :=
  ∑ k : Fin 512, (X s (ix2 (n0 := 8192) (n1 := 512) (blk c r) k) : EReal) * Wm c (ix2 (n0 := 8192) (n1 := 4096) (blk s k) n)

theorem dot_plain : dot_S512x512_S512x4096_S512x4096_1_0_0_1_n_n = DotDims.plain 512 512 4096 := rfl

/-- The product of slot `k` and the block of `w` it meets, into zero. -/
theorem product_at (k : Fin 16) (s : Fin 16) (hs : src c k = s) (r : Fin 512) (n : Fin 4096) :
    matmul (F := Ideal) (φ₁ := .bf16) (φ₂ := .bf16) dot_S512x512_S512x4096_S512x4096_1_0_0_1_n_n none
      (shapeCast S512x512 (sv X c k) shapeCasts_S1x512x512_S512x512)
      (truncf .bf16 (shapeCast S512x4096 (wv Wm c s) shapeCasts_S1x512x4096_S512x4096) bitsLt_bf16_f32)
      (constant S512x4096 .f32 0x00000000#32) (ix2 r n) = term X Wm c s r n := by
  subst hs
  rw [dot_plain]
  refine (Ideal.matmul_plain_apply none _ _ _ r n).trans ?_
  rw [show (constant S512x4096 .f32 0x00000000#32 : FVec Ideal S512x4096 .f32) (ValueIdx.ix2 r n) = 0 from Ideal.ofBits_zero_f32, zero_add]
  refine Finset.sum_congr rfl fun q _ => congrArg₂ (fun a b : EReal => a * b) ?_ ?_
  · exact shapeCast_dropUnit_apply (n := 2) ![512, 512] (sv X c k) _ (ix2 r q)
  · exact shapeCast_dropUnit_apply (n := 2) ![512, 4096] (wv Wm c (src c k)) _ (ix2 q n)

/-! ## The sum of them -/

theorem acc_at (r : Fin 512) (n : Fin 4096) : ∀ t : ℕ, (ht : t ≤ 15) →
    acc X Wm c t (ix2 r n) = term X Wm c c r n + ∑ i : Fin t, term X Wm c (dn c (ord c (i.castLE ht))) r n
  | 0, _ => by
    rw [Fin.sum_univ_zero, add_zero]
    exact product_at X Wm c 0 c (src_zero c) r n
  | t + 1, ht => by
    have ih := acc_at r n t (by omega)
    rw [show acc X Wm c (t + 1) = k0_pay3 (wv Wm c (dn c (ord c ⟨t, ht⟩))) (sv X c (ord c ⟨t, ht⟩).succ) (acc X Wm c t) from (acc_step X Wm c ⟨t, ht⟩).symm]
    rw [Fin.sum_univ_castSucc, ← add_assoc]
    refine congrArg₂ (fun a b : EReal => a + b) ?_ (product_at X Wm c _ _ (src_succ c _) r n)
    rw [shapeCast_self]
    exact ih

/-- The slots' sources are all the devices. -/
def srcE : Fin 16 ≃ Dev nD :=
  Equiv.ofBijective (src c) (Finite.injective_iff_bijective.mp (by revert c; decide +kernel))

/-- The result at row `r` and column `n`: all sixteen products, in any order, cut off below at zero. -/
theorem res_at (r : Fin 512) (n : Fin 4096) :
    res X Wm c (ix2 r n) = max (∑ s : Fin 16, term X Wm c s r n) (Ideal.ofBits .f32 0x00000000#32) := by
  have hs : ∑ s : Fin 16, term X Wm c s r n = term X Wm c c r n + ∑ i : Fin 15, term X Wm c (dn c (ord c i)) r n := by
    rw [← Equiv.sum_comp (srcE c) (fun s => term X Wm c s r n), Fin.sum_univ_succ]
    refine congrArg₂ (fun a b : EReal => a + b) (congrArg (fun s => term X Wm c s r n) (src_zero c)) ?_
    rw [← Equiv.sum_comp (ordE c)]
    exact Finset.sum_congr rfl fun i _ => congrArg (fun s => term X Wm c s r n) (src_succ c (ord c i))
  rw [hs]
  refine congrArg (fun a : EReal => max a _) ?_
  rw [Fin.sum_univ_castSucc, ← add_assoc]
  refine congrArg₂ (fun a b : EReal => a + b) ?_ (product_at X Wm c _ _ (src_succ c _) r n)
  rw [shapeCast_self]
  exact acc_at X Wm c r n 14 (by decide)

/-! ## The whole product -/

variable (Xg : (⟨2, ![8192, 8192]⟩ : Shape).Idx → Elt Ideal .bf16) (Wg : (⟨2, ![8192, 4096]⟩ : Shape).Idx → Elt Ideal .f32)

/-- The reference's result. -/
abbrev whole : (⟨2, ![8192, 4096]⟩ : Shape).Idx → Elt Ideal .f32 :=
  maximumf (F := Ideal) (Host.dotGeneral (φ₁ := .bf16) (φ₂ := .f32) Cert.ReferenceIdeal.dot_S8192x8192_S8192x4096_S8192x4096_1_0_0_1_n_n none Xg Wg)
    (broadcastInDim Cert.ReferenceIdeal.S8192x4096 ![] Cert.ReferenceIdeal.Facts₀.bcast_S_S8192x4096 (constant Cert.ReferenceIdeal.S_ .f32 0x00000000#32))

theorem ref_plain : Cert.ReferenceIdeal.dot_S8192x8192_S8192x4096_S8192x4096_1_0_0_1_n_n = DotDims.plain 8192 8192 4096 := rfl

theorem whole_at (i : Fin 8192) (n : Fin 4096) :
    whole Xg Wg (ix2 i n) = max (∑ k : Fin 8192, (Xg (ix2 i k) : EReal) * Wg (ix2 k n)) (Ideal.ofBits .f32 0x00000000#32) := by
  refine (ValueIdx.maximumf_apply _ _ _).trans (congrArg₂ (fun a b : EReal => max a b) ?_ rfl)
  rw [ref_plain]
  exact StackMember.dotGeneral_plain_apply none Xg Wg i n

/-- A sum over all rows of `w`, by blocks. -/
theorem sum_blocks (f : Fin 8192 → EReal) : ∑ k : Fin 8192, f k = ∑ s : Fin 16, ∑ q : Fin 512, f (blk s q) := by
  rw [← Equiv.sum_comp (finProdFinEquiv : Fin 16 × Fin 512 ≃ Fin 8192) f, Fintype.sum_prod_type]
  refine Finset.sum_congr rfl fun s _ => Finset.sum_congr rfl fun q _ => congrArg f (Fin.ext ?_)
  show q.val + 512 * s.val = 512 * s.val + q.val
  omega

/-- Where every device's `x` is its block of columns of one array and its `w` the other whole, its result is its block of rows of
    the reference's. -/
theorem res_block (hX : ∀ s : Dev nD, X s = Layout.block ⟨2, ![8192, 512]⟩ ⟨2, ![8192, 8192]⟩ 1 16 s Xg) (hW : Wm c = Wg) :
    res X Wm c = Layout.block ⟨2, ![512, 4096]⟩ ⟨2, ![8192, 4096]⟩ 0 16 c (whole Xg Wg) := by
  funext i
  obtain ⟨r, n, rfl⟩ : ∃ (r : Fin 512) (n : Fin 4096), i = ix2 r n := ⟨i 0, i 1, eq_ix2 i⟩
  rw [res_at, Layout.block_apply]
  refine Eq.trans ?_ (congrArg (whole Xg Wg) (show ix2 (n0 := 8192) (n1 := 4096) (blk c r) n = _ from ?_))
  · rw [whole_at, sum_blocks]
    refine congrArg (fun a : EReal => max a _) (Finset.sum_congr rfl fun s _ => Finset.sum_congr rfl fun q _ => ?_)
    rw [hX, hW, Layout.block_apply]
    refine congrArg (fun a : EReal => a * _) (congrArg Xg ?_)
    funext a; apply Fin.ext
    match a with
    | 0 => rfl
    | 1 => show s.val * 512 + q.val = 512 * s.val + q.val; omega
  · funext a; apply Fin.ext
    match a with
    | 0 => show 512 * c.val + r.val = c.val * 512 + r.val; omega
    | 1 => rfl

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel has the text of its idealization, for no operation was replaced, so at the machine's float values the two run
    alike from any state. -/
theorem run_same (m : (ℓ : Loc nD τ sig) → Buf (Elt Bits) ℓ) (ρ : Dev nD → PrngReg) :
    θ_run (Cert.Kernel.defs (F := Bits)) (onTc (Cert.Kernel.main (F := Bits))) ⟨m, fun _ => 0, ρ⟩
      = θ_run (Cert.KernelIdeal.defs (F := Bits)) (onTc (Cert.KernelIdeal.main (F := Bits))) ⟨m, fun _ => 0, ρ⟩ := by sl_kernel_rfl

/-- The kernel at its float values ends on every device with its arguments unchanged and every counter at zero: the run over
    any float values, at the machine's. -/
theorem frame_kernel : Cert.quiescent_Kernel := fun m ρ _ => by
  rw [run_same m ρ]
  exact (θ_run Cert.KernelIdeal.defs _ _).mono (fun _ h => ⟨fun c => ⟨(h.1 c).1, (h.1 c).2.1⟩, h.2⟩)
    (Cert.Exchange.run_main (F := Bits) m ρ)

/-- The kernel at the exact values, the same. -/
theorem frame_ideal : Cert.quiescent_KernelIdeal := fun m ρ _ =>
  (θ_run Cert.KernelIdeal.defs _ _).mono (fun _ h => ⟨fun c => ⟨(h.1 c).1, (h.1 c).2.1⟩, h.2⟩) (Cert.Exchange.run_main (F := Ideal) m ρ)

/-- The reference ends with its arguments unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At the exact values every device ends with its block of rows of the reference's result: the whole product, cut off below at
    zero. -/
theorem algebraic : Cert.algebraic_KernelIdeal_ReferenceIdeal := fun m ρ m' ρ' _ hm =>
  ⟨_,
    (θ_run Cert.KernelIdeal.defs _ _).mono (fun _ h c => ⟨(h.1 c).2.2.trans
        (Cert.Exchange.res_block _ _ c _ _ (fun s => (hm s).1) (hm c).2), (h.1 c).1, (h.1 c).2.1⟩)
      (Cert.Exchange.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
